-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_routed := hPre_routed)
-- ==== Pre_finite.lean ====
abbrev S4x4096x512 : Shape := ⟨3, ![4, 4096, 512]⟩
abbrev S4x256x512 : Shape := ⟨3, ![4, 256, 512]⟩
abbrev S8x8x64x512 : Shape := ⟨4, ![8, 8, 64, 512]⟩
abbrev S_ : Shape := ⟨0, ![]⟩

class Facts : Prop where
  bitsLt_bf16_f32 : FTy.bits .bf16 < FTy.bits .f32
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S4x256x512 : S_.BroadcastsInDim S4x256x512 (![] : Fin 0 → Fin S4x256x512.rank)
  reducesTo_S4x256x512_S_d0_1_2 : S4x256x512.ReducesTo [0, 1, 2] S_
  bcast_S_S8x8x64x512 : S_.BroadcastsInDim S8x8x64x512 (![] : Fin 0 → Fin S8x8x64x512.rank)
  reducesTo_S8x8x64x512_S_d0_1_2_3 : S8x8x64x512.ReducesTo [0, 1, 2, 3] S_

variable [Facts]

def fn_part1 {F : FTy → Type} [FloatOps F] (main_arg5 : FVec F S8x8x64x512 .f32) (main_v16 : IVec S_ 1) (main_cst_4 : FVec F S_ .f32) : IVec S_ 1 :=
  let main_v17 : FVec F S8x8x64x512 .f32 := broadcastInDim S8x8x64x512 ![] bcast_S_S8x8x64x512 main_cst_4
  let main_v18 : IVec S8x8x64x512 1 := cmpf .olt main_arg5 main_v17
  let main_c_5 : IVec S_ 1 := constantI S_ 1 1#1
  let main_v19 : IVec S_ 1 := (fun x v => Host.reduce IntOp.andi x v reducesTo_S8x8x64x512_S_d0_1_2_3 h_S_) main_v18 main_c_5
  let main_v20 : IVec S_ 1 := andi main_v16 main_v19
  main_v20

def fn {F : FTy → Type} [FloatOps F] (main_arg0 : FVec F S4x4096x512 .bf16) (main_arg1 : FVec F S4x4096x512 .bf16) (main_arg2 : FVec F S4x4096x512 .bf16) (main_arg3 : FVec F S4x256x512 .bf16) (main_arg4 : FVec F S4x256x512 .bf16) (main_arg5 : FVec F S8x8x64x512 .f32) : IVec S_ 1 :=
  let main_v0 : FVec F S4x4096x512 .f32 := (extf .f32 · bitsLt_bf16_f32) main_arg0
  let main_v1 : FVec F S4x4096x512 .f32 := Host.absf main_v0
  let main_cst : FVec F S_ .f32 := constant S_ .f32 0x7F800000#32
  let main_v2 : FVec F S4x4096x512 .f32 := broadcastInDim S4x4096x512 ![] bcast_S_S4x4096x512 main_cst
  let main_v3 : IVec S4x4096x512 1 := cmpf .olt main_v1 main_v2
  let main_c : IVec S_ 1 := constantI S_ 1 1#1
  let main_v4 : IVec S_ 1 := (fun x v => Host.reduce IntOp.andi x v reducesTo_S4x4096x512_S_d0_1_2 h_S_) main_v3 main_c
  let main_v5 : FVec F S4x4096x512 .f32 := (extf .f32 · bitsLt_bf16_f32) main_arg1
  let main_v6 : FVec F S4x4096x512 .f32 := Host.absf main_v5
  let main_cst_0 : FVec F S_ .f32 := constant S_ .f32 0x7F800000#32
  let main_v7 : FVec F S4x4096x512 .f32 := broadcastInDim S4x4096x512 ![] bcast_S_S4x4096x512 main_cst_0
  let main_v8 : IVec S4x4096x512 1 := cmpf .olt main_v6 main_v7
  let main_c_1 : IVec S_ 1 := constantI S_ 1 1#1
  let main_v9 : IVec S_ 1 := (fun x v => Host.reduce IntOp.andi x v reducesTo_S4x4096x512_S_d0_1_2 h_S_) main_v8 main_c_1
  let main_v10 : IVec S_ 1 := andi main_v4 main_v9
  let main_v11 : FVec F S4x256x512 .f32 := (extf .f32 · bitsLt_bf16_f32) main_arg3
  let main_v12 : FVec F S4x256x512 .f32 := Host.absf main_v11
  let main_cst_2 : FVec F S_ .f32 := constant S_ .f32 0x7F800000#32
  let main_v13 : FVec F S4x256x512 .f32 := broadcastInDim S4x256x512 ![] bcast_S_S4x256x512 main_cst_2
  let main_v14 : IVec S4x256x512 1 := cmpf .olt main_v12 main_v13
  let main_c_3 : IVec S_ 1 := constantI S_ 1 1#1
  let main_v15 : IVec S_ 1 := (fun x v => Host.reduce IntOp.andi x v reducesTo_S4x256x512_S_d0_1_2 h_S_) main_v14 main_c_3
  let main_v16 : IVec S_ 1 := andi main_v10 main_v15
  let main_cst_4 : FVec F S_ .f32 := constant S_ .f32 0x7F800000#32
  fn_part1 (F := F) main_arg5 main_v16 main_cst_4
-- ==== Pre_routed.lean ====
abbrev S384x64x1024 : Shape := ⟨3, ![384, 64, 1024]⟩
abbrev S384x64x128 : Shape := ⟨3, ![384, 64, 128]⟩
abbrev S52 : Shape := ⟨1, ![52]⟩
abbrev S416 : Shape := ⟨1, ![416]⟩
abbrev S64x1024x256 : Shape := ⟨3, ![64, 1024, 256]⟩
abbrev S64x256x1024 : Shape := ⟨3, ![64, 256, 1024]⟩
abbrev S_ : Shape := ⟨0, ![]⟩
abbrev S1 : Shape := ⟨1, ![1]⟩
abbrev S51 : Shape := ⟨1, ![51]⟩

class Facts : Prop where
  bcast_S_S52 : S_.BroadcastsInDim S52 (![] : Fin 0 → Fin S52.rank)
  reducesTo_S52_S_d0 : S52.ReducesTo [0] S_
  h_S_ : 0 < S_.numel
  bcast_S_S416 : S_.BroadcastsInDim S416 (![] : Fin 0 → Fin S416.rank)
  reducesTo_S416_S_d0 : S416.ReducesTo [0] S_
  slices_S52_S1_0 : S52.Slices ![0] S1
  shapeCasts_S1_S_ : S1.ShapeCasts S_
  slices_S52_S51_1 : S52.Slices ![1] S51
  bcast_S_S51 : S_.BroadcastsInDim S51 (![] : Fin 0 → Fin S51.rank)
  slices_S52_S51_0 : S52.Slices ![0] S51
  reducesTo_S51_S_d0 : S51.ReducesTo [0] S_

variable [Facts]

def fn_part1 {F : FTy → Type} [FloatOps F] (main_arg2 : IVec S52 32) (main_arg4 : IVec S52 32) (main_v9 : IVec S_ 1) (main_v15 : IVec S_ 1) : IVec S_ 1 :=
  let main_v16 : IVec S_ 1 := andi main_v9 main_v15
  let main_v17 : IVec S1 32 := (extractStridedSlice S1 ![0] · slices_S52_S1_0) main_arg4
  let main_v18 : IVec S_ 32 := shapeCast S_ main_v17 shapeCasts_S1_S_
  let main_c_7 : IVec S_ 32 := constantI S_ 32 0#32
  let main_v19 : IVec S_ 1 := cmpi .sgt main_v18 main_c_7
  let main_v20 : IVec S_ 1 := andi main_v16 main_v19
  let main_v21 : IVec S51 32 := (extractStridedSlice S51 ![1] · slices_S52_S51_1) main_arg4
  let main_c_8 : IVec S_ 32 := constantI S_ 32 0#32
  let main_v22 : IVec S51 32 := broadcastInDim S51 ![] bcast_S_S51 main_c_8
  let main_v23 : IVec S51 1 := cmpi .sgt main_v21 main_v22
  let main_v24 : IVec S51 32 := (extractStridedSlice S51 ![1] · slices_S52_S51_1) main_arg2
  let main_v25 : IVec S51 32 := (extractStridedSlice S51 ![0] · slices_S52_S51_0) main_arg2
  let main_v26 : IVec S51 1 := cmpi .eq main_v24 main_v25
  let main_v27 : IVec S51 1 := ori main_v23 main_v26
  let main_c_9 : IVec S_ 1 := constantI S_ 1 1#1
  let main_v28 : IVec S_ 1 := (fun x v => Host.reduce IntOp.andi x v reducesTo_S51_S_d0 h_S_) main_v27 main_c_9
  let main_v29 : IVec S_ 1 := andi main_v20 main_v28
  main_v29

def fn {F : FTy → Type} [FloatOps F] (main_arg0 : FVec F S384x64x1024 .bf16) (main_arg1 : FVec F S384x64x128 .f32) (main_arg2 : IVec S52 32) (main_arg3 : IVec S52 32) (main_arg4 : IVec S52 32) (main_arg5 : IVec S416 32) (main_arg6 : FVec F S64x1024x256 .f32) (main_arg7 : FVec F S64x1024x256 .f32) (main_arg8 : FVec F S64x256x1024 .f32) : IVec S_ 1 :=
  let main_c : IVec S_ 32 := constantI S_ 32 0#32
  let main_v0 : IVec S52 32 := broadcastInDim S52 ![] bcast_S_S52 main_c
  let main_v1 : IVec S52 1 := cmpi .sge main_arg2 main_v0
  let main_c_0 : IVec S_ 32 := constantI S_ 32 4#32
  let main_v2 : IVec S52 32 := broadcastInDim S52 ![] bcast_S_S52 main_c_0
  let main_v3 : IVec S52 1 := cmpi .slt main_arg2 main_v2
  let main_v4 : IVec S52 1 := andi main_v1 main_v3
  let main_c_1 : IVec S_ 1 := constantI S_ 1 1#1
  let main_v5 : IVec S_ 1 := (fun x v => Host.reduce IntOp.andi x v reducesTo_S52_S_d0 h_S_) main_v4 main_c_1
  let main_c_2 : IVec S_ 32 := constantI S_ 32 0#32
  let main_v6 : IVec S52 32 := broadcastInDim S52 ![] bcast_S_S52 main_c_2
  let main_v7 : IVec S52 1 := cmpi .sge main_arg3 main_v6
  let main_c_3 : IVec S_ 1 := constantI S_ 1 1#1
  let main_v8 : IVec S_ 1 := (fun x v => Host.reduce IntOp.andi x v reducesTo_S52_S_d0 h_S_) main_v7 main_c_3
  let main_v9 : IVec S_ 1 := andi main_v5 main_v8
  let main_c_4 : IVec S_ 32 := constantI S_ 32 0#32
  let main_v10 : IVec S416 32 := broadcastInDim S416 ![] bcast_S_S416 main_c_4
  let main_v11 : IVec S416 1 := cmpi .sge main_arg5 main_v10
  let main_c_5 : IVec S_ 32 := constantI S_ 32 384#32
  let main_v12 : IVec S416 32 := broadcastInDim S416 ![] bcast_S_S416 main_c_5
  let main_v13 : IVec S416 1 := cmpi .slt main_arg5 main_v12
  let main_v14 : IVec S416 1 := andi main_v11 main_v13
  let main_c_6 : IVec S_ 1 := constantI S_ 1 1#1
  let main_v15 : IVec S_ 1 := (fun x v => Host.reduce IntOp.andi x v reducesTo_S416_S_d0 h_S_) main_v14 main_c_6
  fn_part1 (F := F) main_arg2 main_arg4 main_v9 main_v15
-- ==== Kernel.lean ====
abbrev S4x4096x512 : Shape := ⟨3, ![4, 4096, 512]⟩
abbrev S4x256x512 : Shape := ⟨3, ![4, 256, 512]⟩
abbrev S8x8x64x512 : Shape := ⟨4, ![8, 8, 64, 512]⟩
abbrev S1x512x512 : Shape := ⟨3, ![1, 512, 512]⟩
abbrev S1x4096x512 : Shape := ⟨3, ![1, 4096, 512]⟩
abbrev S1x256x512 : Shape := ⟨3, ![1, 256, 512]⟩
abbrev S4x1024x256 : Shape := ⟨3, ![4, 1024, 256]⟩
abbrev S4x1024x128 : Shape := ⟨3, ![4, 1024, 128]⟩
abbrev S64x128 : Shape := ⟨2, ![64, 128]⟩
abbrev S8x64x128 : Shape := ⟨3, ![8, 64, 128]⟩
abbrev S1x512x128 : Shape := ⟨3, ![1, 512, 128]⟩
abbrev S512x128 : Shape := ⟨2, ![512, 128]⟩
abbrev S8x128x128 : Shape := ⟨3, ![8, 128, 128]⟩
abbrev S1024x128 : Shape := ⟨2, ![1024, 128]⟩
abbrev S1x256x128 : Shape := ⟨3, ![1, 256, 128]⟩
abbrev S256x128 : Shape := ⟨2, ![256, 128]⟩
abbrev S1024x256 : Shape := ⟨2, ![1024, 256]⟩
abbrev S1x1024x256 : Shape := ⟨3, ![1, 1024, 256]⟩
abbrev S1x64x128 : Shape := ⟨3, ![1, 64, 128]⟩
abbrev S128x128 : Shape := ⟨2, ![128, 128]⟩
abbrev S128x512 : Shape := ⟨2, ![128, 512]⟩
abbrev S1x1x64x512 : Shape := ⟨4, ![1, 1, 64, 512]⟩
abbrev S64x512 : Shape := ⟨2, ![64, 512]⟩
abbrev S1x128x256 : Shape := ⟨3, ![1, 128, 256]⟩
abbrev S128x256 : Shape := ⟨2, ![128, 256]⟩
abbrev S128 : Shape := ⟨1, ![128]⟩
abbrev S128x1 : Shape := ⟨2, ![128, 1]⟩
abbrev S1x128x128 : Shape := ⟨3, ![1, 128, 128]⟩
abbrev S1x1024x128 : Shape := ⟨3, ![1, 1024, 128]⟩

abbrev nBuf : Space → Nat
  | .hbm => 7
  | .vmem => 16
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x512, .bf16⟩
  | .hbm, ⟨3, _⟩ => ⟨S4x256x512, .bf16⟩
  | .hbm, ⟨4, _⟩ => ⟨S4x256x512, .bf16⟩
  | .hbm, ⟨5, _⟩ => ⟨S8x8x64x512, .f32⟩
  | .hbm, ⟨6, _⟩ => ⟨S4x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S8x8x64x512, .f32⟩
  | .local _ .vmem, ⟨11, _⟩ => ⟨S1x512x512, .bf16⟩
  | .local _ .vmem, ⟨12, _⟩ => ⟨S1x512x512, .bf16⟩
  | .local _ .vmem, ⟨13, _⟩ => ⟨S4x1024x256, .f32⟩
  | .local _ .vmem, ⟨14, _⟩ => ⟨S4x1024x128, .f32⟩
  | .local _ .vmem, ⟨15, _⟩ => ⟨S4x1024x256, .bf16⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c56_i32 : BitVec 32 := 56#32
  let c0_i32_44 : BitVec 32 := 0#32
  let arg1 : BitVec 32 := BitVec.ofNat 32 (i 1).val
  let c8_i32 : BitVec 32 := 8#32
  let v76 : BitVec 32 := Scalar.muli arg1 c8_i32
  let c0_i32 : BitVec 32 := 0#32
  let v77 : BitVec 32 := Scalar.addi v76 c0_i32
  let c4_i32 : BitVec 32 := 4#32
  let v78 : BitVec 32 := Scalar.subi v77 c4_i32
  let v79 : BitVec 32 := Scalar.maxsi c0_i32_44 v78
  let v80 : BitVec 32 := Scalar.minsi c56_i32 v79
  let c64_i32_45 : BitVec 32 := 64#32
  let v83 : BitVec 32 := Scalar.muli v80 c64_i32_45
  v83
def k0_mult2 : BitVec 32 :=
  let c0_i32 : BitVec 32 := 0#32
  let c64_i32_46 : BitVec 32 := 64#32
  let v85 : BitVec 32 := Scalar.muli c0_i32 c64_i32_46
  v85
def k0_mult3 : BitVec 32 :=
  let c0_i32 : BitVec 32 := 0#32
  let c128_i32 : BitVec 32 := 128#32
  let v87 : BitVec 32 := Scalar.muli c0_i32 c128_i32
  v87
def k0_off1 (c0_i32 : BitVec 32) : Fin 3 → Nat :=
  let c0_47 : Index := 0#32
  let c64_i32_46 : BitVec 32 := 64#32
  let v85 : BitVec 32 := Scalar.muli c0_i32 c64_i32_46
  let v86 : BitVec 32 := v85
  let v89 : Index := Scalar.indexCast v86
  let c0_48 : Index := 0#32
  ![0, v89.toNat, 0]
def k0_off2 (c0_i32 : BitVec 32) : Fin 3 → Nat :=
  let c0_50 : Index := 0#32
  let c64_i32_46 : BitVec 32 := 64#32
  let v85 : BitVec 32 := Scalar.muli c0_i32 c64_i32_46
  let v86 : BitVec 32 := v85
  let v96 : Index := Scalar.indexCast v86
  let c128_51 : Index := 128#32
  ![0, v96.toNat, 128]
def k0_off3 (c0_i32 : BitVec 32) : Fin 3 → Nat :=
  let c0_53 : Index := 0#32
  let c64_i32_46 : BitVec 32 := 64#32
  let v85 : BitVec 32 := Scalar.muli c0_i32 c64_i32_46
  let v86 : BitVec 32 := v85
  let v103 : Index := Scalar.indexCast v86
  let c256_54 : Index := 256#32
  ![0, v103.toNat, 256]
def k0_off4 (c0_i32 : BitVec 32) : Fin 3 → Nat :=
  let c0_56 : Index := 0#32
  let c64_i32_46 : BitVec 32 := 64#32
  let v85 : BitVec 32 := Scalar.muli c0_i32 c64_i32_46
  let v86 : BitVec 32 := v85
  let v110 : Index := Scalar.indexCast v86
  let c384_57 : Index := 384#32
  ![0, v110.toNat, 384]
def k0_off5 (i : grid0.Coords) (c0_i32 : BitVec 32) : Fin 3 → Nat :=
  let c0_59 : Index := 0#32
  let c56_i32 : BitVec 32 := 56#32
  let c0_i32_44 : BitVec 32 := 0#32
  let arg1 : BitVec 32 := BitVec.ofNat 32 (i 1).val
  let c8_i32 : BitVec 32 := 8#32
  let v76 : BitVec 32 := Scalar.muli arg1 c8_i32
  let v77 : BitVec 32 := Scalar.addi v76 c0_i32
  let c4_i32 : BitVec 32 := 4#32
  let v78 : BitVec 32 := Scalar.subi v77 c4_i32
  let v79 : BitVec 32 := Scalar.maxsi c0_i32_44 v78
  let v80 : BitVec 32 := Scalar.minsi c56_i32 v79
  let c64_i32_45 : BitVec 32 := 64#32
  let v83 : BitVec 32 := Scalar.muli v80 c64_i32_45
  let v84 : BitVec 32 := v83
  let v117 : Index := Scalar.indexCast v84
  let c0_60 : Index := 0#32
  ![0, v117.toNat, 0]
def k0_off6 (i : grid0.Coords) (c0_i32 : BitVec 32) : Fin 4 → Nat :=
  let c0_62 : Index := 0#32
  let c56_i32 : BitVec 32 := 56#32
  let c0_i32_44 : BitVec 32 := 0#32
  let arg1 : BitVec 32 := BitVec.ofNat 32 (i 1).val
  let c8_i32 : BitVec 32 := 8#32
  let v76 : BitVec 32 := Scalar.muli arg1 c8_i32
  let v77 : BitVec 32 := Scalar.addi v76 c0_i32
  let c4_i32 : BitVec 32 := 4#32
  let v78 : BitVec 32 := Scalar.subi v77 c4_i32
  let v79 : BitVec 32 := Scalar.maxsi c0_i32_44 v78
  let v80 : BitVec 32 := Scalar.minsi c56_i32 v79
  let v81 : BitVec 32 := Scalar.subi v80 v77
  let c7_i32 : BitVec 32 := 7#32
  let v82 : BitVec 32 := Scalar.addi v81 c7_i32
  let v121 : Index := Scalar.indexCast v82
  let c0_63 : Index := 0#32
  let c0_64 : Index := 0#32
  ![0, v121.toNat, 0, 0]
def k0_off7 (i : grid0.Coords) (c0_i32 : BitVec 32) : Fin 4 → Nat :=
  let c1_65 : Index := 1#32
  let c56_i32 : BitVec 32 := 56#32
  let c0_i32_44 : BitVec 32 := 0#32
  let arg1 : BitVec 32 := BitVec.ofNat 32 (i 1).val
  let c8_i32 : BitVec 32 := 8#32
  let v76 : BitVec 32 := Scalar.muli arg1 c8_i32
  let v77 : BitVec 32 := Scalar.addi v76 c0_i32
  let c4_i32 : BitVec 32 := 4#32
  let v78 : BitVec 32 := Scalar.subi v77 c4_i32
  let v79 : BitVec 32 := Scalar.maxsi c0_i32_44 v78
  let v80 : BitVec 32 := Scalar.minsi c56_i32 v79
  let v81 : BitVec 32 := Scalar.subi v80 v77
  let c7_i32 : BitVec 32 := 7#32
  let v82 : BitVec 32 := Scalar.addi v81 c7_i32
  let v124 : Index := Scalar.indexCast v82
  let c0_66 : Index := 0#32
  let c0_67 : Index := 0#32
  ![1, v124.toNat, 0, 0]
def k0_off8 (i : grid0.Coords) (c0_i32 : BitVec 32) : Fin 3 → Nat :=
  let c0_68 : Index := 0#32
  let c56_i32 : BitVec 32 := 56#32
  let c0_i32_44 : BitVec 32 := 0#32
  let arg1 : BitVec 32 := BitVec.ofNat 32 (i 1).val
  let c8_i32 : BitVec 32 := 8#32
  let v76 : BitVec 32 := Scalar.muli arg1 c8_i32
  let v77 : BitVec 32 := Scalar.addi v76 c0_i32
  let c4_i32 : BitVec 32 := 4#32
  let v78 : BitVec 32 := Scalar.subi v77 c4_i32
  let v79 : BitVec 32 := Scalar.maxsi c0_i32_44 v78
  let v80 : BitVec 32 := Scalar.minsi c56_i32 v79
  let c64_i32_45 : BitVec 32 := 64#32
  let v83 : BitVec 32 := Scalar.muli v80 c64_i32_45
  let v84 : BitVec 32 := v83
  let v129 : Index := Scalar.indexCast v84
  let c128_69 : Index := 128#32
  ![0, v129.toNat, 128]
def k0_off9 (i : grid0.Coords) (c0_i32 : BitVec 32) : Fin 4 → Nat :=
  let c2_71 : Index := 2#32
  let c56_i32 : BitVec 32 := 56#32
  let c0_i32_44 : BitVec 32 := 0#32
  let arg1 : BitVec 32 := BitVec.ofNat 32 (i 1).val
  let c8_i32 : BitVec 32 := 8#32
  let v76 : BitVec 32 := Scalar.muli arg1 c8_i32
  let v77 : BitVec 32 := Scalar.addi v76 c0_i32
  let c4_i32 : BitVec 32 := 4#32
  let v78 : BitVec 32 := Scalar.subi v77 c4_i32
  let v79 : BitVec 32 := Scalar.maxsi c0_i32_44 v78
  let v80 : BitVec 32 := Scalar.minsi c56_i32 v79
  let v81 : BitVec 32 := Scalar.subi v80 v77
  let c7_i32 : BitVec 32 := 7#32
  let v82 : BitVec 32 := Scalar.addi v81 c7_i32
  let v133 : Index := Scalar.indexCast v82
  let c0_72 : Index := 0#32
  let c0_73 : Index := 0#32
  ![2, v133.toNat, 0, 0]
def k0_off10 (i : grid0.Coords) (c0_i32 : BitVec 32) : Fin 4 → Nat :=
  let c3_74 : Index := 3#32
  let c56_i32 : BitVec 32 := 56#32
  let c0_i32_44 : BitVec 32 := 0#32
  let arg1 : BitVec 32 := BitVec.ofNat 32 (i 1).val
  let c8_i32 : BitVec 32 := 8#32
  let v76 : BitVec 32 := Scalar.muli arg1 c8_i32
  let v77 : BitVec 32 := Scalar.addi v76 c0_i32
  let c4_i32 : BitVec 32 := 4#32
  let v78 : BitVec 32 := Scalar.subi v77 c4_i32
  let v79 : BitVec 32 := Scalar.maxsi c0_i32_44 v78
  let v80 : BitVec 32 := Scalar.minsi c56_i32 v79
  let v81 : BitVec 32 := Scalar.subi v80 v77
  let c7_i32 : BitVec 32 := 7#32
  let v82 : BitVec 32 := Scalar.addi v81 c7_i32
  let v136 : Index := Scalar.indexCast v82
  let c0_75 : Index := 0#32
  let c0_76 : Index := 0#32
  ![3, v136.toNat, 0, 0]
def k0_off11 (i : grid0.Coords) (c0_i32 : BitVec 32) : Fin 3 → Nat :=
  let c0_77 : Index := 0#32
  let c56_i32 : BitVec 32 := 56#32
  let c0_i32_44 : BitVec 32 := 0#32
  let arg1 : BitVec 32 := BitVec.ofNat 32 (i 1).val
  let c8_i32 : BitVec 32 := 8#32
  let v76 : BitVec 32 := Scalar.muli arg1 c8_i32
  let v77 : BitVec 32 := Scalar.addi v76 c0_i32
  let c4_i32 : BitVec 32 := 4#32
  let v78 : BitVec 32 := Scalar.subi v77 c4_i32
  let v79 : BitVec 32 := Scalar.maxsi c0_i32_44 v78
  let v80 : BitVec 32 := Scalar.minsi c56_i32 v79
  let c64_i32_45 : BitVec 32 := 64#32
  let v83 : BitVec 32 := Scalar.muli v80 c64_i32_45
  let v84 : BitVec 32 := v83
  let v141 : Index := Scalar.indexCast v84
  let c256_78 : Index := 256#32
  ![0, v141.toNat, 256]
def k0_off12 (i : grid0.Coords) (c0_i32 : BitVec 32) : Fin 4 → Nat :=
  let c4 : Index := 4#32
  let c56_i32 : BitVec 32 := 56#32
  let c0_i32_44 : BitVec 32 := 0#32
  let arg1 : BitVec 32 := BitVec.ofNat 32 (i 1).val
  let c8_i32 : BitVec 32 := 8#32
  let v76 : BitVec 32 := Scalar.muli arg1 c8_i32
  let v77 : BitVec 32 := Scalar.addi v76 c0_i32
  let c4_i32 : BitVec 32 := 4#32
  let v78 : BitVec 32 := Scalar.subi v77 c4_i32
  let v79 : BitVec 32 := Scalar.maxsi c0_i32_44 v78
  let v80 : BitVec 32 := Scalar.minsi c56_i32 v79
  let v81 : BitVec 32 := Scalar.subi v80 v77
  let c7_i32 : BitVec 32 := 7#32
  let v82 : BitVec 32 := Scalar.addi v81 c7_i32
  let v145 : Index := Scalar.indexCast v82
  let c0_80 : Index := 0#32
  let c0_81 : Index := 0#32
  ![4, v145.toNat, 0, 0]
def k0_off13 (i : grid0.Coords) (c0_i32 : BitVec 32) : Fin 4 → Nat :=
  let c5 : Index := 5#32
  let c56_i32 : BitVec 32 := 56#32
  let c0_i32_44 : BitVec 32 := 0#32
  let arg1 : BitVec 32 := BitVec.ofNat 32 (i 1).val
  let c8_i32 : BitVec 32 := 8#32
  let v76 : BitVec 32 := Scalar.muli arg1 c8_i32
  let v77 : BitVec 32 := Scalar.addi v76 c0_i32
  let c4_i32 : BitVec 32 := 4#32
  let v78 : BitVec 32 := Scalar.subi v77 c4_i32
  let v79 : BitVec 32 := Scalar.maxsi c0_i32_44 v78
  let v80 : BitVec 32 := Scalar.minsi c56_i32 v79
  let v81 : BitVec 32 := Scalar.subi v80 v77
  let c7_i32 : BitVec 32 := 7#32
  let v82 : BitVec 32 := Scalar.addi v81 c7_i32
  let v148 : Index := Scalar.indexCast v82
  let c0_82 : Index := 0#32
  let c0_83 : Index := 0#32
  ![5, v148.toNat, 0, 0]
def k0_off14 (i : grid0.Coords) (c0_i32 : BitVec 32) : Fin 3 → Nat :=
  let c0_84 : Index := 0#32
  let c56_i32 : BitVec 32 := 56#32
  let c0_i32_44 : BitVec 32 := 0#32
  let arg1 : BitVec 32 := BitVec.ofNat 32 (i 1).val
  let c8_i32 : BitVec 32 := 8#32
  let v76 : BitVec 32 := Scalar.muli arg1 c8_i32
  let v77 : BitVec 32 := Scalar.addi v76 c0_i32
  let c4_i32 : BitVec 32 := 4#32
  let v78 : BitVec 32 := Scalar.subi v77 c4_i32
  let v79 : BitVec 32 := Scalar.maxsi c0_i32_44 v78
  let v80 : BitVec 32 := Scalar.minsi c56_i32 v79
  let c64_i32_45 : BitVec 32 := 64#32
  let v83 : BitVec 32 := Scalar.muli v80 c64_i32_45
  let v84 : BitVec 32 := v83
  let v153 : Index := Scalar.indexCast v84
  let c384_85 : Index := 384#32
  ![0, v153.toNat, 384]
def k0_off15 (i : grid0.Coords) (c0_i32 : BitVec 32) : Fin 4 → Nat :=
  let c6 : Index := 6#32
  let c56_i32 : BitVec 32 := 56#32
  let c0_i32_44 : BitVec 32 := 0#32
  let arg1 : BitVec 32 := BitVec.ofNat 32 (i 1).val
  let c8_i32 : BitVec 32 := 8#32
  let v76 : BitVec 32 := Scalar.muli arg1 c8_i32
  let v77 : BitVec 32 := Scalar.addi v76 c0_i32
  let c4_i32 : BitVec 32 := 4#32
  let v78 : BitVec 32 := Scalar.subi v77 c4_i32
  let v79 : BitVec 32 := Scalar.maxsi c0_i32_44 v78
  let v80 : BitVec 32 := Scalar.minsi c56_i32 v79
  let v81 : BitVec 32 := Scalar.subi v80 v77
  let c7_i32 : BitVec 32 := 7#32
  let v82 : BitVec 32 := Scalar.addi v81 c7_i32
  let v157 : Index := Scalar.indexCast v82
  let c0_87 : Index := 0#32
  let c0_88 : Index := 0#32
  ![6, v157.toNat, 0, 0]
def k0_off16 (i : grid0.Coords) (c0_i32 : BitVec 32) : Fin 4 → Nat :=
  let c7 : Index := 7#32
  let c56_i32 : BitVec 32 := 56#32
  let c0_i32_44 : BitVec 32 := 0#32
  let arg1 : BitVec 32 := BitVec.ofNat 32 (i 1).val
  let c8_i32 : BitVec 32 := 8#32
  let v76 : BitVec 32 := Scalar.muli arg1 c8_i32
  let v77 : BitVec 32 := Scalar.addi v76 c0_i32
  let c4_i32 : BitVec 32 := 4#32
  let v78 : BitVec 32 := Scalar.subi v77 c4_i32
  let v79 : BitVec 32 := Scalar.maxsi c0_i32_44 v78
  let v80 : BitVec 32 := Scalar.minsi c56_i32 v79
  let v81 : BitVec 32 := Scalar.subi v80 v77
  let c7_i32 : BitVec 32 := 7#32
  let v82 : BitVec 32 := Scalar.addi v81 c7_i32
  let v160 : Index := Scalar.indexCast v82
  let c0_89 : Index := 0#32
  let c0_90 : Index := 0#32
  ![7, v160.toNat, 0, 0]
def k0_off17 (c0_i32 : BitVec 32) : Fin 3 → Nat :=
  let c0_91 : Index := 0#32
  let c128_i32 : BitVec 32 := 128#32
  let v87 : BitVec 32 := Scalar.muli c0_i32 c128_i32
  let v88 : BitVec 32 := v87
  let v165 : Index := Scalar.indexCast v88
  let c0_92 : Index := 0#32
  ![0, v165.toNat, 0]
def k0_off18 (c0_i32 : BitVec 32) : Fin 3 → Nat :=
  let c1_93 : Index := 1#32
  let c128_i32 : BitVec 32 := 128#32
  let v87 : BitVec 32 := Scalar.muli c0_i32 c128_i32
  let v88 : BitVec 32 := v87
  let v168 : Index := Scalar.indexCast v88
  let c0_94 : Index := 0#32
  ![1, v168.toNat, 0]
def k0_off19 (c0_i32 : BitVec 32) : Fin 3 → Nat :=
  let c2_95 : Index := 2#32
  let c128_i32 : BitVec 32 := 128#32
  let v87 : BitVec 32 := Scalar.muli c0_i32 c128_i32
  let v88 : BitVec 32 := v87
  let v171 : Index := Scalar.indexCast v88
  let c0_96 : Index := 0#32
  ![2, v171.toNat, 0]
def k0_off20 (c0_i32 : BitVec 32) : Fin 3 → Nat :=
  let c3_97 : Index := 3#32
  let c128_i32 : BitVec 32 := 128#32
  let v87 : BitVec 32 := Scalar.muli c0_i32 c128_i32
  let v88 : BitVec 32 := v87
  let v174 : Index := Scalar.indexCast v88
  let c0_98 : Index := 0#32
  ![3, v174.toNat, 0]
def k0_off21 (c0_i32 : BitVec 32) : Fin 3 → Nat :=
  let c0_122 : Index := 0#32
  let c128_i32 : BitVec 32 := 128#32
  let v87 : BitVec 32 := Scalar.muli c0_i32 c128_i32
  let v88 : BitVec 32 := v87
  let v256 : Index := Scalar.indexCast v88
  let c0_123 : Index := 0#32
  ![0, v256.toNat, 0]
def k0_off22 (c0_i32 : BitVec 32) : Fin 3 → Nat :=
  let c1_129 : Index := 1#32
  let c128_i32 : BitVec 32 := 128#32
  let v87 : BitVec 32 := Scalar.muli c0_i32 c128_i32
  let v88 : BitVec 32 := v87
  let v274 : Index := Scalar.indexCast v88
  let c0_130 : Index := 0#32
  ![1, v274.toNat, 0]
def k0_off23 (c0_i32 : BitVec 32) : Fin 3 → Nat :=
  let c2_136 : Index := 2#32
  let c128_i32 : BitVec 32 := 128#32
  let v87 : BitVec 32 := Scalar.muli c0_i32 c128_i32
  let v88 : BitVec 32 := v87
  let v292 : Index := Scalar.indexCast v88
  let c0_137 : Index := 0#32
  ![2, v292.toNat, 0]
def k0_off24 (c0_i32 : BitVec 32) : Fin 3 → Nat :=
  let c3_143 : Index := 3#32
  let c128_i32 : BitVec 32 := 128#32
  let v87 : BitVec 32 := Scalar.muli c0_i32 c128_i32
  let v88 : BitVec 32 := v87
  let v310 : Index := Scalar.indexCast v88
  let c0_144 : Index := 0#32
  ![3, v310.toNat, 0]
def k0_mult4 (i : grid0.Coords) : BitVec 32 :=
  let c56_i32_150 : BitVec 32 := 56#32
  let c0_i32_149 : BitVec 32 := 0#32
  let arg1 : BitVec 32 := BitVec.ofNat 32 (i 1).val
  let c8_i32_147 : BitVec 32 := 8#32
  let v321 : BitVec 32 := Scalar.muli arg1 c8_i32_147
  let c1_i32 : BitVec 32 := 1#32
  let v322 : BitVec 32 := Scalar.addi v321 c1_i32
  let c4_i32_148 : BitVec 32 := 4#32
  let v323 : BitVec 32 := Scalar.subi v322 c4_i32_148
  let v324 : BitVec 32 := Scalar.maxsi c0_i32_149 v323
  let v325 : BitVec 32 := Scalar.minsi c56_i32_150 v324
  let c64_i32_152 : BitVec 32 := 64#32
  let v328 : BitVec 32 := Scalar.muli v325 c64_i32_152
  v328
def k0_mult5 : BitVec 32 :=
  let c1_i32 : BitVec 32 := 1#32
  let c64_i32_153 : BitVec 32 := 64#32
  let v330 : BitVec 32 := Scalar.muli c1_i32 c64_i32_153
  v330
def k0_mult6 : BitVec 32 :=
  let c1_i32 : BitVec 32 := 1#32
  let c128_i32_154 : BitVec 32 := 128#32
  let v332 : BitVec 32 := Scalar.muli c1_i32 c128_i32_154
  v332
def k0_mult7 (i : grid0.Coords) : BitVec 32 :=
  let c56_i32_262 : BitVec 32 := 56#32
  let c0_i32_261 : BitVec 32 := 0#32
  let arg1 : BitVec 32 := BitVec.ofNat 32 (i 1).val
  let c8_i32_259 : BitVec 32 := 8#32
  let v566 : BitVec 32 := Scalar.muli arg1 c8_i32_259
  let c2_i32 : BitVec 32 := 2#32
  let v567 : BitVec 32 := Scalar.addi v566 c2_i32
  let c4_i32_260 : BitVec 32 := 4#32
  let v568 : BitVec 32 := Scalar.subi v567 c4_i32_260
  let v569 : BitVec 32 := Scalar.maxsi c0_i32_261 v568
  let v570 : BitVec 32 := Scalar.minsi c56_i32_262 v569
  let c64_i32_264 : BitVec 32 := 64#32
  let v573 : BitVec 32 := Scalar.muli v570 c64_i32_264
  v573
def k0_mult8 : BitVec 32 :=
  let c2_i32 : BitVec 32 := 2#32
  let c64_i32_265 : BitVec 32 := 64#32
  let v575 : BitVec 32 := Scalar.muli c2_i32 c64_i32_265
  v575
def k0_mult9 : BitVec 32 :=
  let c2_i32 : BitVec 32 := 2#32
  let c128_i32_266 : BitVec 32 := 128#32
  let v577 : BitVec 32 := Scalar.muli c2_i32 c128_i32_266
  v577
def k0_mult10 (i : grid0.Coords) : BitVec 32 :=
  let c56_i32_374 : BitVec 32 := 56#32
  let c0_i32_373 : BitVec 32 := 0#32
  let arg1 : BitVec 32 := BitVec.ofNat 32 (i 1).val
  let c8_i32_371 : BitVec 32 := 8#32
  let v811 : BitVec 32 := Scalar.muli arg1 c8_i32_371
  let c3_i32 : BitVec 32 := 3#32
  let v812 : BitVec 32 := Scalar.addi v811 c3_i32
  let c4_i32_372 : BitVec 32 := 4#32
  let v813 : BitVec 32 := Scalar.subi v812 c4_i32_372
  let v814 : BitVec 32 := Scalar.maxsi c0_i32_373 v813
  let v815 : BitVec 32 := Scalar.minsi c56_i32_374 v814
  let c64_i32_376 : BitVec 32 := 64#32
  let v818 : BitVec 32 := Scalar.muli v815 c64_i32_376
  v818
def k0_mult11 : BitVec 32 :=
  let c3_i32 : BitVec 32 := 3#32
  let c64_i32_377 : BitVec 32 := 64#32
  let v820 : BitVec 32 := Scalar.muli c3_i32 c64_i32_377
  v820
def k0_mult12 : BitVec 32 :=
  let c3_i32 : BitVec 32 := 3#32
  let c128_i32_378 : BitVec 32 := 128#32
  let v822 : BitVec 32 := Scalar.muli c3_i32 c128_i32_378
  v822
def k0_mult13 (i : grid0.Coords) : BitVec 32 :=
  let c56_i32_487 : BitVec 32 := 56#32
  let c0_i32_486 : BitVec 32 := 0#32
  let arg1 : BitVec 32 := BitVec.ofNat 32 (i 1).val
  let c8_i32_484 : BitVec 32 := 8#32
  let v1056 : BitVec 32 := Scalar.muli arg1 c8_i32_484
  let c4_i32_483 : BitVec 32 := 4#32
  let v1057 : BitVec 32 := Scalar.addi v1056 c4_i32_483
  let c4_i32_485 : BitVec 32 := 4#32
  let v1058 : BitVec 32 := Scalar.subi v1057 c4_i32_485
  let v1059 : BitVec 32 := Scalar.maxsi c0_i32_486 v1058
  let v1060 : BitVec 32 := Scalar.minsi c56_i32_487 v1059
  let c64_i32_489 : BitVec 32 := 64#32
  let v1063 : BitVec 32 := Scalar.muli v1060 c64_i32_489
  v1063
def k0_mult14 : BitVec 32 :=
  let c4_i32_483 : BitVec 32 := 4#32
  let c64_i32_490 : BitVec 32 := 64#32
  let v1065 : BitVec 32 := Scalar.muli c4_i32_483 c64_i32_490
  v1065
def k0_mult15 : BitVec 32 :=
  let c4_i32_483 : BitVec 32 := 4#32
  let c128_i32_491 : BitVec 32 := 128#32
  let v1067 : BitVec 32 := Scalar.muli c4_i32_483 c128_i32_491
  v1067
def k0_mult16 (i : grid0.Coords) : BitVec 32 :=
  let c56_i32_599 : BitVec 32 := 56#32
  let c0_i32_598 : BitVec 32 := 0#32
  let arg1 : BitVec 32 := BitVec.ofNat 32 (i 1).val
  let c8_i32_596 : BitVec 32 := 8#32
  let v1301 : BitVec 32 := Scalar.muli arg1 c8_i32_596
  let c5_i32 : BitVec 32 := 5#32
  let v1302 : BitVec 32 := Scalar.addi v1301 c5_i32
  let c4_i32_597 : BitVec 32 := 4#32
  let v1303 : BitVec 32 := Scalar.subi v1302 c4_i32_597
  let v1304 : BitVec 32 := Scalar.maxsi c0_i32_598 v1303
  let v1305 : BitVec 32 := Scalar.minsi c56_i32_599 v1304
  let c64_i32_601 : BitVec 32 := 64#32
  let v1308 : BitVec 32 := Scalar.muli v1305 c64_i32_601
  v1308
def k0_mult17 : BitVec 32 :=
  let c5_i32 : BitVec 32 := 5#32
  let c64_i32_602 : BitVec 32 := 64#32
  let v1310 : BitVec 32 := Scalar.muli c5_i32 c64_i32_602
  v1310
def k0_mult18 : BitVec 32 :=
  let c5_i32 : BitVec 32 := 5#32
  let c128_i32_603 : BitVec 32 := 128#32
  let v1312 : BitVec 32 := Scalar.muli c5_i32 c128_i32_603
  v1312
def k0_mult19 (i : grid0.Coords) : BitVec 32 :=
  let c56_i32_711 : BitVec 32 := 56#32
  let c0_i32_710 : BitVec 32 := 0#32
  let arg1 : BitVec 32 := BitVec.ofNat 32 (i 1).val
  let c8_i32_708 : BitVec 32 := 8#32
  let v1546 : BitVec 32 := Scalar.muli arg1 c8_i32_708
  let c6_i32 : BitVec 32 := 6#32
  let v1547 : BitVec 32 := Scalar.addi v1546 c6_i32
  let c4_i32_709 : BitVec 32 := 4#32
  let v1548 : BitVec 32 := Scalar.subi v1547 c4_i32_709
  let v1549 : BitVec 32 := Scalar.maxsi c0_i32_710 v1548
  let v1550 : BitVec 32 := Scalar.minsi c56_i32_711 v1549
  let c64_i32_713 : BitVec 32 := 64#32
  let v1553 : BitVec 32 := Scalar.muli v1550 c64_i32_713
  v1553
def k0_mult20 : BitVec 32 :=
  let c6_i32 : BitVec 32 := 6#32
  let c64_i32_714 : BitVec 32 := 64#32
  let v1555 : BitVec 32 := Scalar.muli c6_i32 c64_i32_714
  v1555
def k0_mult21 : BitVec 32 :=
  let c6_i32 : BitVec 32 := 6#32
  let c128_i32_715 : BitVec 32 := 128#32
  let v1557 : BitVec 32 := Scalar.muli c6_i32 c128_i32_715
  v1557
def k0_mult22 (i : grid0.Coords) : BitVec 32 :=
  let c56_i32_824 : BitVec 32 := 56#32
  let c0_i32_823 : BitVec 32 := 0#32
  let arg1 : BitVec 32 := BitVec.ofNat 32 (i 1).val
  let c8_i32_821 : BitVec 32 := 8#32
  let v1791 : BitVec 32 := Scalar.muli arg1 c8_i32_821
  let c7_i32_820 : BitVec 32 := 7#32
  let v1792 : BitVec 32 := Scalar.addi v1791 c7_i32_820
  let c4_i32_822 : BitVec 32 := 4#32
  let v1793 : BitVec 32 := Scalar.subi v1792 c4_i32_822
  let v1794 : BitVec 32 := Scalar.maxsi c0_i32_823 v1793
  let v1795 : BitVec 32 := Scalar.minsi c56_i32_824 v1794
  let c64_i32_826 : BitVec 32 := 64#32
  let v1798 : BitVec 32 := Scalar.muli v1795 c64_i32_826
  v1798
def k0_mult23 : BitVec 32 :=
  let c7_i32_820 : BitVec 32 := 7#32
  let c64_i32_827 : BitVec 32 := 64#32
  let v1800 : BitVec 32 := Scalar.muli c7_i32_820 c64_i32_827
  v1800
def k0_mult24 : BitVec 32 :=
  let c7_i32_820 : BitVec 32 := 7#32
  let c128_i32_828 : BitVec 32 := 128#32
  let v1802 : BitVec 32 := Scalar.muli c7_i32_820 c128_i32_828
  v1802
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x8x64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x4096x512 : Shape := ⟨3, ![4, 4096, 512]⟩
abbrev S4x256x512 : Shape := ⟨3, ![4, 256, 512]⟩
abbrev S8x8x64x512 : Shape := ⟨4, ![8, 8, 64, 512]⟩
abbrev S4x64x64x8x64 : Shape := ⟨5, ![4, 64, 64, 8, 64]⟩
abbrev S4x256x8x64 : Shape := ⟨4, ![4, 256, 8, 64]⟩
abbrev S64 : Shape := ⟨1, ![64]⟩
abbrev S_ : Shape := ⟨0, ![]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S64x8x1 : Shape := ⟨3, ![64, 8, 1]⟩
abbrev S4x64x8x64x8x64 : Shape := ⟨6, ![4, 64, 8, 64, 8, 64]⟩
abbrev S4x64x512x8x64 : Shape := ⟨5, ![4, 64, 512, 8, 64]⟩
abbrev S8x64x64x512 : Shape := ⟨4, ![8, 64, 64, 512]⟩
abbrev S4x64x8x64x512 : Shape := ⟨5, ![4, 64, 8, 64, 512]⟩
abbrev S64x8x64x512 : Shape := ⟨4, ![64, 8, 64, 512]⟩
abbrev S1x64x8x64x512 : Shape := ⟨5, ![1, 64, 8, 64, 512]⟩
abbrev S4x8x256x64x64 : Shape := ⟨5, ![4, 8, 256, 64, 64]⟩
abbrev S4x64x8x64x256 : Shape := ⟨5, ![4, 64, 8, 64, 256]⟩
abbrev S4x64x8x64x768 : Shape := ⟨5, ![4, 64, 8, 64, 768]⟩
abbrev S4x64x8x64 : Shape := ⟨4, ![4, 64, 8, 64]⟩
abbrev S4x64x8x64x1 : Shape := ⟨5, ![4, 64, 8, 64, 1]⟩
abbrev S4x64x8x64x64 : Shape := ⟨5, ![4, 64, 8, 64, 64]⟩
abbrev S4x8x64x64x64 : Shape := ⟨5, ![4, 8, 64, 64, 64]⟩

abbrev nBuf : Space → Nat
  | .hbm => 98
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x512, .bf16⟩
  | .hbm, ⟨3, _⟩ => ⟨S4x256x512, .bf16⟩
  | .hbm, ⟨4, _⟩ => ⟨S4x256x512, .bf16⟩
  | .hbm, ⟨5, _⟩ => ⟨S8x8x64x512, .f32⟩
  | .hbm, ⟨6, _⟩ => ⟨S4x4096x512, .f32⟩
  | .hbm, ⟨7, _⟩ => ⟨S4x4096x512, .f32⟩
  | .hbm, ⟨8, _⟩ => ⟨S4x4096x512, .f32⟩
  | .hbm, ⟨9, _⟩ => ⟨S4x256x512, .f32⟩
  | .hbm, ⟨10, _⟩ => ⟨S4x256x512, .f32⟩
  | .hbm, ⟨11, _⟩ => ⟨S4x64x64x8x64, .f32⟩
  | .hbm, ⟨12, _⟩ => ⟨S4x64x64x8x64, .f32⟩
  | .hbm, ⟨13, _⟩ => ⟨S4x64x64x8x64, .f32⟩
  | .hbm, ⟨14, _⟩ => ⟨S4x256x8x64, .f32⟩
  | .hbm, ⟨15, _⟩ => ⟨S4x256x8x64, .f32⟩
  | .hbm, ⟨16, _⟩ => ⟨S64, .i32⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S64, .i32⟩
  | .hbm, ⟨24, _⟩ => ⟨S64, .i32⟩
  | .hbm, ⟨25, _⟩ => ⟨S_, .i32⟩
  | .hbm, ⟨26, _⟩ => ⟨S64, .i32⟩
  | .hbm, ⟨27, _⟩ => ⟨S64, .i32⟩
  | .hbm, ⟨28, _⟩ => ⟨S64x1, .i32⟩
  | .hbm, ⟨29, _⟩ => ⟨S8, .i32⟩
  | .hbm, ⟨30, _⟩ => ⟨S1x8, .i32⟩
  | .hbm, ⟨31, _⟩ => ⟨S64x8, .i32⟩
  | .hbm, ⟨32, _⟩ => ⟨S64x8, .i32⟩
  | .hbm, ⟨33, _⟩ => ⟨S64x8, .i32⟩
  | .hbm, ⟨34, _⟩ => ⟨S_, .i32⟩
  | .hbm, ⟨35, _⟩ => ⟨S64x8, .i32⟩
  | .hbm, ⟨36, _⟩ => ⟨S64x8, .i1⟩
  | .hbm, ⟨37, _⟩ => ⟨S_, .i32⟩
  | .hbm, ⟨38, _⟩ => ⟨S64x8, .i32⟩
  | .hbm, ⟨39, _⟩ => ⟨S64x8, .i32⟩
  | .hbm, ⟨40, _⟩ => ⟨S64x8, .i32⟩
  | .hbm, ⟨41, _⟩ => ⟨S64x8x1, .i32⟩
  | .hbm, ⟨42, _⟩ => ⟨S4x64x8x64x8x64, .f32⟩
  | .hbm, ⟨43, _⟩ => ⟨S4x64x512x8x64, .f32⟩
  | .hbm, ⟨44, _⟩ => ⟨S_, .i32⟩
  | .hbm, ⟨45, _⟩ => ⟨S64x8, .i32⟩
  | .hbm, ⟨46, _⟩ => ⟨S64x8, .i1⟩
  | .hbm, ⟨47, _⟩ => ⟨S_, .i32⟩
  | .hbm, ⟨48, _⟩ => ⟨S64x8, .i32⟩
  | .hbm, ⟨49, _⟩ => ⟨S64x8, .i32⟩
  | .hbm, ⟨50, _⟩ => ⟨S64x8, .i32⟩
  | .hbm, ⟨51, _⟩ => ⟨S64x8x1, .i32⟩
  | .hbm, ⟨52, _⟩ => ⟨S4x64x8x64x8x64, .f32⟩
  | .hbm, ⟨53, _⟩ => ⟨S4x64x512x8x64, .f32⟩
  | .hbm, ⟨54, _⟩ => ⟨S64, .i32⟩
  | .hbm, ⟨55, _⟩ => ⟨S_, .i32⟩
  | .hbm, ⟨56, _⟩ => ⟨S64, .i32⟩
  | .hbm, ⟨57, _⟩ => ⟨S64, .i32⟩
  | .hbm, ⟨58, _⟩ => ⟨S_, .i32⟩
  | .hbm, ⟨59, _⟩ => ⟨S64, .i32⟩
  | .hbm, ⟨60, _⟩ => ⟨S64, .i1⟩
  | .hbm, ⟨61, _⟩ => ⟨S_, .i32⟩
  | .hbm, ⟨62, _⟩ => ⟨S64, .i32⟩
  | .hbm, ⟨63, _⟩ => ⟨S64, .i32⟩
  | .hbm, ⟨64, _⟩ => ⟨S64, .i32⟩
  | .hbm, ⟨65, _⟩ => ⟨S64x1, .i32⟩
  | .hbm, ⟨66, _⟩ => ⟨S8x64x64x512, .f32⟩
  | .hbm, ⟨67, _⟩ => ⟨S4x64x8x64x512, .f32⟩
  | .hbm, ⟨68, _⟩ => ⟨S64x8x64x512, .f32⟩
  | .hbm, ⟨69, _⟩ => ⟨S1x64x8x64x512, .f32⟩
  | .hbm, ⟨70, _⟩ => ⟨S4x64x8x64x512, .f32⟩
  | .hbm, ⟨71, _⟩ => ⟨S4x64x8x64x512, .f32⟩
  | .hbm, ⟨72, _⟩ => ⟨S4x8x256x64x64, .f32⟩
  | .hbm, ⟨73, _⟩ => ⟨S4x64x8x64x256, .f32⟩
  | .hbm, ⟨74, _⟩ => ⟨S4x64x8x64x768, .f32⟩
  | .hbm, ⟨75, _⟩ => ⟨S_, .f32⟩
  | .hbm, ⟨76, _⟩ => ⟨S4x64x8x64, .f32⟩
  | .hbm, ⟨77, _⟩ => ⟨S_, .f32⟩
  | .hbm, ⟨78, _⟩ => ⟨S4x64x8x64, .f32⟩
  | .hbm, ⟨79, _⟩ => ⟨S4x64x8x64, .f32⟩
  | .hbm, ⟨80, _⟩ => ⟨S4x64x8x64x1, .f32⟩
  | .hbm, ⟨81, _⟩ => ⟨S4x64x8x64x768, .f32⟩
  | .hbm, ⟨82, _⟩ => ⟨S4x64x8x64x768, .f32⟩
  | .hbm, ⟨83, _⟩ => ⟨S4x64x8x64x768, .f32⟩
  | .hbm, ⟨84, _⟩ => ⟨S_, .f32⟩
  | .hbm, ⟨85, _⟩ => ⟨S4x64x8x64, .f32⟩
  | .hbm, ⟨86, _⟩ => ⟨S4x64x8x64x1, .f32⟩
  | .hbm, ⟨87, _⟩ => ⟨S4x64x8x64x768, .f32⟩
  | .hbm, ⟨88, _⟩ => ⟨S4x64x8x64x768, .f32⟩
  | .hbm, ⟨89, _⟩ => ⟨S4x64x8x64x512, .f32⟩
  | .hbm, ⟨90, _⟩ => ⟨S4x64x8x64x256, .f32⟩
  | .hbm, ⟨91, _⟩ => ⟨S4x64x8x64x64, .f32⟩
  | .hbm, ⟨92, _⟩ => ⟨S4x64x64x8x64, .f32⟩
  | .hbm, ⟨93, _⟩ => ⟨S4x8x64x64x64, .f32⟩
  | .hbm, ⟨94, _⟩ => ⟨S4x64x64x8x64, .f32⟩
  | .hbm, ⟨95, _⟩ => ⟨S4x64x64x8x64, .f32⟩
  | .hbm, ⟨96, _⟩ => ⟨S4x4096x512, .f32⟩
  | .hbm, ⟨97, _⟩ => ⟨S4x4096x512, .bf16⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst : Ref sig .tc := ⟨.hbm, 75, rfl⟩
abbrev main_v54 : Ref sig .tc := ⟨.hbm, 76, rfl⟩
abbrev main_cst_9 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_10 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩

abbrev nD : Nat := 1
abbrev τ : Topo := Topo.v7x

variable {F : FTy → Type} [FloatOps F]
-- ==== Kernel2.lean ====
abbrev S384x64x1024 : Shape := ⟨3, ![384, 64, 1024]⟩
abbrev S384x64x128 : Shape := ⟨3, ![384, 64, 128]⟩
abbrev S52 : Shape := ⟨1, ![52]⟩
abbrev S416 : Shape := ⟨1, ![416]⟩
abbrev S64x1024x256 : Shape := ⟨3, ![64, 1024, 256]⟩
abbrev S64x256x1024 : Shape := ⟨3, ![64, 256, 1024]⟩
abbrev S416x64x1024 : Shape := ⟨3, ![416, 64, 1024]⟩
abbrev S1x64x1024 : Shape := ⟨3, ![1, 64, 1024]⟩
abbrev S1 : Shape := ⟨1, ![1]⟩
abbrev S1x64x128 : Shape := ⟨3, ![1, 64, 128]⟩
abbrev S4x1024x256 : Shape := ⟨3, ![4, 1024, 256]⟩
abbrev S4x256x1024 : Shape := ⟨3, ![4, 256, 1024]⟩
abbrev S8x64x1024 : Shape := ⟨3, ![8, 64, 1024]⟩
abbrev S64x1024 : Shape := ⟨2, ![64, 1024]⟩
abbrev S512x1024 : Shape := ⟨2, ![512, 1024]⟩
abbrev S64x128 : Shape := ⟨2, ![64, 128]⟩
abbrev S512x128 : Shape := ⟨2, ![512, 128]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 6
  | .vmem => 43
  | .smem => 4
  | _ => 0

abbrev bufTy : (tb : Table) → Fin (tcTables nBuf tb) → BufTy
  | .hbm, ⟨0, _⟩ => ⟨S384x64x1024, .bf16⟩
  | .hbm, ⟨1, _⟩ => ⟨S384x64x128, .f32⟩
  | .hbm, ⟨2, _⟩ => ⟨S64x1024x256, .f32⟩
  | .hbm, ⟨3, _⟩ => ⟨S64x1024x256, .f32⟩
  | .hbm, ⟨4, _⟩ => ⟨S64x256x1024, .f32⟩
  | .hbm, ⟨5, _⟩ => ⟨S416x64x1024, .bf16⟩
  | .local _ .vmem, ⟨0, _⟩ => ⟨S1x64x1024, .bf16⟩
  | .local _ .vmem, ⟨1, _⟩ => ⟨S1x64x1024, .bf16⟩
  | .local _ .vmem, ⟨2, _⟩ => ⟨S1x64x1024, .bf16⟩
  | .local _ .vmem, ⟨3, _⟩ => ⟨S1x64x1024, .bf16⟩
  | .local _ .vmem, ⟨4, _⟩ => ⟨S1x64x1024, .bf16⟩
  | .local _ .vmem, ⟨5, _⟩ => ⟨S1x64x1024, .bf16⟩
  | .local _ .vmem, ⟨6, _⟩ => ⟨S1x64x1024, .bf16⟩
  | .local _ .vmem, ⟨7, _⟩ => ⟨S1x64x1024, .bf16⟩
  | .local _ .vmem, ⟨8, _⟩ => ⟨S1x64x1024, .bf16⟩
  | .local _ .vmem, ⟨9, _⟩ => ⟨S1x64x1024, .bf16⟩
  | .local _ .vmem, ⟨10, _⟩ => ⟨S1x64x1024, .bf16⟩
  | .local _ .vmem, ⟨11, _⟩ => ⟨S1x64x1024, .bf16⟩
  | .local _ .vmem, ⟨12, _⟩ => ⟨S1x64x1024, .bf16⟩
  | .local _ .vmem, ⟨13, _⟩ => ⟨S1x64x1024, .bf16⟩
  | .local _ .vmem, ⟨14, _⟩ => ⟨S1x64x1024, .bf16⟩
  | .local _ .vmem, ⟨15, _⟩ => ⟨S1x64x1024, .bf16⟩
  | .local _ .vmem, ⟨16, _⟩ => ⟨S1x64x128, .f32⟩
  | .local _ .vmem, ⟨17, _⟩ => ⟨S1x64x128, .f32⟩
  | .local _ .vmem, ⟨18, _⟩ => ⟨S1x64x128, .f32⟩
  | .local _ .vmem, ⟨19, _⟩ => ⟨S1x64x128, .f32⟩
  | .local _ .vmem, ⟨20, _⟩ => ⟨S1x64x128, .f32⟩
  | .local _ .vmem, ⟨21, _⟩ => ⟨S1x64x128, .f32⟩
  | .local _ .vmem, ⟨22, _⟩ => ⟨S1x64x128, .f32⟩
  | .local _ .vmem, ⟨23, _⟩ => ⟨S1x64x128, .f32⟩
  | .local _ .vmem, ⟨24, _⟩ => ⟨S1x64x128, .f32⟩
  | .local _ .vmem, ⟨25, _⟩ => ⟨S1x64x128, .f32⟩
  | .local _ .vmem, ⟨26, _⟩ => ⟨S1x64x128, .f32⟩
  | .local _ .vmem, ⟨27, _⟩ => ⟨S1x64x128, .f32⟩
  | .local _ .vmem, ⟨28, _⟩ => ⟨S1x64x128, .f32⟩
  | .local _ .vmem, ⟨29, _⟩ => ⟨S1x64x128, .f32⟩
  | .local _ .vmem, ⟨30, _⟩ => ⟨S1x64x128, .f32⟩
  | .local _ .vmem, ⟨31, _⟩ => ⟨S1x64x128, .f32⟩
  | .local _ .vmem, ⟨32, _⟩ => ⟨S4x1024x256, .f32⟩
  | .local _ .vmem, ⟨33, _⟩ => ⟨S4x1024x256, .f32⟩
  | .local _ .vmem, ⟨34, _⟩ => ⟨S4x1024x256, .f32⟩
  | .local _ .vmem, ⟨35, _⟩ => ⟨S4x1024x256, .f32⟩
  | .local _ .vmem, ⟨36, _⟩ => ⟨S4x256x1024, .f32⟩
  | .local _ .vmem, ⟨37, _⟩ => ⟨S4x256x1024, .f32⟩
  | .local _ .vmem, ⟨38, _⟩ => ⟨S8x64x1024, .bf16⟩
  | .local _ .vmem, ⟨39, _⟩ => ⟨S8x64x1024, .bf16⟩
  | .local _ .vmem, ⟨40, _⟩ => ⟨S4x1024x256, .bf16⟩
  | .local _ .vmem, ⟨41, _⟩ => ⟨S4x1024x256, .bf16⟩
  | .local _ .vmem, ⟨42, _⟩ => ⟨S4x256x1024, .bf16⟩
  | .local _ .smem, ⟨0, _⟩ => ⟨S52, .i32⟩
  | .local _ .smem, ⟨1, _⟩ => ⟨S52, .i32⟩
  | .local _ .smem, ⟨2, _⟩ => ⟨S52, .i32⟩
  | .local _ .smem, ⟨3, _⟩ => ⟨S416, .i32⟩
  | _, _ => ⟨S384x64x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_v0 : Ref sig .tc := ⟨.hbm, 5, rfl⟩
abbrev main_arg2 : Ref sig .tc := ⟨.smem, 0, rfl⟩
abbrev main_arg3 : Ref sig .tc := ⟨.smem, 1, rfl⟩
abbrev main_arg4 : Ref sig .tc := ⟨.smem, 2, rfl⟩
abbrev main_arg5 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨1, ![52], ![false]⟩

abbrev pre0 : Pipeline.Prefetch sig := ⟨4, ![main_arg2.idx, main_arg3.idx, main_arg4.idx, main_arg5.idx], fun | 0 => main_arg2.names | 1 => main_arg3.names | 2 => main_arg4.names | 3 => main_arg5.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k0_off2 (i : grid0.Coords) : Fin 1 → Nat :=
  let arg0 : BitVec 32 := BitVec.ofNat 32 (i 0).val
  let v0 : Index := Scalar.indexCast arg0
  ![v0.toNat]
def k0_off3 (i : grid0.Coords) : Fin 1 → Nat :=
  let arg0 : BitVec 32 := BitVec.ofNat 32 (i 0).val
  let v5 : Index := Scalar.indexCast arg0
  ![v5.toNat]
def k0_off4 (i : grid0.Coords) : Fin 1 → Nat :=
  let arg0 : BitVec 32 := BitVec.ofNat 32 (i 0).val
  let v49 : Index := Scalar.indexCast arg0
  ![v49.toNat]
def k0_off5 (i : grid0.Coords) : Fin 1 → Nat :=
  let arg0 : BitVec 32 := BitVec.ofNat 32 (i 0).val
  let v10 : Index := Scalar.indexCast arg0
  ![v10.toNat]
def k0_cond2 (v6 : BitVec 32) : BitVec 1 :=
  let c0_i32_1 : BitVec 32 := 0#32
  let v7 : BitVec 1 := Scalar.cmpi .sgt v6 c0_i32_1
  let v8 : BitVec 32 := Scalar.extui v7
  let c0_i32_2 : BitVec 32 := 0#32
  let v9 : BitVec 1 := Scalar.cmpi .ne v8 c0_i32_2
  v9

def k0_cond3 (v11 : BitVec 32) : BitVec 1 :=
  let c0_i32_3 : BitVec 32 := 0#32
  let v12 : BitVec 1 := Scalar.cmpi .eq v11 c0_i32_3
  let v13 : BitVec 32 := Scalar.extui v12
  let c0_i32_4 : BitVec 32 := 0#32
  let v14 : BitVec 1 := Scalar.cmpi .ne v13 c0_i32_4
  v14

def cc0_transform_0 (k0_off1_inb : ∀ i : grid0.Coords, ∀ (r : Fin 8), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  let v3 : BitVec 32 := pf.at 3 (Rect.unit (s := S416) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_1 (k0_off1_inb : ∀ i : grid0.Coords, ∀ (r : Fin 8), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.addi v0 c1_i32
  let v2 : Index := Scalar.indexCast v1
  let v3 : BitVec 32 := pf.at 3 (Rect.unit (s := S416) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_2 (k0_off1_inb : ∀ i : grid0.Coords, ∀ (r : Fin 8), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c2_i32 : BitVec 32 := 2#32
  let v1 : BitVec 32 := Scalar.addi v0 c2_i32
  let v2 : Index := Scalar.indexCast v1
  let v3 : BitVec 32 := pf.at 3 (Rect.unit (s := S416) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_3 (k0_off1_inb : ∀ i : grid0.Coords, ∀ (r : Fin 8), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c3_i32 : BitVec 32 := 3#32
  let v1 : BitVec 32 := Scalar.addi v0 c3_i32
  let v2 : Index := Scalar.indexCast v1
  let v3 : BitVec 32 := pf.at 3 (Rect.unit (s := S416) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_4 (k0_off1_inb : ∀ i : grid0.Coords, ∀ (r : Fin 8), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c4_i32 : BitVec 32 := 4#32
  let v1 : BitVec 32 := Scalar.addi v0 c4_i32
  let v2 : Index := Scalar.indexCast v1
  let v3 : BitVec 32 := pf.at 3 (Rect.unit (s := S416) ![v2.toNat] S1.size (k0_off1_inb i 4)) numel1_S1
  let c0_i32 : BitVec 32 := 0#32
  let c0_i32_0 : BitVec 32 := 0#32
  let c0_i32_1 : BitVec 32 := 0#32
  ![v3.toNat, c0_i32.toNat, c0_i32_0.toNat]

def cc0_transform_5 (k0_off1_inb : ∀ i : grid0.Coords, ∀ (r : Fin 8), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c5_i32 : BitVec 32 := 5#32
  let v1 : BitVec 32 := Scalar.addi v0 c5_i32
  let v2 : Index := Scalar.indexCast v1
  let v3 : BitVec 32 := pf.at 3 (Rect.unit (s := S416) ![v2.toNat] S1.size (k0_off1_inb i 5)) numel1_S1
  let c0_i32 : BitVec 32 := 0#32
  let c0_i32_0 : BitVec 32 := 0#32
  let c0_i32_1 : BitVec 32 := 0#32
  ![v3.toNat, c0_i32.toNat, c0_i32_0.toNat]

def cc0_transform_6 (k0_off1_inb : ∀ i : grid0.Coords, ∀ (r : Fin 8), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c6_i32 : BitVec 32 := 6#32
  let v1 : BitVec 32 := Scalar.addi v0 c6_i32
  let v2 : Index := Scalar.indexCast v1
  let v3 : BitVec 32 := pf.at 3 (Rect.unit (s := S416) ![v2.toNat] S1.size (k0_off1_inb i 6)) numel1_S1
  let c0_i32 : BitVec 32 := 0#32
  let c0_i32_0 : BitVec 32 := 0#32
  let c0_i32_1 : BitVec 32 := 0#32
  ![v3.toNat, c0_i32.toNat, c0_i32_0.toNat]

def cc0_transform_7 (k0_off1_inb : ∀ i : grid0.Coords, ∀ (r : Fin 8), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c7_i32 : BitVec 32 := 7#32
  let v1 : BitVec 32 := Scalar.addi v0 c7_i32
  let v2 : Index := Scalar.indexCast v1
  let v3 : BitVec 32 := pf.at 3 (Rect.unit (s := S416) ![v2.toNat] S1.size (k0_off1_inb i 7)) numel1_S1
  let c0_i32 : BitVec 32 := 0#32
  let c0_i32_0 : BitVec 32 := 0#32
  let c0_i32_1 : BitVec 32 := 0#32
  ![v3.toNat, c0_i32.toNat, c0_i32_0.toNat]

def cc0_transform_8 (k0_off1_inb : ∀ i : grid0.Coords, ∀ (r : Fin 8), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  let v3 : BitVec 32 := pf.at 3 (Rect.unit (s := S416) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_9 (k0_off1_inb : ∀ i : grid0.Coords, ∀ (r : Fin 8), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.addi v0 c1_i32
  let v2 : Index := Scalar.indexCast v1
  let v3 : BitVec 32 := pf.at 3 (Rect.unit (s := S416) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_10 (k0_off1_inb : ∀ i : grid0.Coords, ∀ (r : Fin 8), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c2_i32 : BitVec 32 := 2#32
  let v1 : BitVec 32 := Scalar.addi v0 c2_i32
  let v2 : Index := Scalar.indexCast v1
  let v3 : BitVec 32 := pf.at 3 (Rect.unit (s := S416) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_11 (k0_off1_inb : ∀ i : grid0.Coords, ∀ (r : Fin 8), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c3_i32 : BitVec 32 := 3#32
  let v1 : BitVec 32 := Scalar.addi v0 c3_i32
  let v2 : Index := Scalar.indexCast v1
  let v3 : BitVec 32 := pf.at 3 (Rect.unit (s := S416) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_12 (k0_off1_inb : ∀ i : grid0.Coords, ∀ (r : Fin 8), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c4_i32 : BitVec 32 := 4#32
  let v1 : BitVec 32 := Scalar.addi v0 c4_i32
  let v2 : Index := Scalar.indexCast v1
  let v3 : BitVec 32 := pf.at 3 (Rect.unit (s := S416) ![v2.toNat] S1.size (k0_off1_inb i 4)) numel1_S1
  let c0_i32 : BitVec 32 := 0#32
  let c0_i32_0 : BitVec 32 := 0#32
  let c0_i32_1 : BitVec 32 := 0#32
  ![v3.toNat, c0_i32.toNat, c0_i32_0.toNat]

def cc0_transform_13 (k0_off1_inb : ∀ i : grid0.Coords, ∀ (r : Fin 8), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c5_i32 : BitVec 32 := 5#32
  let v1 : BitVec 32 := Scalar.addi v0 c5_i32
  let v2 : Index := Scalar.indexCast v1
  let v3 : BitVec 32 := pf.at 3 (Rect.unit (s := S416) ![v2.toNat] S1.size (k0_off1_inb i 5)) numel1_S1
  let c0_i32 : BitVec 32 := 0#32
  let c0_i32_0 : BitVec 32 := 0#32
  let c0_i32_1 : BitVec 32 := 0#32
  ![v3.toNat, c0_i32.toNat, c0_i32_0.toNat]

def cc0_transform_14 (k0_off1_inb : ∀ i : grid0.Coords, ∀ (r : Fin 8), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c6_i32 : BitVec 32 := 6#32
  let v1 : BitVec 32 := Scalar.addi v0 c6_i32
  let v2 : Index := Scalar.indexCast v1
  let v3 : BitVec 32 := pf.at 3 (Rect.unit (s := S416) ![v2.toNat] S1.size (k0_off1_inb i 6)) numel1_S1
  let c0_i32 : BitVec 32 := 0#32
  let c0_i32_0 : BitVec 32 := 0#32
  let c0_i32_1 : BitVec 32 := 0#32
  ![v3.toNat, c0_i32.toNat, c0_i32_0.toNat]

def cc0_transform_15 (k0_off1_inb : ∀ i : grid0.Coords, ∀ (r : Fin 8), ∀ a, (k0_off1 i (BitVec.ofNat 32 r.val)) a + S1.size a ≤ S416.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c7_i32 : BitVec 32 := 7#32
  let v1 : BitVec 32 := Scalar.addi v0 c7_i32
  let v2 : Index := Scalar.indexCast v1
  let v3 : BitVec 32 := pf.at 3 (Rect.unit (s := S416) ![v2.toNat] S1.size (k0_off1_inb i 7)) numel1_S1
  let c0_i32 : BitVec 32 := 0#32
  let c0_i32_0 : BitVec 32 := 0#32
  let c0_i32_1 : BitVec 32 := 0#32
  ![v3.toNat, c0_i32.toNat, c0_i32_0.toNat]

def cc0_transform_16 (k0_off2_inb : ∀ i : grid0.Coords, ∀ a, (k0_off2 i) a + S1.size a ≤ S52.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S52) ![v0.toNat] S1.size (k0_off2_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_17 (k0_off2_inb : ∀ i : grid0.Coords, ∀ a, (k0_off2 i) a + S1.size a ≤ S52.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S52) ![v0.toNat] S1.size (k0_off2_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_18 (k0_off2_inb : ∀ i : grid0.Coords, ∀ a, (k0_off2 i) a + S1.size a ≤ S52.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S52) ![v0.toNat] S1.size (k0_off2_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x1024x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x1024x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x64x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference2Ideal.lean ====
abbrev S384x64x1024 : Shape := ⟨3, ![384, 64, 1024]⟩
abbrev S384x64x128 : Shape := ⟨3, ![384, 64, 128]⟩
abbrev S52 : Shape := ⟨1, ![52]⟩
abbrev S416 : Shape := ⟨1, ![416]⟩
abbrev S64x1024x256 : Shape := ⟨3, ![64, 1024, 256]⟩
abbrev S64x256x1024 : Shape := ⟨3, ![64, 256, 1024]⟩
abbrev S_ : Shape := ⟨0, ![]⟩
abbrev S416x1 : Shape := ⟨2, ![416, 1]⟩
abbrev S416x64x1024 : Shape := ⟨3, ![416, 64, 1024]⟩
abbrev S52x512x1024 : Shape := ⟨3, ![52, 512, 1024]⟩
abbrev S416x64x128 : Shape := ⟨3, ![416, 64, 128]⟩
abbrev S52x512x128 : Shape := ⟨3, ![52, 512, 128]⟩
abbrev S52x512x16 : Shape := ⟨3, ![52, 512, 16]⟩
abbrev S16 : Shape := ⟨1, ![16]⟩
abbrev S1x16 : Shape := ⟨2, ![1, 16]⟩
abbrev S52x1 : Shape := ⟨2, ![52, 1]⟩
abbrev S52x16 : Shape := ⟨2, ![52, 16]⟩
abbrev S52x1x16 : Shape := ⟨3, ![52, 1, 16]⟩
abbrev S16x1024x256 : Shape := ⟨3, ![16, 1024, 256]⟩
abbrev S16x256x1024 : Shape := ⟨3, ![16, 256, 1024]⟩
abbrev S52x512x16x256 : Shape := ⟨4, ![52, 512, 16, 256]⟩
abbrev S52x512x16x1 : Shape := ⟨4, ![52, 512, 16, 1]⟩
abbrev S52x1x1 : Shape := ⟨3, ![52, 1, 1]⟩

abbrev nBuf : Space → Nat
  | .hbm => 91
  | .vmem => 0
  | .smem => 0
  | _ => 0

abbrev bufTy : (tb : Table) → Fin (tcTables nBuf tb) → BufTy
  | .hbm, ⟨0, _⟩ => ⟨S384x64x1024, .bf16⟩
  | .hbm, ⟨1, _⟩ => ⟨S384x64x128, .f32⟩
  | .hbm, ⟨2, _⟩ => ⟨S52, .i32⟩
  | .hbm, ⟨3, _⟩ => ⟨S52, .i32⟩
  | .hbm, ⟨4, _⟩ => ⟨S52, .i32⟩
  | .hbm, ⟨5, _⟩ => ⟨S416, .i32⟩
  | .hbm, ⟨6, _⟩ => ⟨S64x1024x256, .f32⟩
  | .hbm, ⟨7, _⟩ => ⟨S64x1024x256, .f32⟩
  | .hbm, ⟨8, _⟩ => ⟨S64x256x1024, .f32⟩
  | .hbm, ⟨9, _⟩ => ⟨S384x64x1024, .f32⟩
  | .hbm, ⟨10, _⟩ => ⟨S_, .i32⟩
  | .hbm, ⟨11, _⟩ => ⟨S416, .i32⟩
  | .hbm, ⟨12, _⟩ => ⟨S416, .i1⟩
  | .hbm, ⟨13, _⟩ => ⟨S_, .i32⟩
  | .hbm, ⟨14, _⟩ => ⟨S416, .i32⟩
  | .hbm, ⟨15, _⟩ => ⟨S416, .i32⟩
  | .hbm, ⟨16, _⟩ => ⟨S416, .i32⟩
  | .hbm, ⟨17, _⟩ => ⟨S416x1, .i32⟩
  | .hbm, ⟨18, _⟩ => ⟨S416x64x1024, .f32⟩
  | .hbm, ⟨19, _⟩ => ⟨S52x512x1024, .f32⟩
  | .hbm, ⟨20, _⟩ => ⟨S_, .i32⟩
  | .hbm, ⟨21, _⟩ => ⟨S416, .i32⟩
  | .hbm, ⟨22, _⟩ => ⟨S416, .i1⟩
  | .hbm, ⟨23, _⟩ => ⟨S_, .i32⟩
  | .hbm, ⟨24, _⟩ => ⟨S416, .i32⟩
  | .hbm, ⟨25, _⟩ => ⟨S416, .i32⟩
  | .hbm, ⟨26, _⟩ => ⟨S416, .i32⟩
  | .hbm, ⟨27, _⟩ => ⟨S416x1, .i32⟩
  | .hbm, ⟨28, _⟩ => ⟨S416x64x128, .f32⟩
  | .hbm, ⟨29, _⟩ => ⟨S52x512x128, .f32⟩
  | .hbm, ⟨30, _⟩ => ⟨S52x512x16, .f32⟩
  | .hbm, ⟨31, _⟩ => ⟨S16, .i32⟩
  | .hbm, ⟨32, _⟩ => ⟨S_, .i32⟩
  | .hbm, ⟨33, _⟩ => ⟨S_, .i32⟩
  | .hbm, ⟨34, _⟩ => ⟨S16, .i32⟩
  | .hbm, ⟨35, _⟩ => ⟨S16, .i32⟩
  | .hbm, ⟨36, _⟩ => ⟨S16, .i32⟩
  | .hbm, ⟨37, _⟩ => ⟨S_, .i32⟩
  | .hbm, ⟨38, _⟩ => ⟨S16, .i32⟩
  | .hbm, ⟨39, _⟩ => ⟨S16, .i1⟩
  | .hbm, ⟨40, _⟩ => ⟨S16, .i32⟩
  | .hbm, ⟨41, _⟩ => ⟨S16, .i32⟩
  | .hbm, ⟨42, _⟩ => ⟨S_, .i32⟩
  | .hbm, ⟨43, _⟩ => ⟨S16, .i32⟩
  | .hbm, ⟨44, _⟩ => ⟨S16, .i1⟩
  | .hbm, ⟨45, _⟩ => ⟨S16, .i1⟩
  | .hbm, ⟨46, _⟩ => ⟨S_, .i32⟩
  | .hbm, ⟨47, _⟩ => ⟨S16, .i32⟩
  | .hbm, ⟨48, _⟩ => ⟨S16, .i32⟩
  | .hbm, ⟨49, _⟩ => ⟨S16, .i32⟩
  | .hbm, ⟨50, _⟩ => ⟨S1x16, .i32⟩
  | .hbm, ⟨51, _⟩ => ⟨S52x1, .i32⟩
  | .hbm, ⟨52, _⟩ => ⟨S52x16, .i32⟩
  | .hbm, ⟨53, _⟩ => ⟨S52x16, .i32⟩
  | .hbm, ⟨54, _⟩ => ⟨S52x16, .i1⟩
  | .hbm, ⟨55, _⟩ => ⟨S52x1x16, .i1⟩
  | .hbm, ⟨56, _⟩ => ⟨S_, .f32⟩
  | .hbm, ⟨57, _⟩ => ⟨S_, .f32⟩
  | .hbm, ⟨58, _⟩ => ⟨S52x512x16, .i1⟩
  | .hbm, ⟨59, _⟩ => ⟨S52x512x16, .f32⟩
  | .hbm, ⟨60, _⟩ => ⟨S52x512x16, .f32⟩
  | .hbm, ⟨61, _⟩ => ⟨S16x1024x256, .f32⟩
  | .hbm, ⟨62, _⟩ => ⟨S16x1024x256, .f32⟩
  | .hbm, ⟨63, _⟩ => ⟨S16x256x1024, .f32⟩
  | .hbm, ⟨64, _⟩ => ⟨S52x512x16x256, .f32⟩
  | .hbm, ⟨65, _⟩ => ⟨S52x512x16x256, .f32⟩
  | .hbm, ⟨66, _⟩ => ⟨S52x512x16x256, .f32⟩
  | .hbm, ⟨67, _⟩ => ⟨S_, .f32⟩
  | .hbm, ⟨68, _⟩ => ⟨S52x512x16x256, .f32⟩
  | .hbm, ⟨69, _⟩ => ⟨S52x512x16x256, .f32⟩
  | .hbm, ⟨70, _⟩ => ⟨S_, .f32⟩
  | .hbm, ⟨71, _⟩ => ⟨S52x512x16x256, .f32⟩
  | .hbm, ⟨72, _⟩ => ⟨S52x512x16x256, .f32⟩
  | .hbm, ⟨73, _⟩ => ⟨S52x512x16x256, .f32⟩
  | .hbm, ⟨74, _⟩ => ⟨S52x512x16x256, .f32⟩
  | .hbm, ⟨75, _⟩ => ⟨S52x512x16x256, .f32⟩
  | .hbm, ⟨76, _⟩ => ⟨S52x512x16x1, .f32⟩
  | .hbm, ⟨77, _⟩ => ⟨S52x512x16x256, .f32⟩
  | .hbm, ⟨78, _⟩ => ⟨S52x512x16x256, .f32⟩
  | .hbm, ⟨79, _⟩ => ⟨S52x512x1024, .f32⟩
  | .hbm, ⟨80, _⟩ => ⟨S_, .i32⟩
  | .hbm, ⟨81, _⟩ => ⟨S52, .i32⟩
  | .hbm, ⟨82, _⟩ => ⟨S52, .i1⟩
  | .hbm, ⟨83, _⟩ => ⟨S52x1x1, .i1⟩
  | .hbm, ⟨84, _⟩ => ⟨S_, .f32⟩
  | .hbm, ⟨85, _⟩ => ⟨S_, .f32⟩
  | .hbm, ⟨86, _⟩ => ⟨S52x512x1024, .i1⟩
  | .hbm, ⟨87, _⟩ => ⟨S52x512x1024, .f32⟩
  | .hbm, ⟨88, _⟩ => ⟨S52x512x1024, .f32⟩
  | .hbm, ⟨89, _⟩ => ⟨S416x64x1024, .f32⟩
  | .hbm, ⟨90, _⟩ => ⟨S416x64x1024, .bf16⟩
  | _, _ => ⟨S384x64x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_c : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_call2_v0 : Ref sig .tc := ⟨.hbm, 65, rfl⟩
abbrev main_call2_v1 : Ref sig .tc := ⟨.hbm, 66, rfl⟩
abbrev main_call2_cst : Ref sig .tc := ⟨.hbm, 67, rfl⟩
abbrev main_call2_v2 : Ref sig .tc := ⟨.hbm, 68, rfl⟩
abbrev main_call2_v3 : Ref sig .tc := ⟨.hbm, 69, rfl⟩
abbrev main_call2_cst_0 : Ref sig .tc := ⟨.hbm, 70, rfl⟩
abbrev main_call2_v4 : Ref sig .tc := ⟨.hbm, 71, rfl⟩
abbrev main_call2_v5 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_c_4 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_cst_5 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩

abbrev nD : Nat := 1
abbrev τ : Topo := Topo.v7x

variable {F : FTy → Type} [FloatOps F]
-- ==== Proof.Stages.lean ====
/- The stages of one grid point of the kernel, as named functions of the vectors it loads: the stacked queries of a head
   pair, the scores of a row against its band, the row maximum, the exponentials, the reciprocal of the denominator,
   and what each store writes. A head pair is two heads side by side in 128 lanes; its two heads are stacked
   over 128 rows, the first 64 rows for the first head and the last 64 for the second. -/
module

public import proofs.«01_k».proof.Proof.Gen.KernelIdeal.Value

@[expose] public section

set_option maxRecDepth 16384

noncomputable section

namespace Cert.KernelIdeal.Stages

open Cert.KernelIdeal Cert.KernelIdeal.Gen Idealize.ShloMosaic Idealize.ShloMosaic.TcCoe Idealize.SL.Sem

variable {F : FTy → Type} [FloatOps F]

/-- The 64 queries of one row for a head pair, stacked: rows 0–63 keep the lanes of the first head, rows 64–127 those
    of the second, and the other lanes are zero. -/
def qStack (q : Vec F S1x64x128 .bf16) : FVec F S128x128 .bf16 :=
  concatenate S128x128 0
    [⟨S64x128, select (cmpi .slt (iota .tc S64x128 32 [1] iota_S64x128_d1_w32) (broadcast S64x128 64#32))
        (shapeCast S64x128 q shapeCasts_S1x64x128_S64x128) (broadcast S64x128 (Scalar.ofBits .bf16 0x0000#16))⟩,
      ⟨S64x128, select (cmpi .slt (iota .tc S64x128 32 [1] iota_S64x128_d1_w32) (broadcast S64x128 64#32))
        (broadcast S64x128 (Scalar.ofBits .bf16 0x0000#16)) (shapeCast S64x128 q shapeCasts_S1x64x128_S64x128)⟩]
    concatenates_S64x128_S64x128_S128x128_d0

/-- The scores of the stacked queries against the 512 keys of the band, with the two heads' biases added. -/
def sWin (q : Vec F S1x64x128 .bf16) (k : Vec F S1x512x128 .bf16) (ba bb : Vec F S1x1x64x512 .f32) : FVec F S128x512 .f32 :=
  addf (matmul dot_S128x128_S512x128_S128x512_1_1_0_0_n_n none (qStack q)
      (shapeCast S512x128 k shapeCasts_S1x512x128_S512x128) (constant S128x512 .f32 0x00000000#32))
    (concatenate S128x512 0 [⟨S64x512, shapeCast S64x512 ba shapeCasts_S1x1x64x512_S64x512⟩,
      ⟨S64x512, shapeCast S64x512 bb shapeCasts_S1x1x64x512_S64x512⟩] concatenates_S64x512_S64x512_S128x512_d0)

/-- The scores against the 256 context keys, as loaded. -/
def sCtx (sc : Vec F S1x128x256 .f32) : FVec F S128x256 .f32 := shapeCast S128x256 sc shapeCasts_S1x128x256_S128x256

/-- The maximum of each row over both kinds of scores. -/
def rowMax (s : FVec F S128x512 .f32) (c : FVec F S128x256 .f32) : FVec F S128x1 .f32 :=
  maximumf
    (shapeCast S128x1 (multiReduction .maximumf [1] S128 s 0xFF800000#32 reduces_S128x512_S128 (.inl rfl) rfl) shapeCasts_S128_S128x1)
    (shapeCast S128x1 (multiReduction .maximumf [1] S128 c 0xFF800000#32 reduces_S128x256_S128 (.inl rfl) rfl) shapeCasts_S128_S128x1)

/-- The exponentials of the band's scores less the row maximum. -/
def pWin (s : FVec F S128x512 .f32) (c : FVec F S128x256 .f32) : FVec F S128x512 .f32 :=
  exp (subf s (broadcastTo S128x512 (rowMax s c) broadcasts_S128x1_S128x512))

/-- The exponentials of the context's scores less the row maximum. -/
def pCtx (s : FVec F S128x512 .f32) (c : FVec F S128x256 .f32) : FVec F S128x256 .f32 :=
  exp (subf c (broadcastTo S128x256 (rowMax s c) broadcasts_S128x1_S128x256))

/-- One over the sum of all the exponentials of a row. -/
def rden (s : FVec F S128x512 .f32) (c : FVec F S128x256 .f32) : FVec F S128x1 .f32 :=
  divf (broadcast S128x1 (Scalar.ofBits .f32 0x3F800000#32))
    (addf
      (shapeCast S128x1 (multiReduction .add [1] S128 (pWin s c) 0x00000000#32 reduces_S128x512_S128 (.inl rfl) rfl) shapeCasts_S128_S128x1)
      (shapeCast S128x1 (multiReduction .add [1] S128 (pCtx s c) 0x00000000#32 reduces_S128x256_S128 (.inl rfl) rfl) shapeCasts_S128_S128x1))

/-- What a row stores of the band's part: the exponentials times the values, scaled. -/
def owRow (s : FVec F S128x512 .f32) (c : FVec F S128x256 .f32) (v : Vec F S1x512x128 .bf16) : FVec F S1x128x128 .f32 :=
  shapeCast S1x128x128
    (mulf (matmul dot_S128x512_S512x128_S128x128_1_0_0_1_n_n none (truncf .bf16 (pWin s c) bitsLt_bf16_f32)
        (shapeCast S512x128 v shapeCasts_S1x512x128_S512x128) (constant S128x128 .f32 0x00000000#32))
      (broadcastTo S128x128 (rden s c) broadcasts_S128x1_S128x128))
    shapeCasts_S128x128_S1x128x128

/-- What a row stores of the context's part: the scaled exponentials. -/
def pcRow (s : FVec F S128x512 .f32) (c : FVec F S128x256 .f32) : FVec F S1x128x256 .bf16 :=
  shapeCast S1x128x256 (truncf .bf16 (mulf (pCtx s c) (broadcastTo S128x256 (rden s c) broadcasts_S128x1_S128x256)) bitsLt_bf16_f32)
    shapeCasts_S128x256_S1x128x256

/-- The scores of eight rows' stacked queries against the context keys, for a head pair. -/
def scAll (q : Vec F S1x512x128 .bf16) (kc : Vec F S1x256x128 .bf16) : FVec F S1x1024x256 .f32 :=
  shapeCast S1x1024x256
    (matmul dot_S1024x128_S256x128_S1024x256_1_1_0_0_n_n none
      (shapeCast S1024x128
        (concatenate S8x128x128 1
          [⟨S8x64x128, select (cmpi .slt (iota .tc S8x64x128 32 [2] iota_S8x64x128_d2_w32) (broadcast S8x64x128 64#32))
              (shapeCast S8x64x128 (shapeCast S512x128 q shapeCasts_S1x512x128_S512x128) shapeCasts_S512x128_S8x64x128)
              (broadcast S8x64x128 (Scalar.ofBits .bf16 0x0000#16))⟩,
            ⟨S8x64x128, select (cmpi .slt (iota .tc S8x64x128 32 [2] iota_S8x64x128_d2_w32) (broadcast S8x64x128 64#32))
              (broadcast S8x64x128 (Scalar.ofBits .bf16 0x0000#16))
              (shapeCast S8x64x128 (shapeCast S512x128 q shapeCasts_S1x512x128_S512x128) shapeCasts_S512x128_S8x64x128)⟩]
          concatenates_S8x64x128_S8x64x128_S8x128x128_d1)
        shapeCasts_S8x128x128_S1024x128)
      (shapeCast S256x128 kc shapeCasts_S1x256x128_S256x128) (constant S1024x256 .f32 0x00000000#32))
    shapeCasts_S1024x256_S1x1024x256

/-- What a head pair writes of the result: the two parts added, and each lane taken from the stack of its head. -/
def outPair (ow : Vec F S1x1024x128 .f32) (pc : Vec F S1x1024x256 .bf16) (vc : Vec F S1x256x128 .bf16) : FVec F S1x512x128 .bf16 :=
  let o : FVec F S8x128x128 .f32 :=
    shapeCast S8x128x128
      (addf (shapeCast S1024x128 ow shapeCasts_S1x1024x128_S1024x128)
        (matmul dot_S1024x256_S256x128_S1024x128_1_0_0_1_n_n none (shapeCast S1024x256 pc shapeCasts_S1x1024x256_S1024x256)
          (shapeCast S256x128 vc shapeCasts_S1x256x128_S256x128) (constant S1024x128 .f32 0x00000000#32)))
      shapeCasts_S1024x128_S8x128x128
  shapeCast S1x512x128
    (truncf .bf16
      (shapeCast S512x128
        (select (cmpi .slt (iota .tc S8x64x128 32 [2] iota_S8x64x128_d2_w32) (broadcast S8x64x128 64#32))
          (extractStridedSlice S8x64x128 ![0, 0, 0] o slices_S8x128x128_o0_0_0_S8x64x128)
          (extractStridedSlice S8x64x128 ![0, 64, 0] o slices_S8x128x128_o0_64_0_S8x64x128))
        shapeCasts_S8x64x128_S512x128) bitsLt_bf16_f32)
    shapeCasts_S512x128_S1x512x128

/-! ## The four head pairs' and eight rows' loads and stores -/

/-- Where head pair `hp` loads the keys and values of row `j`'s band. -/
def offK (i : grid0.Coords) (hp : Fin 4) (j : Fin 8) : Fin 3 → Nat :=
  match hp with
  | 0 => k0_off5 i (BitVec.ofNat 32 j.val)
  | 1 => k0_off8 i (BitVec.ofNat 32 j.val)
  | 2 => k0_off11 i (BitVec.ofNat 32 j.val)
  | 3 => k0_off14 i (BitVec.ofNat 32 j.val)

/-- Where head pair `hp` loads its first head's bias for row `j`. -/
def offA (i : grid0.Coords) (hp : Fin 4) (j : Fin 8) : Fin 4 → Nat :=
  match hp with
  | 0 => k0_off6 i (BitVec.ofNat 32 j.val)
  | 1 => k0_off9 i (BitVec.ofNat 32 j.val)
  | 2 => k0_off12 i (BitVec.ofNat 32 j.val)
  | 3 => k0_off15 i (BitVec.ofNat 32 j.val)

/-- Where head pair `hp` loads its second head's bias for row `j`. -/
def offB (i : grid0.Coords) (hp : Fin 4) (j : Fin 8) : Fin 4 → Nat :=
  match hp with
  | 0 => k0_off7 i (BitVec.ofNat 32 j.val)
  | 1 => k0_off10 i (BitVec.ofNat 32 j.val)
  | 2 => k0_off13 i (BitVec.ofNat 32 j.val)
  | 3 => k0_off16 i (BitVec.ofNat 32 j.val)

theorem offK_inb (i : grid0.Coords) (hp : Fin 4) (j : Fin 8) (a) : offK i hp j a + S1x512x128.size a ≤ S1x4096x512.size a :=
  match hp with
  | 0 => k0_off5_inb i j a
  | 1 => k0_off8_inb i j a
  | 2 => k0_off11_inb i j a
  | 3 => k0_off14_inb i j a

theorem offA_inb (i : grid0.Coords) (hp : Fin 4) (j : Fin 8) (a) : offA i hp j a + S1x1x64x512.size a ≤ S8x8x64x512.size a :=
  match hp with
  | 0 => k0_off6_inb i j a
  | 1 => k0_off9_inb i j a
  | 2 => k0_off12_inb i j a
  | 3 => k0_off15_inb i j a

theorem offB_inb (i : grid0.Coords) (hp : Fin 4) (j : Fin 8) (a) : offB i hp j a + S1x1x64x512.size a ≤ S8x8x64x512.size a :=
  match hp with
  | 0 => k0_off7_inb i j a
  | 1 => k0_off10_inb i j a
  | 2 => k0_off13_inb i j a
  | 3 => k0_off16_inb i j a

theorem inbQ : ∀ (hp : Fin 4) (j : Fin 8) (a : Fin 3), (![0, 64 * j.val, 128 * hp.val] : Fin 3 → Nat) a + S1x64x128.size a ≤ S1x512x512.size a := by decide
theorem inbS : ∀ (hp : Fin 4) (j : Fin 8) (a : Fin 3), (![hp.val, 128 * j.val, 0] : Fin 3 → Nat) a + S1x128x256.size a ≤ S4x1024x256.size a := by decide
theorem inbO : ∀ (hp : Fin 4) (j : Fin 8) (a : Fin 3), (![hp.val, 128 * j.val, 0] : Fin 3 → Nat) a + S1x128x128.size a ≤ S4x1024x128.size a := by decide
theorem inbQ8 : ∀ (hp : Fin 4) (a : Fin 3), (![0, 0, 128 * hp.val] : Fin 3 → Nat) a + S1x512x128.size a ≤ S1x512x512.size a := by decide
theorem inbC : ∀ (hp : Fin 4) (a : Fin 3), (![0, 0, 128 * hp.val] : Fin 3 → Nat) a + S1x256x128.size a ≤ S1x256x512.size a := by decide
theorem inbS8 : ∀ (hp : Fin 4) (a : Fin 3), (![hp.val, 0, 0] : Fin 3 → Nat) a + S1x1024x256.size a ≤ S4x1024x256.size a := by decide
theorem inbO8 : ∀ (hp : Fin 4) (a : Fin 3), (![hp.val, 0, 0] : Fin 3 → Nat) a + S1x1024x128.size a ≤ S4x1024x128.size a := by decide

/-- The scores of row `j` and head pair `hp` against the band. -/
def sRow (i : grid0.Coords) (x0 : Vec F S1x512x512 .bf16) (x1 : Vec F S1x4096x512 .bf16) (x5 : Vec F S8x8x64x512 .f32)
    (hp : Fin 4) (j : Fin 8) : FVec F S128x512 .f32 :=
  sWin (View.ld x0 (Rect.unit (s := S1x512x512) ![0, 64 * j.val, 128 * hp.val] S1x64x128.size (inbQ hp j)))
    (View.ld x1 (Rect.unit (s := S1x4096x512) (offK i hp j) S1x512x128.size (offK_inb i hp j)))
    (View.ld x5 (Rect.unit (s := S8x8x64x512) (offA i hp j) S1x1x64x512.size (offA_inb i hp j)))
    (View.ld x5 (Rect.unit (s := S8x8x64x512) (offB i hp j) S1x1x64x512.size (offB_inb i hp j)))

/-- The scores of row `j` and head pair `hp` against the context, read from the stored ones `sc`. -/
def cRow (sc : Vec F S4x1024x256 .f32) (hp : Fin 4) (j : Fin 8) : FVec F S128x256 .f32 :=
  sCtx (View.ld sc (Rect.unit (s := S4x1024x256) ![hp.val, 128 * j.val, 0] S1x128x256.size (inbS hp j)))

/-- The store of the context's scores by head pair `hp`. -/
def scPc (x0 : Vec F S1x512x512 .bf16) (x3 : Vec F S1x256x512 .bf16) (hp : Fin 4) : View.Piece (Elt F) S4x1024x256 .f32 :=
  ⟨Rect.unit (s := S4x1024x256) ![hp.val, 0, 0] S1x1024x256.size (inbS8 hp),
    scAll (View.ld x0 (Rect.unit (s := S1x512x512) ![0, 0, 128 * hp.val] S1x512x128.size (inbQ8 hp)))
      (View.ld x3 (Rect.unit (s := S1x256x512) ![0, 0, 128 * hp.val] S1x256x128.size (inbC hp)))⟩

/-- The store of the band's part by row `j` and head pair `hp`. -/
def owPc (i : grid0.Coords) (x0 : Vec F S1x512x512 .bf16) (x1 x2 : Vec F S1x4096x512 .bf16) (sc : Vec F S4x1024x256 .f32)
    (x5 : Vec F S8x8x64x512 .f32) (hp : Fin 4) (j : Fin 8) : View.Piece (Elt F) S4x1024x128 .f32 :=
  ⟨Rect.unit (s := S4x1024x128) ![hp.val, 128 * j.val, 0] S1x128x128.size (inbO hp j),
    owRow (sRow i x0 x1 x5 hp j) (cRow sc hp j)
      (View.ld x2 (Rect.unit (s := S1x4096x512) (offK i hp j) S1x512x128.size (offK_inb i hp j)))⟩

/-- The store of the context's part by row `j` and head pair `hp`. -/
def pcPc (i : grid0.Coords) (x0 : Vec F S1x512x512 .bf16) (x1 : Vec F S1x4096x512 .bf16) (sc : Vec F S4x1024x256 .f32)
    (x5 : Vec F S8x8x64x512 .f32) (hp : Fin 4) (j : Fin 8) : View.Piece (Elt F) S4x1024x256 .bf16 :=
  ⟨Rect.unit (s := S4x1024x256) ![hp.val, 128 * j.val, 0] S1x128x256.size (inbS hp j),
    pcRow (sRow i x0 x1 x5 hp j) (cRow sc hp j)⟩

/-- The store of the result by head pair `hp`. -/
def outPc (ow : Vec F S4x1024x128 .f32) (pc : Vec F S4x1024x256 .bf16) (x4 : Vec F S1x256x512 .bf16) (hp : Fin 4) :
    View.Piece (Elt F) S1x512x512 .bf16 :=
  ⟨Rect.unit (s := S1x512x512) ![0, 0, 128 * hp.val] S1x512x128.size (inbQ8 hp),
    outPair (View.ld ow (Rect.unit (s := S4x1024x128) ![hp.val, 0, 0] S1x1024x128.size (inbO8 hp)))
      (View.ld pc (Rect.unit (s := S4x1024x256) ![hp.val, 0, 0] S1x1024x256.size (inbS8 hp)))
      (View.ld x4 (Rect.unit (s := S1x256x512) ![0, 0, 128 * hp.val] S1x256x128.size (inbC hp)))⟩

/-- The stores of all eight rows and four head pairs, the last first. -/
def rowsOf {s : Shape} {e : EltTy} (P : Fin 4 → Fin 8 → View.Piece (Elt F) s e) : List (View.Piece (Elt F) s e) :=
  [P 3 7, P 2 7, P 1 7, P 0 7, P 3 6, P 2 6, P 1 6, P 0 6, P 3 5, P 2 5, P 1 5, P 0 5, P 3 4, P 2 4, P 1 4, P 0 4,
    P 3 3, P 2 3, P 1 3, P 0 3, P 3 2, P 2 2, P 1 2, P 0 2, P 3 1, P 2 1, P 1 1, P 0 1, P 3 0, P 2 0, P 1 0, P 0 0]

/-- The stores of the four head pairs, the last first. -/
def pairsOf {s : Shape} {e : EltTy} (P : Fin 4 → View.Piece (Elt F) s e) : List (View.Piece (Elt F) s e) := [P 3, P 2, P 1, P 0]

end Cert.KernelIdeal.Stages
-- ==== Proof.Matched.lean ====
/- The stores that the kernel's run found are the ones named in `Stages`. -/
module

public import proofs.«01_k».proof.Proof.Stages

@[expose] public section

set_option maxRecDepth 16384

noncomputable section

namespace Cert.KernelIdeal.Stages

open Cert.KernelIdeal Cert.KernelIdeal.Gen Idealize.ShloMosaic Idealize.ShloMosaic.TcCoe Idealize.SL.Sem

variable {F : FTy → Type} [FloatOps F]
variable (c : Dev nD) (i : grid0.Coords)
  (arg2 : Memref sig .tc .vmem S1x512x512 .bf16) (harg2 : arg2.IsWhole)
  (arg3 : Memref sig .tc .vmem S1x4096x512 .bf16) (harg3 : arg3.IsWhole)
  (arg4 : Memref sig .tc .vmem S1x4096x512 .bf16) (harg4 : arg4.IsWhole)
  (arg5 : Memref sig .tc .vmem S1x256x512 .bf16) (harg5 : arg5.IsWhole)
  (arg6 : Memref sig .tc .vmem S1x256x512 .bf16) (harg6 : arg6.IsWhole)
  (arg7 : Memref sig .tc .vmem S8x8x64x512 .f32) (harg7 : arg7.IsWhole)
  (arg8 : Memref sig .tc .vmem S1x512x512 .bf16) (harg8 : arg8.IsWhole)
  (arg9 : Memref sig .tc .vmem S4x1024x256 .f32) (harg9 : arg9.IsWhole)
  (arg10 : Memref sig .tc .vmem S4x1024x128 .f32) (harg10 : arg10.IsWhole)
  (arg11 : Memref sig .tc .vmem S4x1024x256 .bf16) (harg11 : arg11.IsWhole)
  (x0 : Vec F S1x512x512 .bf16) (x1 : Vec F S1x4096x512 .bf16) (x2 : Vec F S1x4096x512 .bf16)
  (x3 : Vec F S1x256x512 .bf16) (x4 : Vec F S1x256x512 .bf16) (x5 : Vec F S8x8x64x512 .f32)

theorem sc_eq :
    kernelRun0_A.sl.HS0_4 c arg2 harg2 arg5 harg5 x0 x3
      = pairsOf (scPc (arg2.view.read (Elt F) (harg2.unread x0)) (arg5.view.read (Elt F) (harg5.unread x3))) := rfl

/-- What the store of the context's scores holds once the four head pairs have written it. -/
def scArr (x0 : Vec F S1x512x512 .bf16) (x3 : Vec F S1x256x512 .bf16) : Vec F S4x1024x256 .f32 :=
  arg9.view.read (Elt F) (arg9.view.writes (Elt F) arg9.view.junk (pairsOf (scPc x0 x3)))

theorem ow_eq :
    kernelRun0_A.sl.HS1_32 c i arg2 harg2 arg3 harg3 arg4 harg4 arg5 harg5 arg7 harg7 arg9 x0 x1 x2 x3 x5
      = rowsOf (owPc i (arg2.view.read (Elt F) (harg2.unread x0)) (arg3.view.read (Elt F) (harg3.unread x1))
          (arg4.view.read (Elt F) (harg4.unread x2))
          (scArr arg9 (arg2.view.read (Elt F) (harg2.unread x0)) (arg5.view.read (Elt F) (harg5.unread x3)))
          (arg7.view.read (Elt F) (harg7.unread x5))) := rfl

theorem pc_eq :
    kernelRun0_A.sl.HS2_32 c i arg2 harg2 arg3 harg3 arg5 harg5 arg7 harg7 arg9 x0 x1 x3 x5
      = rowsOf (pcPc i (arg2.view.read (Elt F) (harg2.unread x0)) (arg3.view.read (Elt F) (harg3.unread x1))
          (scArr arg9 (arg2.view.read (Elt F) (harg2.unread x0)) (arg5.view.read (Elt F) (harg5.unread x3)))
          (arg7.view.read (Elt F) (harg7.unread x5))) := rfl

/-- What the store of the band's parts holds once all rows have written it. -/
def owArr (x0 : Vec F S1x512x512 .bf16) (x1 x2 : Vec F S1x4096x512 .bf16) (sc : Vec F S4x1024x256 .f32)
    (x5 : Vec F S8x8x64x512 .f32) : Vec F S4x1024x128 .f32 :=
  arg10.view.read (Elt F) (arg10.view.writes (Elt F) arg10.view.junk (rowsOf (owPc i x0 x1 x2 sc x5)))

/-- What the store of the context's parts holds once all rows have written it. -/
def pcArr (x0 : Vec F S1x512x512 .bf16) (x1 : Vec F S1x4096x512 .bf16) (sc : Vec F S4x1024x256 .f32)
    (x5 : Vec F S8x8x64x512 .f32) : Vec F S4x1024x256 .bf16 :=
  arg11.view.read (Elt F) (arg11.view.writes (Elt F) arg11.view.junk (rowsOf (pcPc i x0 x1 sc x5)))

theorem out_eq :
    (kernelRun0_A c i arg2 harg2 arg3 harg3 arg4 harg4 arg5 harg5 arg6 harg6 arg7 harg7 arg8 harg8 arg9 harg9 arg10 harg10 arg11 harg11 x0 x1 x2 x3 x4 x5).1
      = pairsOf (outPc
          (owArr i arg10 (arg2.view.read (Elt F) (harg2.unread x0)) (arg3.view.read (Elt F) (harg3.unread x1))
            (arg4.view.read (Elt F) (harg4.unread x2))
            (scArr arg9 (arg2.view.read (Elt F) (harg2.unread x0)) (arg5.view.read (Elt F) (harg5.unread x3)))
            (arg7.view.read (Elt F) (harg7.unread x5)))
          (pcArr i arg11 (arg2.view.read (Elt F) (harg2.unread x0)) (arg3.view.read (Elt F) (harg3.unread x1))
            (scArr arg9 (arg2.view.read (Elt F) (harg2.unread x0)) (arg5.view.read (Elt F) (harg5.unread x3)))
            (arg7.view.read (Elt F) (harg7.unread x5)))
          (arg6.view.read (Elt F) (harg6.unread x4))) := rfl

/-- What a grid point leaves in the result's block, from the blocks it was given. -/
theorem out0_eq :
    out0_A_6 c i arg2 harg2 arg3 harg3 arg4 harg4 arg5 harg5 arg6 harg6 arg7 harg7 arg8 harg8 arg9 harg9 arg10 harg10 arg11 harg11 x0 x1 x2 x3 x4 x5
      = VO0_6.read (Elt F) (VO0_6.writes (Elt F) VO0_6.junk (pairsOf (outPc
          (owArr i arg10 x0 x1 x2 (scArr arg9 x0 x3) x5) (pcArr i arg11 x0 x1 (scArr arg9 x0 x3) x5) x4))) := by
  unfold out0_A_6
  rw [out_eq]
  simp only [Memref.IsWhole.read_unread]

end Cert.KernelIdeal.Stages
-- ==== Proof.Spec.lean ====
/- The neighbourhood attention at one output element, over plain functions: the scores of a query against the 512
   keys of its band and the 256 context keys, and the two ways of weighing the values by the softmax of the scores.
   A query lies in one of 64 rows of 64; the band of row `r` is the eight rows from `start r`. -/
module

public import Idealize.ShloMosaic.Lib.Pointwise
public import Idealize.ShloMosaic.PureOps.Ideal

@[expose] public section

noncomputable section

namespace Cert.Attn

open Idealize.ShloMosaic

/-- The first of the eight rows of row `r`'s band. -/
def start (r : ℕ) : ℕ := min (r - 4) 56

theorem start_le (r : ℕ) : start r ≤ 56 := by unfold start; omega

theorem start_near {r : ℕ} (h : r < 64) : r ≤ start r + 7 ∧ start r + 7 - r < 8 := by unfold start; omega

/-- The arrays' shapes. -/
abbrev Sq : Shape := ⟨3, ![4, 4096, 512]⟩
abbrev Sc : Shape := ⟨3, ![4, 256, 512]⟩
abbrev Sb : Shape := ⟨4, ![8, 8, 64, 512]⟩

/-- Position `x` of row `r`'s band. -/
def bandPos (r : Fin 64) (x : Fin 512) : Fin 4096 :=
  ⟨64 * start r.val + x.val, by have := start_le r.val; have := x.isLt; omega⟩

/-- Position `c` of row `r`. -/
def rowPos (r : Fin 64) (c : Fin 64) : Fin 4096 := ⟨64 * r.val + c.val, by have := r.isLt; have := c.isLt; omega⟩

/-- Lane `e` of head `h`. -/
def lane (h : Fin 8) (e : Fin 64) : Fin 512 := ⟨64 * h.val + e.val, by have := h.isLt; have := e.isLt; omega⟩

/-- The bias table's entry of row `r`: how far its band begins above it. -/
def biasRow (r : Fin 64) : Fin 8 := ⟨start r.val + 7 - r.val, (start_near r.isLt).2⟩

/-- The score of query `c` of row `r` against key `x` of its band. -/
def scoreW (q k : Sq.Idx → EReal) (T : Sb.Idx → EReal) (b : Fin 4) (r c : Fin 64) (h : Fin 8) (x : Fin 512) : EReal :=
  ∑ e : Fin 64, q (ix3 b (rowPos r c) (lane h e)) * k (ix3 b (bandPos r x) (lane h e)) + T (ix4 h (biasRow r) c x)

/-- The score of query `c` of row `r` against context key `x`. -/
def scoreC (q : Sq.Idx → EReal) (kc : Sc.Idx → EReal) (b : Fin 4) (r c : Fin 64) (h : Fin 8) (x : Fin 256) : EReal :=
  ∑ e : Fin 64, q (ix3 b (rowPos r c) (lane h e)) * kc (ix3 b x (lane h e))

/-- The greater of the greatest scores of both kinds. -/
def top (s : Fin 512 → EReal) (c : Fin 256 → EReal) : EReal :=
  max (Finset.fold max (⊥ : EReal) s Finset.univ) (Finset.fold max (⊥ : EReal) c Finset.univ)

/-- The sum of all exponentials of the scores less `top`. -/
def den (s : Fin 512 → EReal) (c : Fin 256 → EReal) : EReal :=
  ∑ x, Ideal.exp (s x - top s c) + ∑ x, Ideal.exp (c x - top s c)

/-- The values weighed by exponentials that are scaled by one over the sum. -/
def byReciprocal (s : Fin 512 → EReal) (c : Fin 256 → EReal) (v : Fin 512 → EReal) (w : Fin 256 → EReal) : EReal :=
  (∑ x, Ideal.exp (s x - top s c) * v x) * Ideal.div 1 (den s c)
    + ∑ x, Ideal.exp (c x - top s c) * Ideal.div 1 (den s c) * w x

/-- The values weighed by exponentials that are each divided by the sum. -/
def byQuotient (s : Fin 512 → EReal) (c : Fin 256 → EReal) (v : Fin 512 → EReal) (w : Fin 256 → EReal) : EReal :=
  ∑ x, Ideal.div (Ideal.exp (s x - top s c)) (den s c) * v x + ∑ x, Ideal.div (Ideal.exp (c x - top s c)) (den s c) * w x

end Cert.Attn
-- ==== Proof.Element.lean ====
/- The kernel's stages at an index, over the extended reals. -/
module

public import proofs.«01_k».proof.Proof.Matched
public import proofs.«01_k».proof.Proof.Spec
public import Idealize.ShloMosaic.Lib.Pointwise

@[expose] public section

set_option maxRecDepth 16384

noncomputable section

namespace Cert.KernelIdeal.Stages

open Cert.KernelIdeal Cert.KernelIdeal.Gen Idealize.ShloMosaic Idealize.ShloMosaic.TcCoe Idealize.SL.Sem
open Cert.Attn

/-- A choice by whether a lane is below 64. -/
theorem select_lane (b : Fin 128) (x y : EReal) :
    Scalar.select (IntOp.cmpi .slt (BitVec.ofNat 32 b.val) 64#32) x y = if b.val < 64 then x else y := by
  have h : ∀ b : Fin 128, IntOp.cmpi .slt (BitVec.ofNat 32 b.val) 64#32 = if b.val < 64 then 1#1 else 0#1 := by decide
  rw [h b]
  split <;> rfl

/-- A dot product over 128 lanes of which the last 64 are cleared. -/
theorem sum_first (f g : Fin 128 → EReal) :
    ∑ x : Fin 128, (if x.val < 64 then f x else 0) * g x
      = ∑ e : Fin 64, f ⟨e.val, by have := e.isLt; omega⟩ * g ⟨e.val, by have := e.isLt; omega⟩ := by
  rw [Fin.sum_univ_two_halves 64 64 rfl, Finset.sum_eq_zero (s := Finset.univ (α := Fin 64))
    (f := fun k => (if (64 + k.val) < 64 then f ⟨64 + k.val, _⟩ else 0) * g ⟨64 + k.val, _⟩), add_zero]
  · refine Finset.sum_congr rfl fun e _ => ?_
    rw [if_pos e.isLt]
  · intro e _
    rw [if_neg (by omega), zero_mul]

/-- A dot product over 128 lanes of which the first 64 are cleared. -/
theorem sum_last (f g : Fin 128 → EReal) :
    ∑ x : Fin 128, (if x.val < 64 then 0 else f x) * g x
      = ∑ e : Fin 64, f ⟨64 + e.val, by have := e.isLt; omega⟩ * g ⟨64 + e.val, by have := e.isLt; omega⟩ := by
  rw [Fin.sum_univ_two_halves 64 64 rfl, Finset.sum_eq_zero (s := Finset.univ (α := Fin 64))
    (f := fun k => (if k.val < 64 then 0 else f ⟨k.val, _⟩) * g ⟨k.val, _⟩), zero_add]
  · refine Finset.sum_congr rfl fun e _ => ?_
    rw [if_neg (show ¬ (64 + e.val < 64) by omega)]
  · intro e _
    rw [if_pos e.isLt, zero_mul]

theorem qStack_first (q : Vec Ideal S1x64x128 .bf16) (a : Fin 64) (b : Fin 128) :
    qStack (F := Ideal) q (ix2 (n0 := 128) ⟨a.val, by have := a.isLt; omega⟩ b) = if b.val < 64 then q (ix3 0 a b) else (0 : EReal) := by
  pointwise [qStack]
  rw [select_lane]

theorem qStack_last (q : Vec Ideal S1x64x128 .bf16) (a : Fin 64) (b : Fin 128) :
    qStack (F := Ideal) q (ix2 (n0 := 128) ⟨64 + a.val, by have := a.isLt; omega⟩ b) = if b.val < 64 then (0 : EReal) else q (ix3 0 a b) := by
  pointwise [qStack]
  rw [select_lane]

theorem sWin_first (q : Vec Ideal S1x64x128 .bf16) (k : Vec Ideal S1x512x128 .bf16) (ba bb : Vec Ideal S1x1x64x512 .f32)
    (a : Fin 64) (b : Fin 512) :
    sWin (F := Ideal) q k ba bb (ix2 (n0 := 128) ⟨a.val, by have := a.isLt; omega⟩ b)
      = (∑ e : Fin 64, q (ix3 0 a ⟨e.val, by have := e.isLt; omega⟩) * k (ix3 0 b ⟨e.val, by have := e.isLt; omega⟩) : EReal) + ba (ix4 0 0 a b) := by
  pointwise [sWin]
  simp only [qStack_first]
  rw [sum_first (fun x => q (ix3 0 a x)) (fun x => k (ix3 0 b x))]

theorem sWin_last (q : Vec Ideal S1x64x128 .bf16) (k : Vec Ideal S1x512x128 .bf16) (ba bb : Vec Ideal S1x1x64x512 .f32)
    (a : Fin 64) (b : Fin 512) :
    sWin (F := Ideal) q k ba bb (ix2 (n0 := 128) ⟨64 + a.val, by have := a.isLt; omega⟩ b)
      = (∑ e : Fin 64, q (ix3 0 a ⟨64 + e.val, by have := e.isLt; omega⟩) * k (ix3 0 b ⟨64 + e.val, by have := e.isLt; omega⟩) : EReal) + bb (ix4 0 0 a b) := by
  pointwise [sWin]
  simp only [qStack_last]
  rw [sum_last (fun x => q (ix3 0 a x)) (fun x => k (ix3 0 b x))]

theorem ofBits_neg_inf : Ideal.ofBits .f32 4286578688#32 = ⊥ := by
  simp [Ideal.ofBits, Ideal.ieee]

theorem rowMax_apply (s : FVec Ideal S128x512 .f32) (c : FVec Ideal S128x256 .f32) (a : Fin 128) (z : Fin 1) :
    rowMax (F := Ideal) s c (ix2 a z) = top (fun x => s (ix2 a x)) (fun x => c (ix2 a x)) := by
  pointwise [rowMax]
  rw [ofBits_neg_inf]
  rfl

theorem pWin_apply (s : FVec Ideal S128x512 .f32) (c : FVec Ideal S128x256 .f32) (a : Fin 128) (b : Fin 512) :
    pWin (F := Ideal) s c (ix2 a b) = Ideal.exp (s (ix2 a b) - top (fun x => s (ix2 a x)) (fun x => c (ix2 a x))) := by
  pointwise [pWin]
  rw [rowMax_apply]

theorem pCtx_apply (s : FVec Ideal S128x512 .f32) (c : FVec Ideal S128x256 .f32) (a : Fin 128) (b : Fin 256) :
    pCtx (F := Ideal) s c (ix2 a b) = Ideal.exp (c (ix2 a b) - top (fun x => s (ix2 a x)) (fun x => c (ix2 a x))) := by
  pointwise [pCtx]
  rw [rowMax_apply]

theorem rden_apply (s : FVec Ideal S128x512 .f32) (c : FVec Ideal S128x256 .f32) (a : Fin 128) (z : Fin 1) :
    rden (F := Ideal) s c (ix2 a z) = Ideal.div 1 (den (fun x => s (ix2 a x)) (fun x => c (ix2 a x))) := by
  pointwise [rden]
  simp only [pWin_apply, pCtx_apply]
  rfl

theorem owRow_apply (s : FVec Ideal S128x512 .f32) (c : FVec Ideal S128x256 .f32) (v : Vec Ideal S1x512x128 .bf16)
    (z : Fin 1) (a b : Fin 128) :
    owRow (F := Ideal) s c v (ix3 z a b)
      = (∑ x : Fin 512, Ideal.exp (s (ix2 a x) - top (fun x => s (ix2 a x)) (fun x => c (ix2 a x))) * v (ix3 0 x b) : EReal)
        * Ideal.div 1 (den (fun x => s (ix2 a x)) (fun x => c (ix2 a x))) := by
  pointwise [owRow]
  simp only [pWin_apply, rden_apply]

theorem pcRow_apply (s : FVec Ideal S128x512 .f32) (c : FVec Ideal S128x256 .f32) (z : Fin 1) (a : Fin 128) (b : Fin 256) :
    pcRow (F := Ideal) s c (ix3 z a b)
      = (Ideal.exp (c (ix2 a b) - top (fun x => s (ix2 a x)) (fun x => c (ix2 a x)))
        * Ideal.div 1 (den (fun x => s (ix2 a x)) (fun x => c (ix2 a x))) : EReal) := by
  pointwise [pcRow]
  simp only [pCtx_apply, rden_apply]

theorem scAll_first (q : Vec Ideal S1x512x128 .bf16) (k : Vec Ideal S1x256x128 .bf16) (z : Fin 1) (j : Fin 8) (a : Fin 64) (b : Fin 256) :
    scAll (F := Ideal) q k (ix3 (n1 := 1024) z ⟨128 * j.val + a.val, by have := a.isLt; have := j.isLt; omega⟩ b)
      = (∑ e : Fin 64, q (ix3 (n1 := 512) 0 ⟨64 * j.val + a.val, by have := a.isLt; have := j.isLt; omega⟩ ⟨e.val, by have := e.isLt; omega⟩)
          * k (ix3 0 b ⟨e.val, by have := e.isLt; omega⟩) : EReal) := by
  have ha := a.isLt
  have hj := j.isLt
  pointwise [scAll]
  simp only [select_lane]
  simp only [show (128 * j.val + a.val) % 128 = a.val by omega, show (128 * j.val + a.val) / 128 = j.val by omega, ha, ↓reduceDIte]
  refine Eq.trans ?_ (sum_first (fun x => q (ix3 (n1 := 512) 0 ⟨64 * j.val + a.val, by omega⟩ x)) (fun x => k (ix3 0 b x)))
  refine Finset.sum_congr rfl fun x _ => ?_
  have : (⟨j.val * 64 + a.val, by omega⟩ : Fin 512) = ⟨64 * j.val + a.val, by omega⟩ := Fin.ext (by dsimp only; omega)
  simp only [this]

theorem scAll_last (q : Vec Ideal S1x512x128 .bf16) (k : Vec Ideal S1x256x128 .bf16) (z : Fin 1) (j : Fin 8) (a : Fin 64) (b : Fin 256) :
    scAll (F := Ideal) q k (ix3 (n1 := 1024) z ⟨128 * j.val + (64 + a.val), by have := a.isLt; have := j.isLt; omega⟩ b)
      = (∑ e : Fin 64, q (ix3 (n1 := 512) 0 ⟨64 * j.val + a.val, by have := a.isLt; have := j.isLt; omega⟩ ⟨64 + e.val, by have := e.isLt; omega⟩)
          * k (ix3 0 b ⟨64 + e.val, by have := e.isLt; omega⟩) : EReal) := by
  have ha := a.isLt
  have hj := j.isLt
  pointwise [scAll]
  simp only [select_lane]
  simp only [show (128 * j.val + (64 + a.val)) % 128 = 64 + a.val by omega, show (128 * j.val + (64 + a.val)) / 128 = j.val by omega,
    show ¬ (64 + a.val < 64) by omega, ↓reduceDIte]
  refine Eq.trans ?_ (sum_last (fun x => q (ix3 (n1 := 512) 0 ⟨64 * j.val + a.val, by omega⟩ x)) (fun x => k (ix3 0 b x)))
  refine Finset.sum_congr rfl fun x _ => ?_
  have : (⟨j.val * 64 + (64 + a.val - 64), by omega⟩ : Fin 512) = ⟨64 * j.val + a.val, by omega⟩ := Fin.ext (by dsimp only; omega)
  simp only [this]

/-- A lane of the result is taken from the stack of its head. -/
theorem outPair_apply (ow : Vec Ideal S1x1024x128 .f32) (pc : Vec Ideal S1x1024x256 .bf16) (k : Vec Ideal S1x256x128 .bf16)
    (z : Fin 1) (j : Fin 8) (a : Fin 64) (b : Fin 128) :
    outPair (F := Ideal) ow pc k (ix3 (n1 := 512) z ⟨64 * j.val + a.val, by have := a.isLt; have := j.isLt; omega⟩ b)
      = (if b.val < 64 then
          ow (ix3 (n1 := 1024) 0 ⟨128 * j.val + a.val, by have := a.isLt; have := j.isLt; omega⟩ b)
            + ∑ x : Fin 256, pc (ix3 (n1 := 1024) 0 ⟨128 * j.val + a.val, by have := a.isLt; have := j.isLt; omega⟩ x) * k (ix3 0 x b)
        else
          ow (ix3 (n1 := 1024) 0 ⟨128 * j.val + (64 + a.val), by have := a.isLt; have := j.isLt; omega⟩ b)
            + ∑ x : Fin 256, pc (ix3 (n1 := 1024) 0 ⟨128 * j.val + (64 + a.val), by have := a.isLt; have := j.isLt; omega⟩ x) * k (ix3 0 x b) : EReal) := by
  have ha := a.isLt
  have hj := j.isLt
  pointwise [outPair]
  rw [select_lane]
  simp only [Nat.mul_comm j.val 128]

end Cert.KernelIdeal.Stages
-- ==== Proof.Block.lean ====
/- What one grid point leaves in the result's block, element by element: the attention of the block's queries over
   the blocks it was given. -/
module

public import proofs.«01_k».proof.Proof.Element
public import Idealize.ShloMosaic.Lib.Pipeline.ValueKit.Tiles
public import Idealize.ShloMosaic.Lib.Writes

@[expose] public section

set_option maxRecDepth 16384

noncomputable section

namespace Cert.KernelIdeal.Stages

open Cert.KernelIdeal Cert.KernelIdeal.Gen Idealize.ShloMosaic Idealize.ShloMosaic.TcCoe Idealize.SL.Sem
open Cert.Attn

/-! ## Where the loads are -/

/-- The row that block `n` handles `j`-th. -/
def rowOf (n j : Fin 8) : Fin 64 := ⟨8 * n.val + j.val, by have := n.isLt; have := j.isLt; omega⟩

theorem offK_eq (i : grid0.Coords) (hp : Fin 4) (j : Fin 8) (n : Fin 8) (hn : (i 1).val = n.val) :
    offK i hp j = ![0, 64 * start (rowOf n j).val, 128 * hp.val] := by
  unfold offK k0_off5 k0_off8 k0_off11 k0_off14 rowOf
  rw [hn]
  clear hn
  revert n j hp
  decide +kernel

theorem offA_eq (i : grid0.Coords) (hp : Fin 4) (j : Fin 8) (n : Fin 8) (hn : (i 1).val = n.val) :
    offA i hp j = ![2 * hp.val, start (rowOf n j).val + 7 - (rowOf n j).val, 0, 0] := by
  unfold offA k0_off6 k0_off9 k0_off12 k0_off15 rowOf
  rw [hn]
  clear hn
  revert n j hp
  decide +kernel

theorem offB_eq (i : grid0.Coords) (hp : Fin 4) (j : Fin 8) (n : Fin 8) (hn : (i 1).val = n.val) :
    offB i hp j = ![2 * hp.val + 1, start (rowOf n j).val + 7 - (rowOf n j).val, 0, 0] := by
  unfold offB k0_off7 k0_off10 k0_off13 k0_off16 rowOf
  rw [hn]
  clear hn
  revert n j hp
  decide +kernel

/-- The position of query `a` of row `j` in a block. -/
def qPos (j : Fin 8) (a : Fin 64) : Fin 512 := ⟨64 * j.val + a.val, by have := a.isLt; have := j.isLt; omega⟩

/-- The two heads of a pair. -/
def headA (hp : Fin 4) : Fin 8 := ⟨2 * hp.val, by have := hp.isLt; omega⟩
def headB (hp : Fin 4) : Fin 8 := ⟨2 * hp.val + 1, by have := hp.isLt; omega⟩

/-- Lane `b` of head pair `hp`. -/
def pairLane (hp : Fin 4) (b : Fin 128) : Fin 512 := ⟨128 * hp.val + b.val, by have := hp.isLt; have := b.isLt; omega⟩

/-- A query's position in its stack: the first head's. -/
def lo (a : Fin 64) : Fin 128 := ⟨a.val, by have := a.isLt; omega⟩
/-- A query's position in its stack: the second head's. -/
def hi (a : Fin 64) : Fin 128 := ⟨64 + a.val, by have := a.isLt; omega⟩

theorem ld3 {A B C : Nat} {e : EltTy} {a b c : Nat} (X : (⟨3, ![A, B, C]⟩ : Shape).Idx → Elt Ideal e) (off : Fin 3 → Nat)
    (inb) (o0 o1 o2 : Nat) (ho : off = ![o0, o1, o2]) (x0 : Fin a) (x1 : Fin b) (x2 : Fin c)
    (y0 : Fin A) (y1 : Fin B) (y2 : Fin C) (h0 : y0.val = o0 + x0.val) (h1 : y1.val = o1 + x1.val) (h2 : y2.val = o2 + x2.val) :
    View.ld X (Rect.unit (s := ⟨3, ![A, B, C]⟩) off ![a, b, c] inb) (ix3 x0 x1 x2) = X (ix3 y0 y1 y2) := by
  subst ho
  refine View.ld_unit_apply_of X _ _ inb _ _ fun d => ?_
  match d with
  | ⟨0, _⟩ => exact h0
  | ⟨1, _⟩ => exact h1
  | ⟨2, _⟩ => exact h2

theorem ld4 {A B C D : Nat} {e : EltTy} {a b c d : Nat} (X : (⟨4, ![A, B, C, D]⟩ : Shape).Idx → Elt Ideal e) (off : Fin 4 → Nat)
    (inb) (o0 o1 o2 o3 : Nat) (ho : off = ![o0, o1, o2, o3]) (x0 : Fin a) (x1 : Fin b) (x2 : Fin c) (x3 : Fin d)
    (y0 : Fin A) (y1 : Fin B) (y2 : Fin C) (y3 : Fin D)
    (h0 : y0.val = o0 + x0.val) (h1 : y1.val = o1 + x1.val) (h2 : y2.val = o2 + x2.val) (h3 : y3.val = o3 + x3.val) :
    View.ld X (Rect.unit (s := ⟨4, ![A, B, C, D]⟩) off ![a, b, c, d] inb) (ix4 x0 x1 x2 x3) = X (ix4 y0 y1 y2 y3) := by
  subst ho
  refine View.ld_unit_apply_of X _ _ inb _ _ fun z => ?_
  match z with
  | ⟨0, _⟩ => exact h0
  | ⟨1, _⟩ => exact h1
  | ⟨2, _⟩ => exact h2
  | ⟨3, _⟩ => exact h3

variable (i : grid0.Coords)
  (x0 : Vec Ideal S1x512x512 .bf16) (x1 : Vec Ideal S1x4096x512 .bf16) (x2 : Vec Ideal S1x4096x512 .bf16)
  (x3 : Vec Ideal S1x256x512 .bf16) (x4 : Vec Ideal S1x256x512 .bf16) (x5 : Vec Ideal S8x8x64x512 .f32)

/-- A score of a block's query against its band. -/
def blkW (n : Fin 8) (h : Fin 8) (j : Fin 8) (a : Fin 64) (x : Fin 512) : EReal :=
  ∑ e : Fin 64, x0 (ix3 0 (qPos j a) (lane h e)) * x1 (ix3 0 (bandPos (rowOf n j) x) (lane h e)) + x5 (ix4 h (biasRow (rowOf n j)) a x)

/-- A score of a block's query against the context. -/
def blkC (h : Fin 8) (j : Fin 8) (a : Fin 64) (x : Fin 256) : EReal :=
  ∑ e : Fin 64, x0 (ix3 0 (qPos j a) (lane h e)) * x3 (ix3 0 x (lane h e))

theorem sRow_lo (n : Fin 8) (hn : (i 1).val = n.val) (hp : Fin 4) (j : Fin 8) (a : Fin 64) (x : Fin 512) :
    sRow (F := Ideal) i x0 x1 x5 hp j (ix2 (lo a) x) = blkW x0 x1 x5 n (headA hp) j a x := by
  unfold sRow lo
  rw [sWin_first, ld4 x5 _ _ _ _ _ _ (offA_eq i hp j n hn) 0 0 a x (headA hp) (biasRow (rowOf n j)) a x
    (by simp [headA]) (by simp [biasRow]) (by simp) (by simp)]
  unfold blkW
  congr 1
  refine Finset.sum_congr rfl fun e _ => ?_
  rw [ld3 x0 _ _ _ _ _ rfl 0 a _ 0 (qPos j a) (lane (headA hp) e) (by simp) (by simp [qPos]) (by simp [lane, headA]; omega),
    ld3 x1 _ _ _ _ _ (offK_eq i hp j n hn) 0 x _ 0 (bandPos (rowOf n j) x) (lane (headA hp) e) (by simp) (by simp [bandPos])
      (by simp [lane, headA]; omega)]

theorem sRow_hi (n : Fin 8) (hn : (i 1).val = n.val) (hp : Fin 4) (j : Fin 8) (a : Fin 64) (x : Fin 512) :
    sRow (F := Ideal) i x0 x1 x5 hp j (ix2 (hi a) x) = blkW x0 x1 x5 n (headB hp) j a x := by
  unfold sRow hi
  rw [sWin_last, ld4 x5 _ _ _ _ _ _ (offB_eq i hp j n hn) 0 0 a x (headB hp) (biasRow (rowOf n j)) a x
    (by simp [headB]) (by simp [biasRow]) (by simp) (by simp)]
  unfold blkW
  congr 1
  refine Finset.sum_congr rfl fun e _ => ?_
  rw [ld3 x0 _ _ _ _ _ rfl 0 a _ 0 (qPos j a) (lane (headB hp) e) (by simp) (by simp [qPos]) (by simp [lane, headB]; omega),
    ld3 x1 _ _ _ _ _ (offK_eq i hp j n hn) 0 x _ 0 (bandPos (rowOf n j) x) (lane (headB hp) e) (by simp) (by simp [bandPos])
      (by simp [lane, headB]; omega)]

/-! ## What the stores hold -/

theorem emb3 {A B C a b c : Nat} (off : Fin 3 → Nat) (inb) (x0 : Fin a) (x1 : Fin b) (x2 : Fin c)
    (y0 : Fin A) (y1 : Fin B) (y2 : Fin C) (h0 : y0.val = off 0 + x0.val) (h1 : y1.val = off 1 + x1.val) (h2 : y2.val = off 2 + x2.val) :
    (Rect.unit (s := ⟨3, ![A, B, C]⟩) off ![a, b, c] inb).emb (ix3 x0 x1 x2) = ix3 y0 y1 y2 := by
  funext d
  apply Fin.ext
  refine (Rect.idx_unit_val off ![a, b, c] inb (ix3 x0 x1 x2) d).trans ?_
  match d with
  | ⟨0, _⟩ => exact h0.symm
  | ⟨1, _⟩ => exact h1.symm
  | ⟨2, _⟩ => exact h2.symm

theorem emb_mem {s : Shape} (r : Rect s) (x : r.shape.Idx) : r.emb x ∈ r.set := by
  rw [← Rect.map_emb_univ]
  exact Finset.mem_map_of_mem _ (Finset.mem_univ x)

section Reads
variable {sig : RefSig} {κ : Kind} {sp : Space} {s : Shape} {e : EltTy} (v : View sig κ sp s e) (f : v.ty.Contents (Elt Ideal))
  (G : s.Idx → Elt Ideal e)

/-- Reading where one of the four head pairs wrote, when every one of them wrote its part of `G`. -/
theorem read_pairs (P : Fin 4 → View.Piece (Elt Ideal) s e) (hG : ∀ hp x, (P hp).2 x = G ((P hp).1.emb x))
    (hp : Fin 4) (x : (P hp).1.shape.Idx) :
    v.read (Elt Ideal) (v.writes (Elt Ideal) f (pairsOf P)) ((P hp).1.emb x) = G ((P hp).1.emb x) := by
  refine View.read_writes_apply_of_pieces v f G _ (fun p hp' => ?_) _ ⟨P hp, ?_, emb_mem _ _⟩
  · unfold pairsOf at hp'
    simp only [List.mem_cons, List.not_mem_nil, or_false] at hp'
    rcases hp' with rfl | rfl | rfl | rfl <;> exact hG _
  · unfold pairsOf
    match hp with
    | 0 => simp
    | 1 => simp
    | 2 => simp
    | 3 => simp

theorem mem_rowsOf (P : Fin 4 → Fin 8 → View.Piece (Elt Ideal) s e) (p) : p ∈ rowsOf P ↔ ∃ hp j, p = P hp j := by
  unfold rowsOf
  constructor
  · intro h
    simp only [List.mem_cons, List.not_mem_nil, or_false] at h
    rcases h with h | h | h | h | h | h | h | h | h | h | h | h | h | h | h | h | h | h | h | h | h | h | h | h | h | h | h | h | h | h | h | h <;>
      exact ⟨_, _, h⟩
  · rintro ⟨hp, j, rfl⟩
    fin_cases hp <;> fin_cases j <;> simp

/-- Reading where one of the rows and head pairs wrote, when every one of them wrote its part of `G`. -/
theorem read_rows (P : Fin 4 → Fin 8 → View.Piece (Elt Ideal) s e) (hG : ∀ hp j x, (P hp j).2 x = G ((P hp j).1.emb x))
    (hp : Fin 4) (j : Fin 8) (x : (P hp j).1.shape.Idx) :
    v.read (Elt Ideal) (v.writes (Elt Ideal) f (rowsOf P)) ((P hp j).1.emb x) = G ((P hp j).1.emb x) := by
  refine View.read_writes_apply_of_pieces v f G _ (fun p hp' => ?_) _ ⟨P hp j, (mem_rowsOf P _).2 ⟨hp, j, rfl⟩, emb_mem _ _⟩
  obtain ⟨hp, j, rfl⟩ := (mem_rowsOf P _).1 hp'
  exact hG hp j

end Reads

variable (arg9 : Memref sig .tc .vmem S4x1024x256 .f32) (arg10 : Memref sig .tc .vmem S4x1024x128 .f32)
  (arg11 : Memref sig .tc .vmem S4x1024x256 .bf16)

/-- A stack's position among the eight rows'. -/
def sPos (j : Fin 8) (a : Fin 128) : Fin 1024 := ⟨128 * j.val + a.val, by have := a.isLt; have := j.isLt; omega⟩

/-- A position among the eight rows' stacks, as a row and a position of its stack. -/
theorem sPos_surj (a : Fin 1024) : ∃ j a', a = sPos j a' :=
  ⟨⟨a.val / 128, by have := a.isLt; omega⟩, ⟨a.val % 128, by omega⟩, Fin.ext (by simp [sPos]; omega)⟩

theorem scArr_apply (hp : Fin 4) (a : Fin 1024) (x : Fin 256) :
    scArr (F := Ideal) arg9 x0 x3 (ix3 hp a x) = (scPc (F := Ideal) x0 x3 hp).2 (ix3 0 a x) := by
  let G : S4x1024x256.Idx → Elt Ideal .f32 := fun y => (scPc (F := Ideal) x0 x3 (y 0)).2 (ix3 0 (y 1) (y 2))
  have he : ∀ (hp : Fin 4) (z : Fin 1) (a : Fin 1024) (x : Fin 256),
      (scPc (F := Ideal) x0 x3 hp).1.emb (ix3 z a x) = ix3 hp a x := fun hp z a x =>
    emb3 _ (inbS8 hp) _ _ _ _ _ _ (by simp) (by simp) (by simp)
  have h := read_pairs arg9.view arg9.view.junk G (scPc (F := Ideal) x0 x3) (fun hp y => by
    obtain ⟨z, a, x, rfl⟩ : ∃ (z : Fin 1) (a : Fin 1024) (x : Fin 256), y = ix3 z a x := ⟨y 0, y 1, y 2, (ix3_eta y).symm⟩
    rw [he, Subsingleton.elim z 0]
    rfl) hp (ix3 0 a x)
  rw [he] at h
  exact h

theorem owArr_apply (sc : Vec Ideal S4x1024x256 .f32) (hp : Fin 4) (j : Fin 8) (a b : Fin 128) :
    owArr (F := Ideal) i arg10 x0 x1 x2 sc x5 (ix3 hp (sPos j a) b) = (owPc (F := Ideal) i x0 x1 x2 sc x5 hp j).2 (ix3 0 a b) := by
  let G : S4x1024x128.Idx → Elt Ideal .f32 := fun y =>
    (owPc (F := Ideal) i x0 x1 x2 sc x5 (y 0) ⟨(y 1).val / 128, by have : (y 1).val < 1024 := (y 1).isLt; omega⟩).2
      (ix3 0 (⟨(y 1).val % 128, by omega⟩ : Fin 128) (y 2))
  have hGe : ∀ (hp : Fin 4) (j : Fin 8) (a b : Fin 128), G (ix3 hp (sPos j a) b) = (owPc (F := Ideal) i x0 x1 x2 sc x5 hp j).2 (ix3 0 a b) := by
    intro hp j a b
    have h1 : (⟨(sPos j a).val / 128, by have := (sPos j a).isLt; omega⟩ : Fin 8) = j := Fin.ext (by have := a.isLt; unfold sPos; dsimp only; omega)
    have h2 : (⟨(sPos j a).val % 128, by omega⟩ : Fin 128) = a := Fin.ext (by have := a.isLt; unfold sPos; dsimp only; omega)
    show (owPc (F := Ideal) i x0 x1 x2 sc x5 hp ⟨(sPos j a).val / 128, _⟩).2 (ix3 0 (⟨(sPos j a).val % 128, _⟩ : Fin 128) b) = _
    rw [h1, h2]
  have he : ∀ (hp : Fin 4) (j : Fin 8) (z : Fin 1) (a b : Fin 128),
      (owPc (F := Ideal) i x0 x1 x2 sc x5 hp j).1.emb (ix3 z a b) = ix3 hp (sPos j a) b := fun hp j z a b =>
    emb3 _ (inbO hp j) _ _ _ _ _ _ (by simp) (by simp [sPos]) (by simp)
  have h := read_rows arg10.view arg10.view.junk G (owPc (F := Ideal) i x0 x1 x2 sc x5) (fun hp j y => by
    obtain ⟨z, a, b, rfl⟩ : ∃ (z : Fin 1) (a : Fin 128) (b : Fin 128), y = ix3 z a b := ⟨y 0, y 1, y 2, (ix3_eta y).symm⟩
    rw [he, hGe, Subsingleton.elim z 0]) hp j (ix3 0 a b)
  rw [he, hGe] at h
  exact h

theorem pcArr_apply (sc : Vec Ideal S4x1024x256 .f32) (hp : Fin 4) (j : Fin 8) (a : Fin 128) (b : Fin 256) :
    pcArr (F := Ideal) i arg11 x0 x1 sc x5 (ix3 hp (sPos j a) b) = (pcPc (F := Ideal) i x0 x1 sc x5 hp j).2 (ix3 0 a b) := by
  let G : S4x1024x256.Idx → Elt Ideal .bf16 := fun y =>
    (pcPc (F := Ideal) i x0 x1 sc x5 (y 0) ⟨(y 1).val / 128, by have : (y 1).val < 1024 := (y 1).isLt; omega⟩).2
      (ix3 0 (⟨(y 1).val % 128, by omega⟩ : Fin 128) (y 2))
  have hGe : ∀ (hp : Fin 4) (j : Fin 8) (a : Fin 128) (b : Fin 256), G (ix3 hp (sPos j a) b) = (pcPc (F := Ideal) i x0 x1 sc x5 hp j).2 (ix3 0 a b) := by
    intro hp j a b
    have h1 : (⟨(sPos j a).val / 128, by have := (sPos j a).isLt; omega⟩ : Fin 8) = j := Fin.ext (by have := a.isLt; unfold sPos; dsimp only; omega)
    have h2 : (⟨(sPos j a).val % 128, by omega⟩ : Fin 128) = a := Fin.ext (by have := a.isLt; unfold sPos; dsimp only; omega)
    show (pcPc (F := Ideal) i x0 x1 sc x5 hp ⟨(sPos j a).val / 128, _⟩).2 (ix3 0 (⟨(sPos j a).val % 128, _⟩ : Fin 128) b) = _
    rw [h1, h2]
  have he : ∀ (hp : Fin 4) (j : Fin 8) (z : Fin 1) (a : Fin 128) (b : Fin 256),
      (pcPc (F := Ideal) i x0 x1 sc x5 hp j).1.emb (ix3 z a b) = ix3 hp (sPos j a) b := fun hp j z a b =>
    emb3 _ (inbS hp j) _ _ _ _ _ _ (by simp) (by simp [sPos]) (by simp)
  have h := read_rows arg11.view arg11.view.junk G (pcPc (F := Ideal) i x0 x1 sc x5) (fun hp j y => by
    obtain ⟨z, a, b, rfl⟩ : ∃ (z : Fin 1) (a : Fin 128) (b : Fin 256), y = ix3 z a b := ⟨y 0, y 1, y 2, (ix3_eta y).symm⟩
    rw [he, hGe, Subsingleton.elim z 0]) hp j (ix3 0 a b)
  rw [he, hGe] at h
  exact h

end Cert.KernelIdeal.Stages
-- ==== Proof.Result.lean ====
/- One element of what a grid point leaves in the result's block: the attention of one query of one head over the
   blocks the point was given. -/
module

public import proofs.«01_k».proof.Proof.Block

@[expose] public section

set_option maxRecDepth 16384

noncomputable section

namespace Cert.KernelIdeal.Stages

open Cert.KernelIdeal Cert.KernelIdeal.Gen Idealize.ShloMosaic Idealize.ShloMosaic.TcCoe Idealize.SL.Sem
open Cert.Attn

variable (i : grid0.Coords)
  (x0 : Vec Ideal S1x512x512 .bf16) (x1 : Vec Ideal S1x4096x512 .bf16) (x2 : Vec Ideal S1x4096x512 .bf16)
  (x3 : Vec Ideal S1x256x512 .bf16) (x4 : Vec Ideal S1x256x512 .bf16) (x5 : Vec Ideal S8x8x64x512 .f32)
  (arg9 : Memref sig .tc .vmem S4x1024x256 .f32) (arg10 : Memref sig .tc .vmem S4x1024x128 .f32)
  (arg11 : Memref sig .tc .vmem S4x1024x256 .bf16)

theorem cRow_apply (sc : Vec Ideal S4x1024x256 .f32) (hp : Fin 4) (j : Fin 8) (p : Fin 128) (x : Fin 256) :
    cRow (F := Ideal) sc hp j (ix2 p x) = sc (ix3 hp (sPos j p) x) := by
  have h : ∀ g : FVec Ideal S1x128x256 .f32, sCtx (F := Ideal) g (ix2 p x) = g (ix3 0 p x) := by
    intro g
    pointwise [sCtx]
  unfold cRow
  rw [h, ld3 sc _ _ _ _ _ rfl 0 p x hp (sPos j p) x (by simp) (by simp [sPos]) (by simp)]

theorem sc_lo (hp : Fin 4) (j : Fin 8) (a : Fin 64) (x : Fin 256) :
    scArr (F := Ideal) arg9 x0 x3 (ix3 hp (sPos j (lo a)) x) = blkC x0 x3 (headA hp) j a x := by
  rw [scArr_apply]
  refine (scAll_first _ _ 0 j a x).trans (Finset.sum_congr rfl fun e _ => ?_)
  rw [ld3 x0 _ _ _ _ _ rfl 0 _ _ 0 (qPos j a) (lane (headA hp) e) (by simp) (by simp [qPos]) (by simp [lane, headA]; omega),
    ld3 x3 _ _ _ _ _ rfl 0 x _ 0 x (lane (headA hp) e) (by simp) (by simp) (by simp [lane, headA]; omega)]

theorem sc_hi (hp : Fin 4) (j : Fin 8) (a : Fin 64) (x : Fin 256) :
    scArr (F := Ideal) arg9 x0 x3 (ix3 hp (sPos j (hi a)) x) = blkC x0 x3 (headB hp) j a x := by
  rw [scArr_apply]
  refine (scAll_last _ _ 0 j a x).trans (Finset.sum_congr rfl fun e _ => ?_)
  rw [ld3 x0 _ _ _ _ _ rfl 0 _ _ 0 (qPos j a) (lane (headB hp) e) (by simp) (by simp [qPos]) (by simp [lane, headB]; omega),
    ld3 x3 _ _ _ _ _ rfl 0 x _ 0 x (lane (headB hp) e) (by simp) (by simp) (by simp [lane, headB]; omega)]

/-- Both parts of one query's result, from its scores. -/
theorem parts (n : Fin 8) (hn : (i 1).val = n.val) (hp : Fin 4) (j : Fin 8) (a : Fin 64) (p b : Fin 128) (h : Fin 8)
    (hS : ∀ x, sRow (F := Ideal) i x0 x1 x5 hp j (ix2 p x) = blkW x0 x1 x5 n h j a x)
    (hC : ∀ x, scArr (F := Ideal) arg9 x0 x3 (ix3 hp (sPos j p) x) = blkC x0 x3 h j a x) :
    (owArr (F := Ideal) i arg10 x0 x1 x2 (scArr arg9 x0 x3) x5 (ix3 hp (sPos j p) b)
      + ∑ x : Fin 256, pcArr (F := Ideal) i arg11 x0 x1 (scArr arg9 x0 x3) x5 (ix3 hp (sPos j p) x) * x4 (ix3 0 x (pairLane hp b)) : EReal)
      = byReciprocal (blkW x0 x1 x5 n h j a) (blkC x0 x3 h j a) (fun x => x2 (ix3 0 (bandPos (rowOf n j) x) (pairLane hp b)))
          (fun x => x4 (ix3 0 x (pairLane hp b))) := by
  have hS' : (fun x => sRow (F := Ideal) i x0 x1 x5 hp j (ix2 p x)) = blkW x0 x1 x5 n h j a := funext hS
  have hC' : (fun x => cRow (F := Ideal) (scArr arg9 x0 x3) hp j (ix2 p x)) = blkC x0 x3 h j a :=
    funext fun x => (cRow_apply _ hp j p x).trans (hC x)
  rw [owArr_apply]
  have e1 : (owPc (F := Ideal) i x0 x1 x2 (scArr arg9 x0 x3) x5 hp j).2 (ix3 0 p b) = _ := owRow_apply _ _ _ 0 p b
  rw [e1, hS', hC']
  unfold byReciprocal
  congr 1
  · congr 1
    refine Finset.sum_congr rfl fun x _ => ?_
    rw [hS, ld3 x2 _ _ _ _ _ (offK_eq i hp j n hn) 0 x b 0 (bandPos (rowOf n j) x) (pairLane hp b) (by simp) (by simp [bandPos])
      (by simp [pairLane])]
  · refine Finset.sum_congr rfl fun x _ => ?_
    rw [pcArr_apply]
    have e2 : (pcPc (F := Ideal) i x0 x1 (scArr arg9 x0 x3) x5 hp j).2 (ix3 0 p x) = _ := pcRow_apply _ _ 0 p x
    rw [e2, hS', hC', cRow_apply, hC]

/-- The head of lane `b` of pair `hp`. -/
def headOf (hp : Fin 4) (b : Fin 128) : Fin 8 := if b.val < 64 then headA hp else headB hp

variable {sigo : RefSig} {κ : Kind} {sp : Space} (v : View sigo κ sp S1x512x512 .bf16) (f : v.ty.Contents (Elt Ideal))

/-- The store of the result by all head pairs, at one query and lane. -/
theorem out_apply (n : Fin 8) (hn : (i 1).val = n.val) (hp : Fin 4) (j : Fin 8) (a : Fin 64) (b : Fin 128) :
    v.read (Elt Ideal) (v.writes (Elt Ideal) f (pairsOf (outPc (F := Ideal)
        (owArr i arg10 x0 x1 x2 (scArr arg9 x0 x3) x5) (pcArr i arg11 x0 x1 (scArr arg9 x0 x3) x5) x4)))
        (ix3 0 (qPos j a) (pairLane hp b))
      = byReciprocal (blkW x0 x1 x5 n (headOf hp b) j a) (blkC x0 x3 (headOf hp b) j a)
          (fun x => x2 (ix3 0 (bandPos (rowOf n j) x) (pairLane hp b))) (fun x => x4 (ix3 0 x (pairLane hp b))) := by
  set P := outPc (F := Ideal) (owArr i arg10 x0 x1 x2 (scArr arg9 x0 x3) x5) (pcArr i arg11 x0 x1 (scArr arg9 x0 x3) x5) x4 with hP
  let G : S1x512x512.Idx → Elt Ideal .bf16 := fun y =>
    (P ⟨(y 2).val / 128, by have : (y 2).val < 512 := (y 2).isLt; omega⟩).2
      (ix3 0 (y 1) (⟨(y 2).val % 128, by omega⟩ : Fin 128))
  have hGe : ∀ (hp : Fin 4) (r : Fin 512) (b : Fin 128), G (ix3 0 r (pairLane hp b)) = (P hp).2 (ix3 0 r b) := by
    intro hp r b
    have h1 : (⟨(pairLane hp b).val / 128, by have := (pairLane hp b).isLt; omega⟩ : Fin 4) = hp :=
      Fin.ext (by have := b.isLt; unfold pairLane; dsimp only; omega)
    have h2 : (⟨(pairLane hp b).val % 128, by omega⟩ : Fin 128) = b :=
      Fin.ext (by have := b.isLt; unfold pairLane; dsimp only; omega)
    show (P ⟨(pairLane hp b).val / 128, _⟩).2 (ix3 0 r (⟨(pairLane hp b).val % 128, _⟩ : Fin 128)) = _
    rw [h1, h2]
  have he : ∀ (hp : Fin 4) (z : Fin 1) (r : Fin 512) (b : Fin 128), (P hp).1.emb (ix3 z r b) = ix3 0 r (pairLane hp b) :=
    fun hp z r b => emb3 _ (inbQ8 hp) _ _ _ _ _ _ (by simp) (by simp) (by simp [pairLane])
  have h := read_pairs v f G P (fun hp y => by
    obtain ⟨z, r, b, rfl⟩ : ∃ (z : Fin 1) (r : Fin 512) (b : Fin 128), y = ix3 z r b := ⟨y 0, y 1, y 2, (ix3_eta y).symm⟩
    rw [he, hGe, Subsingleton.elim z 0]) hp (ix3 0 (qPos j a) b)
  rw [he, hGe] at h
  rw [h]
  refine (outPair_apply _ _ _ 0 j a b).trans ?_
  have hk : ∀ x : Fin 256, View.ld x4 (Rect.unit (s := S1x256x512) ![0, 0, 128 * hp.val] S1x256x128.size (inbC hp)) (ix3 0 x b)
      = x4 (ix3 0 x (pairLane hp b)) := fun x =>
    ld3 x4 _ _ _ _ _ rfl 0 x b 0 x (pairLane hp b) (by simp) (by simp) (by simp [pairLane])
  have ho : ∀ p : Fin 128, ∀ q : Fin 1024, q = sPos j p →
      View.ld (owArr (F := Ideal) i arg10 x0 x1 x2 (scArr arg9 x0 x3) x5) (Rect.unit (s := S4x1024x128) ![hp.val, 0, 0] S1x1024x128.size (inbO8 hp)) (ix3 0 q b)
        = owArr (F := Ideal) i arg10 x0 x1 x2 (scArr arg9 x0 x3) x5 (ix3 hp (sPos j p) b) := fun p q hq =>
    ld3 _ _ _ _ _ _ rfl 0 q b hp (sPos j p) b (by simp) (by simp [hq]) (by simp)
  have hq : ∀ p : Fin 128, ∀ q : Fin 1024, q = sPos j p → ∀ x : Fin 256,
      View.ld (pcArr (F := Ideal) i arg11 x0 x1 (scArr arg9 x0 x3) x5) (Rect.unit (s := S4x1024x256) ![hp.val, 0, 0] S1x1024x256.size (inbS8 hp)) (ix3 0 q x)
        = pcArr (F := Ideal) i arg11 x0 x1 (scArr arg9 x0 x3) x5 (ix3 hp (sPos j p) x) := fun p q hq x =>
    ld3 _ _ _ _ _ _ rfl 0 q x hp (sPos j p) x (by simp) (by simp [hq]) (by simp)
  by_cases hb : b.val < 64
  · have hh : headOf hp b = headA hp := if_pos hb
    rw [if_pos hb, hh]
    exact (congrArg₂ (fun s t : EReal => s + t) (ho (lo a) _ rfl) (Finset.sum_congr rfl fun x _ =>
      congrArg₂ (fun s t : EReal => s * t) (hq (lo a) _ rfl x) (hk x))).trans
      (parts i x0 x1 x2 x3 x4 x5 arg9 arg10 arg11 n hn hp j a (lo a) b (headA hp) (sRow_lo i x0 x1 x5 n hn hp j a)
        (sc_lo x0 x3 arg9 hp j a))
  · have hh : headOf hp b = headB hp := if_neg hb
    rw [if_neg hb, hh]
    exact (congrArg₂ (fun s t : EReal => s + t) (ho (hi a) _ rfl) (Finset.sum_congr rfl fun x _ =>
      congrArg₂ (fun s t : EReal => s * t) (hq (hi a) _ rfl x) (hk x))).trans
      (parts i x0 x1 x2 x3 x4 x5 arg9 arg10 arg11 n hn hp j a (hi a) b (headB hp) (sRow_hi i x0 x1 x5 n hn hp j a)
        (sc_hi x0 x3 arg9 hp j a))

end Cert.KernelIdeal.Stages
-- ==== Proof.Whole.lean ====
/- The kernel's whole result, element by element. -/
module

public import proofs.«01_k».proof.Proof.Result
public import proofs.«01_k».proof.Proof.Gen.KernelIdeal.Value

@[expose] public section

set_option maxRecDepth 16384

noncomputable section

namespace Cert.KernelIdeal.Whole

open Cert.KernelIdeal Cert.KernelIdeal.Gen Idealize.ShloMosaic Idealize.ShloMosaic.TcCoe Idealize.SL.Sem
open Cert.KernelIdeal.Stages Cert.Attn
open Idealize.ShloMosaic.Pipeline (Dat)

variable (m : (ℓ : Loc nD τ sig) → Buf (Elt Ideal) ℓ) (c : Dev nD)

/-- The grid point of batch `b` and block `n` of eight rows. -/
theorem point (b : Fin 4) (n : Fin 8) : ∃ t : Fin grid0.N, (grid0.coords t 0).val = b.val ∧ (grid0.coords t 1).val = n.val := by
  revert b n
  decide +kernel

/-! Where the blocks of a grid point begin. -/

theorem index0 : ∀ t : Fin grid0.N, win0_0.index t 0 = (grid0.coords t 0).val ∧ win0_0.index t 1 = (grid0.coords t 1).val ∧ win0_0.index t 2 = 0 := by
  decide +kernel
theorem index1 : ∀ t : Fin grid0.N, win0_1.index t 0 = (grid0.coords t 0).val ∧ win0_1.index t 1 = 0 ∧ win0_1.index t 2 = 0 := by
  decide +kernel
theorem index2 : ∀ t : Fin grid0.N, win0_2.index t 0 = (grid0.coords t 0).val ∧ win0_2.index t 1 = 0 ∧ win0_2.index t 2 = 0 := by
  decide +kernel
theorem index3 : ∀ t : Fin grid0.N, win0_3.index t 0 = (grid0.coords t 0).val ∧ win0_3.index t 1 = 0 ∧ win0_3.index t 2 = 0 := by
  decide +kernel
theorem index4 : ∀ t : Fin grid0.N, win0_4.index t 0 = (grid0.coords t 0).val ∧ win0_4.index t 1 = 0 ∧ win0_4.index t 2 = 0 := by
  decide +kernel
theorem index5 : ∀ t : Fin grid0.N, win0_5.index t 0 = 0 ∧ win0_5.index t 1 = 0 ∧ win0_5.index t 2 = 0 ∧ win0_5.index t 3 = 0 := by
  decide +kernel
theorem index6 : ∀ t : Fin grid0.N, win0_6.index t 0 = (grid0.coords t 0).val ∧ win0_6.index t 1 = (grid0.coords t 1).val ∧ win0_6.index t 2 = 0 := by
  decide +kernel
theorem flush6 : ∀ t : Fin grid0.N, win0_6.flush t = true := by decide +kernel

/-- Position `p` of block `n`. -/
def blkPos (n : Fin 8) (p : Fin 512) : Fin 4096 := ⟨512 * n.val + p.val, by have := n.isLt; have := p.isLt; omega⟩

variable (t : Fin cfg0.N) (b : Fin 4) (n : Fin 8) (h0 : (grid0.coords t 0).val = b.val) (h1 : (grid0.coords t 1).val = n.val)

include h0 h1 in
theorem blk0 (p : Fin 512) (l : Fin 512) :
    iblk m c 0 t (ix3 (n0 := 1) (n1 := 512) (n2 := 512) 0 p l) = m ((c : Thread nD τ).loc main_arg0) (ix3 b (blkPos n p) l) := by
  have e : ((cfg0.win 0).blk t).view.emb (ix3 (n0 := 1) (n1 := 512) (n2 := 512) 0 p l) = ix3 b (blkPos n p) l := by
    funext a
    apply Fin.ext
    refine ((cfg0.win 0).rect_emb_val t (ix3 (n0 := 1) (n1 := 512) (n2 := 512) 0 p l) a).trans ?_
    have hi := index0 t
    match a with
    | ⟨0, _⟩ => show win0_0.index t 0 * 1 + 0 = b.val; omega
    | ⟨1, _⟩ => show win0_0.index t 1 * 512 + p.val = 512 * n.val + p.val; omega
    | ⟨2, _⟩ => show win0_0.index t 2 * 512 + l.val = l.val; omega
  show V m c (Pipeline.arrRef spec0 0) (((cfg0.win 0).blk t).view.emb (ix3 (n0 := 1) (n1 := 512) (n2 := 512) 0 p l)) = _
  rw [e]

include h0 in
theorem blk1 (p : Fin 4096) (l : Fin 512) :
    iblk m c 1 t (ix3 (n0 := 1) (n1 := 4096) (n2 := 512) 0 p l) = m ((c : Thread nD τ).loc main_arg1) (ix3 b (p) l) := by
  have e : ((cfg0.win 1).blk t).view.emb (ix3 (n0 := 1) (n1 := 4096) (n2 := 512) 0 p l) = ix3 b (p) l := by
    funext a
    apply Fin.ext
    refine ((cfg0.win 1).rect_emb_val t (ix3 (n0 := 1) (n1 := 4096) (n2 := 512) 0 p l) a).trans ?_
    have hi := index1 t
    match a with
    | ⟨0, _⟩ => show win0_1.index t 0 * 1 + 0 = b.val; omega
    | ⟨1, _⟩ => show win0_1.index t 1 * 4096 + p.val = p.val; omega
    | ⟨2, _⟩ => show win0_1.index t 2 * 512 + l.val = l.val; omega
  show V m c (Pipeline.arrRef spec0 1) (((cfg0.win 1).blk t).view.emb (ix3 (n0 := 1) (n1 := 4096) (n2 := 512) 0 p l)) = _
  rw [e]

include h0 in
theorem blk2 (p : Fin 4096) (l : Fin 512) :
    iblk m c 2 t (ix3 (n0 := 1) (n1 := 4096) (n2 := 512) 0 p l) = m ((c : Thread nD τ).loc main_arg2) (ix3 b (p) l) := by
  have e : ((cfg0.win 2).blk t).view.emb (ix3 (n0 := 1) (n1 := 4096) (n2 := 512) 0 p l) = ix3 b (p) l := by
    funext a
    apply Fin.ext
    refine ((cfg0.win 2).rect_emb_val t (ix3 (n0 := 1) (n1 := 4096) (n2 := 512) 0 p l) a).trans ?_
    have hi := index2 t
    match a with
    | ⟨0, _⟩ => show win0_2.index t 0 * 1 + 0 = b.val; omega
    | ⟨1, _⟩ => show win0_2.index t 1 * 4096 + p.val = p.val; omega
    | ⟨2, _⟩ => show win0_2.index t 2 * 512 + l.val = l.val; omega
  show V m c (Pipeline.arrRef spec0 2) (((cfg0.win 2).blk t).view.emb (ix3 (n0 := 1) (n1 := 4096) (n2 := 512) 0 p l)) = _
  rw [e]

include h0 in
theorem blk3 (p : Fin 256) (l : Fin 512) :
    iblk m c 3 t (ix3 (n0 := 1) (n1 := 256) (n2 := 512) 0 p l) = m ((c : Thread nD τ).loc main_arg3) (ix3 b (p) l) := by
  have e : ((cfg0.win 3).blk t).view.emb (ix3 (n0 := 1) (n1 := 256) (n2 := 512) 0 p l) = ix3 b (p) l := by
    funext a
    apply Fin.ext
    refine ((cfg0.win 3).rect_emb_val t (ix3 (n0 := 1) (n1 := 256) (n2 := 512) 0 p l) a).trans ?_
    have hi := index3 t
    match a with
    | ⟨0, _⟩ => show win0_3.index t 0 * 1 + 0 = b.val; omega
    | ⟨1, _⟩ => show win0_3.index t 1 * 256 + p.val = p.val; omega
    | ⟨2, _⟩ => show win0_3.index t 2 * 512 + l.val = l.val; omega
  show V m c (Pipeline.arrRef spec0 3) (((cfg0.win 3).blk t).view.emb (ix3 (n0 := 1) (n1 := 256) (n2 := 512) 0 p l)) = _
  rw [e]

include h0 in
theorem blk4 (p : Fin 256) (l : Fin 512) :
    iblk m c 4 t (ix3 (n0 := 1) (n1 := 256) (n2 := 512) 0 p l) = m ((c : Thread nD τ).loc main_arg4) (ix3 b (p) l) := by
  have e : ((cfg0.win 4).blk t).view.emb (ix3 (n0 := 1) (n1 := 256) (n2 := 512) 0 p l) = ix3 b (p) l := by
    funext a
    apply Fin.ext
    refine ((cfg0.win 4).rect_emb_val t (ix3 (n0 := 1) (n1 := 256) (n2 := 512) 0 p l) a).trans ?_
    have hi := index4 t
    match a with
    | ⟨0, _⟩ => show win0_4.index t 0 * 1 + 0 = b.val; omega
    | ⟨1, _⟩ => show win0_4.index t 1 * 256 + p.val = p.val; omega
    | ⟨2, _⟩ => show win0_4.index t 2 * 512 + l.val = l.val; omega
  show V m c (Pipeline.arrRef spec0 4) (((cfg0.win 4).blk t).view.emb (ix3 (n0 := 1) (n1 := 256) (n2 := 512) 0 p l)) = _
  rw [e]

theorem blk5 (h d : Fin 8) (a : Fin 64) (x : Fin 512) :
    iblk m c 5 t (ix4 (n0 := 8) (n1 := 8) (n2 := 64) (n3 := 512) h d a x) = m ((c : Thread nD τ).loc main_arg5) (ix4 h d a x) := by
  have e : ((cfg0.win 5).blk t).view.emb (ix4 (n0 := 8) (n1 := 8) (n2 := 64) (n3 := 512) h d a x) = ix4 h d a x := by
    funext z
    apply Fin.ext
    refine ((cfg0.win 5).rect_emb_val t (ix4 (n0 := 8) (n1 := 8) (n2 := 64) (n3 := 512) h d a x) z).trans ?_
    have hi := index5 t
    match z with
    | ⟨0, _⟩ => show win0_5.index t 0 * 8 + h.val = h.val; omega
    | ⟨1, _⟩ => show win0_5.index t 1 * 8 + d.val = d.val; omega
    | ⟨2, _⟩ => show win0_5.index t 2 * 64 + a.val = a.val; omega
    | ⟨3, _⟩ => show win0_5.index t 3 * 512 + x.val = x.val; omega
  show V m c (Pipeline.arrRef spec0 5) (((cfg0.win 5).blk t).view.emb (ix4 (n0 := 8) (n1 := 8) (n2 := 64) (n3 := 512) h d a x)) = _
  rw [e]

/-- The arrays as launched. -/
abbrev arr0 : Sq.Idx → EReal := m ((c : Thread nD τ).loc main_arg0)
abbrev arr1 : Sq.Idx → EReal := m ((c : Thread nD τ).loc main_arg1)
abbrev arr2 : Sq.Idx → EReal := m ((c : Thread nD τ).loc main_arg2)
abbrev arr3 : Sc.Idx → EReal := m ((c : Thread nD τ).loc main_arg3)
abbrev arr4 : Sc.Idx → EReal := m ((c : Thread nD τ).loc main_arg4)
abbrev arr5 : Sb.Idx → EReal := m ((c : Thread nD τ).loc main_arg5)

theorem pos_eq (n j : Fin 8) (a : Fin 64) : blkPos n (qPos j a) = rowPos (rowOf n j) a :=
  Fin.ext (by unfold blkPos qPos rowPos rowOf; dsimp only; omega)

include h0 h1 in
theorem scoreW_blk (h j : Fin 8) (a : Fin 64) :
    blkW (iblk m c 0 t) (iblk m c 1 t) (iblk m c 5 t) n h j a = scoreW (arr0 m c) (arr1 m c) (arr5 m c) b (rowOf n j) a h := by
  funext x
  unfold blkW scoreW
  rw [← pos_eq]
  exact congrArg₂ (fun s t : EReal => s + t) (Finset.sum_congr rfl fun e _ =>
    congrArg₂ (fun s t : EReal => s * t) (blk0 m c t b n h0 h1 _ _) (blk1 m c t b h0 _ _)) (blk5 m c t _ _ _ _)

include h0 h1 in
theorem scoreC_blk (h j : Fin 8) (a : Fin 64) :
    blkC (iblk m c 0 t) (iblk m c 3 t) h j a = scoreC (arr0 m c) (arr3 m c) b (rowOf n j) a h := by
  funext x
  unfold blkC scoreC
  rw [← pos_eq]
  exact Finset.sum_congr rfl fun e _ =>
    congrArg₂ (fun s t : EReal => s * t) (blk0 m c t b n h0 h1 _ _) (blk3 m c t b h0 _ _)

/-- The head of a lane. -/
theorem headOf_eq (hp : Fin 4) (l : Fin 128) (h : Fin 8) (e : Fin 64) (hl : pairLane hp l = lane h e) : headOf hp l = h := by
  have := congrArg Fin.val hl
  have := e.isLt
  have := l.isLt
  unfold pairLane lane at *
  dsimp only at *
  apply Fin.ext
  unfold headOf headA headB
  split <;> dsimp only <;> omega

/-- The kernel's result at query `a` of row `r` of batch `b`, lane `e` of head `h`. -/
theorem result (b : Fin 4) (r a : Fin 64) (h : Fin 8) (e : Fin 64) :
    (dats m 0 c).arrAt 6 cfg0.N (ix3 (n0 := 4) (n1 := 4096) (n2 := 512) b (rowPos r a) (lane h e))
      = byReciprocal (scoreW (arr0 m c) (arr1 m c) (arr5 m c) b r a h) (scoreC (arr0 m c) (arr3 m c) b r a h)
          (fun x => arr2 m c (ix3 b (bandPos r x) (lane h e))) (fun x => arr4 m c (ix3 b x (lane h e))) := by
  obtain ⟨n, j, rfl⟩ : ∃ n j, r = rowOf n j :=
    ⟨⟨r.val / 8, by have := r.isLt; omega⟩, ⟨r.val % 8, by omega⟩, Fin.ext (by unfold rowOf; dsimp only; omega)⟩
  obtain ⟨hp, l, hl⟩ : ∃ hp l, pairLane hp l = lane h e :=
    ⟨⟨(lane h e).val / 128, by have := (lane h e).isLt; omega⟩, ⟨(lane h e).val % 128, by omega⟩,
      Fin.ext (by unfold pairLane; dsimp only; omega)⟩
  obtain ⟨t, h0, h1⟩ := point b n
  have he : ((cfg0.win 6).blk t).view.emb (ix3 (n0 := 1) (n1 := 512) (n2 := 512) 0 (qPos j a) (lane h e))
      = ix3 b (rowPos (rowOf n j) a) (lane h e) := by
    rw [← pos_eq]
    funext z
    apply Fin.ext
    refine ((cfg0.win 6).rect_emb_val t (ix3 (n0 := 1) (n1 := 512) (n2 := 512) 0 (qPos j a) (lane h e)) z).trans ?_
    have hi := index6 t
    match z with
    | ⟨0, _⟩ => show win0_6.index t 0 * 1 + 0 = b.val; omega
    | ⟨1, _⟩ => show win0_6.index t 1 * 512 + (qPos j a).val = 512 * n.val + (qPos j a).val; omega
    | ⟨2, _⟩ => show win0_6.index t 2 * 512 + (lane h e).val = (lane h e).val; omega
  have hb := congrFun (Value.blocks6 m c t (flush6 t)) (ix3 (n0 := 1) (n1 := 512) (n2 := 512) 0 (qPos j a) (lane h e))
  rw [Value.flushed6_A, out0_eq] at hb
  have hv : ((cfg0.win 6).blk t).view.read (Elt Ideal) ((dats m 0 c).arrAt 6 cfg0.N) (ix3 (n0 := 1) (n1 := 512) (n2 := 512) 0 (qPos j a) (lane h e))
      = (dats m 0 c).arrAt 6 cfg0.N (((cfg0.win 6).blk t).view.emb (ix3 (n0 := 1) (n1 := 512) (n2 := 512) 0 (qPos j a) (lane h e))) := rfl
  rw [hv, he] at hb
  rw [hb]
  rw [← hl]
  refine (out_apply (grid0.coords t) (iblk m c 0 t) (iblk m c 1 t) (iblk m c 2 t) (iblk m c 3 t) (iblk m c 4 t) (iblk m c 5 t)
    scM0_0 scM0_1 scM0_2 VO0_6 VO0_6.junk n h1 hp j a l).trans ?_
  rw [headOf_eq hp l h e hl, scoreW_blk m c t b n h0 h1, scoreC_blk m c t b n h0 h1]
  congr 1
  · funext x
    exact blk2 m c t b h0 _ _
  · funext x
    exact blk4 m c t b h0 _ _

end Cert.KernelIdeal.Whole
-- ==== Proof.Reference.lean ====
/- The reference's result, element by element. -/
module

public import proofs.«01_k».proof.Proof.Spec
public import proofs.«01_k».proof.Proof.Gen.ReferenceIdeal.Read

@[expose] public section

set_option maxRecDepth 16384

noncomputable section

namespace Cert.ReferenceIdeal.Whole

open Idealize.ShloMosaic Cert.ReferenceIdeal Cert.ReferenceIdeal.Gen Cert.ReferenceIdeal.Read Cert.Attn

/-! ## The two gathers -/

theorem word_row : ∀ n : Fin 64, min (BitVec.ofNat 32 n.val).toInt.toNat 63 = n.val := by decide
theorem word_bias : ∀ n : Fin 8, min (BitVec.ofNat 32 n.val).toInt.toNat 7 = n.val := by decide

theorem gather_row (x : S4x64x64x8x64.Idx → EReal) (idx : IVec S64x8x1 32) (b : Fin 4) (r : Fin 64) (w : Fin 8) (c : Fin 64)
    (h : Fin 8) (e : Fin 64) (n : Fin 64) (hn : idx (ix3 r w 0) = BitVec.ofNat 32 n.val) :
    Host.gather gather_S4x64x64x8x64_S64x8x1_S4x64x8x64x8x64_0345_1_n_n_1_2_4164864 x idx (ix6 b r w c h e) = x (ix5 b n c h e) := by
  unfold Host.gather
  congr 1
  funext a
  apply Fin.ext
  let d := gather_S4x64x64x8x64_S64x8x1_S4x64x8x64x8x64_0345_1_n_n_1_2_4164864
  show d.start (ix6 b r w c h e) idx a + d.batchCoord (ix6 b r w c h e) a + d.offCoord (ix6 b r w c h e) a = _
  rw [GatherDims.batchCoord_eq_zero _ _ _ List.not_mem_nil]
  match a with
  | ⟨0, _⟩ => exact Nat.zero_add _
  | ⟨2, _⟩ => exact Nat.zero_add _
  | ⟨3, _⟩ => exact Nat.zero_add _
  | ⟨4, _⟩ => exact Nat.zero_add _
  | ⟨1, _⟩ =>
    have h1 : d.offCoord (ix6 b r w c h e) 1 = 0 := rfl
    have h2 : d.start (ix6 b r w c h e) idx 1 = min (idx (d.siIdx (ix6 b r w c h e) ⟨0, Nat.one_pos⟩)).toInt.toNat 63 := rfl
    have h3 : d.siIdx (ix6 b r w c h e) ⟨0, Nat.one_pos⟩ = ix3 r w 0 := by
      funext z
      match z with
      | ⟨0, _⟩ => rfl
      | ⟨1, _⟩ => rfl
      | ⟨2, _⟩ => rfl
    show d.start (ix6 b r w c h e) idx 1 + 0 + d.offCoord (ix6 b r w c h e) 1 = n.val
    rw [h1, h2, h3, hn]
    exact word_row n

theorem gather_bias (x : S8x8x64x512.Idx → EReal) (idx : IVec S64x1 32) (h : Fin 8) (r : Fin 64) (c : Fin 64)
    (y : Fin 512) (n : Fin 8) (hn : idx (ix2 r 0) = BitVec.ofNat 32 n.val) :
    Host.gather gather_S8x8x64x512_S64x1_S8x64x64x512_023_1_n_n_1_1_8164512 x idx (ix4 h r c y) = x (ix4 h n c y) := by
  unfold Host.gather
  congr 1
  funext a
  apply Fin.ext
  let d := gather_S8x8x64x512_S64x1_S8x64x64x512_023_1_n_n_1_1_8164512
  show d.start (ix4 h r c y) idx a + d.batchCoord (ix4 h r c y) a + d.offCoord (ix4 h r c y) a = _
  rw [GatherDims.batchCoord_eq_zero _ _ _ List.not_mem_nil]
  match a with
  | ⟨0, _⟩ => exact Nat.zero_add _
  | ⟨2, _⟩ => exact Nat.zero_add _
  | ⟨3, _⟩ => exact Nat.zero_add _
  | ⟨1, _⟩ =>
    have h1 : d.offCoord (ix4 h r c y) 1 = 0 := rfl
    have h2 : d.start (ix4 h r c y) idx 1 = min (idx (d.siIdx (ix4 h r c y) ⟨0, Nat.one_pos⟩)).toInt.toNat 7 := rfl
    have h3 : d.siIdx (ix4 h r c y) ⟨0, Nat.one_pos⟩ = ix2 r 0 := by
      funext z
      match z with
      | ⟨0, _⟩ => rfl
      | ⟨1, _⟩ => rfl
    show d.start (ix4 h r c y) idx 1 + 0 + d.offCoord (ix4 h r c y) 1 = n.val
    rw [h1, h2, h3, hn]
    exact word_bias n

/-- Row `w` of row `r`'s band. -/
def bandRow (r : Fin 64) (w : Fin 8) : Fin 64 := ⟨start r.val + w.val, by have := start_le r.val; have := w.isLt; omega⟩

theorem rows_k (r : Fin 64) (w : Fin 8) : val_main_v25 (F := Ideal) (ix3 r w 0) = BitVec.ofNat 32 (bandRow r w).val := by
  pointwise [val_main_v25, val_main_v24, val_main_v23, val_main_v22, val_main_v21, val_main_v20, val_main_c_2, val_main_c_3, val_main_v19, val_main_v17, val_main_v18, val_main_v14, val_main_v16, val_main_v13,
    val_main_v15, val_main_v10, val_main_v11, val_main_v12, val_main_c, val_main_c_0, val_main_c_1, val_main_call0_v0,
    val_main_call0_v1, val_main_call0_v2, val_main_call0_v3, val_main_call0_v4]
  revert r w
  decide +kernel

theorem rows_v (r : Fin 64) (w : Fin 8) : val_main_v33 (F := Ideal) (ix3 r w 0) = BitVec.ofNat 32 (bandRow r w).val :=
  rows_k r w

theorem rows_bias (r : Fin 64) : val_main_v44 (F := Ideal) (ix2 r 0) = BitVec.ofNat 32 (biasRow r).val := by
  pointwise [val_main_v44, val_main_v43, val_main_v42, val_main_v41, val_main_v40, val_main_v39, val_main_v38, val_main_v37, val_main_v36,
    val_main_c_6, val_main_c_7, val_main_c_8, val_main_v13, val_main_v10, val_main_v11, val_main_v12, val_main_c, val_main_c_0, val_main_c_1, val_main_call0_v0,
    val_main_call0_v1, val_main_call0_v2, val_main_call0_v3, val_main_call0_v4]
  revert r
  decide +kernel

/-! ## The scores -/

variable (x0 x1 x2 : (⟨S4x4096x512, .bf16⟩ : BufTy).Contents (Elt Ideal)) (x3 x4 : (⟨S4x256x512, .bf16⟩ : BufTy).Contents (Elt Ideal))
  (x5 : (⟨S8x8x64x512, .f32⟩ : BufTy).Contents (Elt Ideal))

theorem rowPos_rev (r c : Fin 64) (hlt) : (⟨r.val * 64 + c.val, hlt⟩ : Fin 4096) = rowPos r c := Fin.ext (by unfold rowPos; dsimp only; omega)
theorem lane_rev (h : Fin 8) (e : Fin 64) (hlt) : (⟨h.val * 64 + e.val, hlt⟩ : Fin 512) = lane h e := Fin.ext (by unfold lane; dsimp only; omega)

theorem bandPos_rev (r : Fin 64) (x : Fin 512) (hx) (hlt) : (⟨(bandRow r ⟨x.val / 64, hx⟩).val * 64 + x.val % 64, hlt⟩ : Fin 4096) = bandPos r x :=
  Fin.ext (by unfold bandRow bandPos; dsimp only; omega)

theorem keys (b : Fin 4) (r : Fin 64) (x : Fin 512) (h : Fin 8) (e : Fin 64) :
    val_main_v27 (F := Ideal) x1 (ix5 b r x h e) = x1 (ix3 b (bandPos r x) (lane h e)) := by
  pointwise [val_main_v27]
  unfold val_main_v26
  rw [gather_row _ _ _ _ _ _ _ _ _ (rows_k r _)]
  pointwise [val_main_v6, val_main_v1]
  rw [bandPos_rev, lane_rev]

theorem values (b : Fin 4) (r : Fin 64) (x : Fin 512) (h : Fin 8) (e : Fin 64) :
    val_main_v35 (F := Ideal) x2 (ix5 b r x h e) = x2 (ix3 b (bandPos r x) (lane h e)) :=
  keys x2 b r x h e

theorem scores (b : Fin 4) (r c : Fin 64) (h : Fin 8) (x : Fin 512) :
    val_main_v50 (F := Ideal) x0 x1 x5 (ix5 b r h c x) = scoreW x0 x1 x5 b r c h x := by
  pointwise [val_main_v50, val_main_v46, val_main_v5, val_main_v0, val_main_v49, val_main_v48, val_main_v47]
  unfold scoreW val_main_v45
  rw [gather_bias _ _ _ _ _ _ _ (rows_bias r)]
  congr 1
  refine Finset.sum_congr rfl fun e _ => ?_
  rw [keys, rowPos_rev, lane_rev]

theorem scores_ctx (b : Fin 4) (r c : Fin 64) (h : Fin 8) (x : Fin 256) :
    val_main_v52 (F := Ideal) x0 x3 (ix5 b r h c x) = scoreC x0 x3 b r c h x := by
  pointwise [val_main_v52, val_main_v51, val_main_v8, val_main_v3, val_main_v5, val_main_v0]
  unfold scoreC
  refine Finset.sum_congr rfl fun e _ => ?_
  rw [rowPos_rev, lane_rev, mul_comm]

/-! ## The scores of both kinds side by side -/

/-- The two kinds of scores as one list. -/
def both (s : Fin 512 → EReal) (c : Fin 256 → EReal) (k : Fin 768) : EReal :=
  if h : k.val < 512 then s ⟨k.val, h⟩ else c ⟨k.val - 512, by have := k.isLt; omega⟩

theorem both_first (s : Fin 512 → EReal) (c : Fin 256 → EReal) (x : Fin 512) (hlt) : both s c ⟨x.val, hlt⟩ = s x := dif_pos x.isLt
theorem both_last (s : Fin 512 → EReal) (c : Fin 256 → EReal) (x : Fin 256) (hlt) : both s c ⟨512 + x.val, hlt⟩ = c x := by
  unfold both
  rw [dif_neg (show ¬ (512 + x.val < 512) by omega)]
  congr 1
  exact Fin.ext (by dsimp only; omega)

theorem sum_both (s : Fin 512 → EReal) (c : Fin 256 → EReal) (f : EReal → EReal) :
    ∑ k, f (both s c k) = ∑ x, f (s x) + ∑ x, f (c x) := by
  refine (Fin.sum_univ_add (M := EReal) (a := 512) (b := 256) fun k => f (both s c k)).trans ?_
  refine congrArg₂ (· + ·) (Finset.sum_congr rfl fun x _ => ?_) (Finset.sum_congr rfl fun x _ => ?_)
  · exact congrArg f (both_first s c x _)
  · exact congrArg f (both_last s c x _)

theorem fold_both (s : Fin 512 → EReal) (c : Fin 256 → EReal) : Finset.fold max (⊥ : EReal) (both s c) Finset.univ = top s c := by
  unfold top
  refine le_antisymm ?_ (max_le ?_ ?_)
  · rw [Finset.fold_max_le]
    refine ⟨bot_le, fun k _ => ?_⟩
    unfold both
    split
    · exact le_max_of_le_left (Finset.le_fold_max _ |>.2 (Or.inr ⟨_, Finset.mem_univ _, le_rfl⟩))
    · exact le_max_of_le_right (Finset.le_fold_max _ |>.2 (Or.inr ⟨_, Finset.mem_univ _, le_rfl⟩))
  · rw [Finset.fold_max_le]
    exact ⟨bot_le, fun x _ => Finset.le_fold_max _ |>.2 (Or.inr ⟨⟨x.val, by have := x.isLt; omega⟩, Finset.mem_univ _, (both_first s c x _).ge⟩)⟩
  · rw [Finset.fold_max_le]
    exact ⟨bot_le, fun x _ => Finset.le_fold_max _ |>.2 (Or.inr ⟨⟨512 + x.val, by have := x.isLt; omega⟩, Finset.mem_univ _, (both_last s c x _).ge⟩)⟩

theorem joined (b : Fin 4) (r c : Fin 64) (h : Fin 8) (k : Fin 768) :
    val_main_v53 (F := Ideal) x0 x1 x3 x5 (ix5 b r h c k) = both (scoreW x0 x1 x5 b r c h) (scoreC x0 x3 b r c h) k := by
  pointwise [val_main_v53]
  unfold both
  split
  · exact scores x0 x1 x5 b r c h _
  · exact scores_ctx x0 x3 b r c h _

theorem neg_inf : Ideal.ofBits .f32 4286578688#32 = ⊥ := by simp [Ideal.ofBits, Ideal.ieee]

/-- The reduction of a row of scores by `max`. -/
theorem reduce_max (x : (⟨S4x64x8x64x768, .f32⟩ : BufTy).Contents (Elt Ideal)) (b : Fin 4) (r c : Fin 64) (h : Fin 8) :
    Host.reduce (FloatOps.maximumf (F := Ideal)) x (val_main_cst (F := Ideal)) reducesTo_S4x64x8x64x768_S4x64x8x64_d4 h_S_ (ix4 b r h c)
      = Finset.fold max (Ideal.ofBits .f32 4286578688#32 : EReal) (fun k => x (ix5 b r h c k)) Finset.univ := by
  pointwise [val_main_cst]

theorem greatest_row (b : Fin 4) (r c : Fin 64) (h : Fin 8) :
    val_main_v54 (F := Ideal) x0 x1 x3 x5 (ix4 b r h c) = top (scoreW x0 x1 x5 b r c h) (scoreC x0 x3 b r c h) := by
  have hj : (fun k => val_main_v53 (F := Ideal) x0 x1 x3 x5 (ix5 b r h c k)) = both (scoreW x0 x1 x5 b r c h) (scoreC x0 x3 b r c h) :=
    funext (joined x0 x1 x3 x5 b r c h)
  unfold val_main_v54
  rw [reduce_max, hj, neg_inf, fold_both]

theorem max_of_bot (a b : EReal) (h : a = ⊥) : FloatOps.maximumf (F := Ideal) (φ := .f32) a b = b := by
  subst h
  exact max_eq_right bot_le

theorem floor_row (b : Fin 4) (r c : Fin 64) (h : Fin 8) : val_main_v55 (F := Ideal) (ix4 b r h c) = (⊥ : EReal) := by
  pointwise [val_main_v55, val_main_cst_9]
  exact neg_inf

theorem greatest (b : Fin 4) (r c : Fin 64) (h : Fin 8) :
    val_main_v56 (F := Ideal) x0 x1 x3 x5 (ix4 b r h c) = top (scoreW x0 x1 x5 b r c h) (scoreC x0 x3 b r c h) :=
  (val_main_v56_apply x0 x1 x3 x5 _).trans ((max_of_bot _ _ (floor_row b r c h)).trans (greatest_row x0 x1 x3 x5 b r c h))

/-- A softmax weight. -/
theorem weights (b : Fin 4) (r c : Fin 64) (h : Fin 8) (k : Fin 768) :
    val_main_v64 (F := Ideal) x0 x1 x3 x5 (ix5 b r h c k)
      = Ideal.div (Ideal.exp (both (scoreW x0 x1 x5 b r c h) (scoreC x0 x3 b r c h) k - top (scoreW x0 x1 x5 b r c h) (scoreC x0 x3 b r c h)))
          (den (scoreW x0 x1 x5 b r c h) (scoreC x0 x3 b r c h)) := by
  pointwise [val_main_v64, val_main_v63, val_main_v62, val_main_v61, val_main_v60, val_main_v59, val_main_v58, val_main_v57, val_main_cst_10]
  rw [greatest, joined]
  congr 1
  unfold den
  rw [← sum_both _ _ fun y => Ideal.exp (y - top (scoreW x0 x1 x5 b r c h) (scoreC x0 x3 b r c h))]
  exact Finset.sum_congr rfl fun x _ => by rw [joined]

theorem split_row (r c : Fin 64) (h1) (h2) : (⟨(rowPos r c).val / 64, h1⟩ : Fin 64) = r ∧ (⟨(rowPos r c).val % 64, h2⟩ : Fin 64) = c := by
  have := c.isLt
  constructor <;> exact Fin.ext (by unfold rowPos; dsimp only; omega)
theorem split_lane (h : Fin 8) (e : Fin 64) (h1) (h2) : (⟨(lane h e).val / 64, h1⟩ : Fin 8) = h ∧ (⟨(lane h e).val % 64, h2⟩ : Fin 64) = e := by
  have := e.isLt
  constructor <;> exact Fin.ext (by unfold lane; dsimp only; omega)

/-- The reference's result at query `c` of row `r` of batch `b`, lane `e` of head `h`. -/
theorem result (b : Fin 4) (r c : Fin 64) (h : Fin 8) (e : Fin 64) :
    val_main_v73 (F := Ideal) x0 x1 x2 x3 x4 x5 (ix3 b (rowPos r c) (lane h e))
      = byQuotient (scoreW x0 x1 x5 b r c h) (scoreC x0 x3 b r c h) (fun x => x2 (ix3 b (bandPos r x) (lane h e)))
          (fun x => x4 (ix3 b x (lane h e))) := by
  pointwise [val_main_v73, val_main_v72, val_main_v71, val_main_v70, val_main_v69, val_main_v68, val_main_v67, val_main_v66, val_main_v65,
    val_main_v9, val_main_v4]
  unfold byQuotient
  refine congrArg₂ (fun s t : EReal => s + t) (Finset.sum_congr rfl fun x _ => ?_) (Finset.sum_congr rfl fun x _ => ?_)
  · rw [(split_row r c _ (Nat.mod_lt _ (by decide))).1, (split_row r c (by have := (rowPos r c).isLt; omega) _).2,
      (split_lane h e _ (Nat.mod_lt _ (by decide))).1, (split_lane h e (by have := (lane h e).isLt; omega) _).2,
      values, weights, both_first, mul_comm]
  · rw [(split_row r c _ (Nat.mod_lt _ (by decide))).1, (split_row r c (by have := (rowPos r c).isLt; omega) _).2,
      (split_lane h e _ (Nat.mod_lt _ (by decide))).1, weights, both_last, mul_comm]

end Cert.ReferenceIdeal.Whole
-- ==== Proof.Softmax.lean ====
/- Scaling by one over the sum and dividing by it give the same weighted values, when the scores leave the sum a
   positive real number. -/
module

public import proofs.«01_k».proof.Proof.Spec

@[expose] public section

noncomputable section

namespace Cert.Attn

open Idealize.ShloMosaic

theorem exp_real {y : EReal} (h : y ≠ ⊤) : ∃ r : ℝ, 0 ≤ r ∧ Ideal.exp y = (r : EReal) := by
  induction y with
  | bot => exact ⟨0, le_rfl, rfl⟩
  | top => exact absurd rfl h
  | coe r => exact ⟨Real.exp r, (Real.exp_pos r).le, rfl⟩

theorem sum_real {ι : Type} (S : Finset ι) (f : ι → EReal) (h : ∀ i ∈ S, ∃ r : ℝ, 0 ≤ r ∧ f i = (r : EReal)) :
    ∃ r : ℝ, 0 ≤ r ∧ ∑ i ∈ S, f i = (r : EReal) := by
  classical
  induction S using Finset.induction_on with
  | empty => exact ⟨0, le_rfl, by simp⟩
  | insert a S ha ih =>
    obtain ⟨r, hr, er⟩ := h a (Finset.mem_insert_self a S)
    obtain ⟨t, ht, et⟩ := ih fun i hi => h i (Finset.mem_insert_of_mem hi)
    exact ⟨r + t, add_nonneg hr ht, by rw [Finset.sum_insert ha, er, et, EReal.coe_add]⟩

/-- A sum of products with real numbers is a real number. -/
theorem dot_real {ι : Type} (S : Finset ι) (f g : ι → EReal) (hf : ∀ i, ∃ r : ℝ, f i = (r : EReal)) (hg : ∀ i, ∃ r : ℝ, g i = (r : EReal)) :
    ∃ r : ℝ, ∑ i ∈ S, f i * g i = (r : EReal) := by
  classical
  induction S using Finset.induction_on with
  | empty => exact ⟨0, by simp⟩
  | insert a S ha ih =>
    obtain ⟨t, et⟩ := ih
    obtain ⟨r, er⟩ := hf a
    obtain ⟨u, eu⟩ := hg a
    exact ⟨r * u + t, by rw [Finset.sum_insert ha, er, eu, et, EReal.coe_add, EReal.coe_mul]⟩

theorem sum_mul_real {ι : Type} (S : Finset ι) (f : ι → EReal) (d : ℝ) (hd : 0 ≤ d) :
    (∑ i ∈ S, f i) * (d : EReal) = ∑ i ∈ S, f i * (d : EReal) := by
  classical
  induction S using Finset.induction_on with
  | empty => simp
  | insert a S ha ih =>
    rw [Finset.sum_insert ha, Finset.sum_insert ha, EReal.right_distrib_of_nonneg_of_ne_top (EReal.coe_nonneg.2 hd) (EReal.coe_ne_top d), ih]

variable (s : Fin 512 → EReal) (c : Fin 256 → EReal) (hs : ∀ x, s x ≠ ⊤) (hc : ∀ x, ∃ r : ℝ, c x = (r : EReal))

theorem fold_ne_top {n : Nat} (f : Fin n → EReal) (hf : ∀ x, f x ≠ ⊤) : Finset.fold max (⊥ : EReal) f Finset.univ ≠ ⊤ := by
  refine ne_of_lt ((Finset.fold_max_lt _).2 ⟨bot_lt_top, fun x _ => lt_of_le_of_ne le_top (hf x)⟩)

include hs hc in
/-- The greatest score is a real number. -/
theorem top_real : ∃ r : ℝ, top s c = (r : EReal) := by
  have hc' : ∀ x, c x ≠ ⊤ := fun x => by obtain ⟨r, e⟩ := hc x; rw [e]; exact EReal.coe_ne_top r
  have h1 : top s c ≠ ⊤ := by
    unfold top
    rcases max_choice (Finset.fold max (⊥ : EReal) s Finset.univ) (Finset.fold max (⊥ : EReal) c Finset.univ) with h | h <;> rw [h]
    · exact fold_ne_top s hs
    · exact fold_ne_top c hc'
  have h2 : top s c ≠ ⊥ := by
    obtain ⟨r, e⟩ := hc 0
    have : c 0 ≤ top s c := le_max_of_le_right ((Finset.le_fold_max _).2 (Or.inr ⟨0, Finset.mem_univ _, le_rfl⟩))
    intro h
    rw [h, e] at this
    exact EReal.coe_ne_bot r (le_bot_iff.1 this)
  exact ⟨(top s c).toReal, (EReal.coe_toReal h1 h2).symm⟩

include hs hc in
/-- Every exponential is a real number. -/
theorem weight_real : (∀ x, ∃ r : ℝ, 0 ≤ r ∧ Ideal.exp (s x - top s c) = (r : EReal)) ∧ ∀ x, ∃ r : ℝ, 0 < r ∧ Ideal.exp (c x - top s c) = (r : EReal) := by
  obtain ⟨t, et⟩ := top_real s c hs hc
  rw [et]
  constructor
  · intro x
    refine exp_real ?_
    have := hs x
    generalize s x = y at this
    induction y with
    | bot => simp
    | top => exact absurd rfl this
    | coe r => rw [← EReal.coe_sub]; exact EReal.coe_ne_top _
  · intro x
    obtain ⟨r, e⟩ := hc x
    rw [e, ← EReal.coe_sub]
    exact ⟨Real.exp (r - t), Real.exp_pos _, rfl⟩

include hs hc in
/-- The sum of the exponentials is a positive real number. -/
theorem den_real : ∃ d : ℝ, 0 < d ∧ den s c = (d : EReal) := by
  obtain ⟨hw, hv⟩ := weight_real s c hs hc
  obtain ⟨a, ha, ea⟩ := sum_real Finset.univ (fun x => Ideal.exp (s x - top s c)) fun x _ => hw x
  obtain ⟨b, hb, eb⟩ := sum_real (Finset.univ.erase 0) (fun x => Ideal.exp (c x - top s c)) fun x _ => by
    obtain ⟨r, hr, e⟩ := hv x
    exact ⟨r, hr.le, e⟩
  obtain ⟨r, hr, er⟩ := hv 0
  refine ⟨a + (r + b), by positivity, ?_⟩
  unfold den
  rw [← Finset.add_sum_erase _ _ (Finset.mem_univ (0 : Fin 256)), ea, eb, er, EReal.coe_add, EReal.coe_add]

include hs hc in
theorem byReciprocal_eq (v : Fin 512 → EReal) (w : Fin 256 → EReal) : byReciprocal s c v w = byQuotient s c v w := by
  obtain ⟨d, hd, ed⟩ := den_real s c hs hc
  have h0 : (d : EReal) ≠ 0 := by exact_mod_cast hd.ne'
  have hdiv : ∀ y : EReal, Ideal.div y (d : EReal) = y * ((d⁻¹ : ℝ) : EReal) := fun y => by
    unfold Ideal.div
    rw [if_neg h0, EReal.coe_inv]
  unfold byReciprocal byQuotient
  simp only [ed, hdiv, one_mul]
  rw [sum_mul_real _ _ _ (inv_nonneg.2 hd.le)]
  congr 1
  exact Finset.sum_congr rfl fun x _ => by rw [mul_assoc, mul_assoc, mul_comm (v x)]

variable (q k : Sq.Idx → EReal) (kc : Sc.Idx → EReal) (T : Sb.Idx → EReal) (hq : ∀ i, ∃ r : ℝ, q i = (r : EReal))
  (hk : ∀ i, ∃ r : ℝ, k i = (r : EReal)) (hkc : ∀ i, ∃ r : ℝ, kc i = (r : EReal)) (hT : ∀ i, T i ≠ ⊤)

include hq hk hT in
theorem scoreW_ne_top (b : Fin 4) (r a : Fin 64) (h : Fin 8) (x : Fin 512) : scoreW q k T b r a h x ≠ ⊤ := by
  unfold scoreW
  obtain ⟨t, e⟩ := dot_real Finset.univ (fun e => q (ix3 b (rowPos r a) (lane h e))) (fun e => k (ix3 b (bandPos r x) (lane h e)))
    (fun _ => hq _) (fun _ => hk _)
  rw [e]
  have := hT (ix4 h (biasRow r) a x)
  generalize T (ix4 h (biasRow r) a x) = y at this
  induction y with
  | bot => simp
  | top => exact absurd rfl this
  | coe r => rw [← EReal.coe_add]; exact EReal.coe_ne_top _

include hq hkc in
theorem scoreC_real (b : Fin 4) (r a : Fin 64) (h : Fin 8) (x : Fin 256) : ∃ t : ℝ, scoreC q kc b r a h x = (t : EReal) :=
  dot_real Finset.univ (fun e => q (ix3 b (rowPos r a) (lane h e))) (fun e => kc (ix3 b x (lane h e))) (fun _ => hq _) (fun _ => hkc _)

end Cert.Attn
-- ==== Proof.Finite.lean ====
/- What the precondition says of each element. -/
module

public import proofs.«01_k».proof.Proof.Gen.Pre_finite
public import Idealize.ShloMosaic.Lib.ReduceAll
public import Idealize.ShloMosaic.Lib.Pointwise
public import Idealize.ShloMosaic.PureOps.Ideal

@[expose] public section

noncomputable section

namespace Cert.Pre_finite.Read

open Idealize.ShloMosaic Cert.Pre_finite Cert.Pre_finite.Gen

theorem inf_bits : Ideal.ofBits .f32 2139095040#32 = ⊤ := by simp [Ideal.ofBits, Ideal.ieee]

instance : Subsingleton S_.Idx := ⟨fun a b => funext fun x => x.elim0⟩

/-- An element that passes the comparison of its absolute value with +∞ is a real number. -/
theorem real_of_abs (x : EReal) (h : Ideal.cmp .olt (FloatOps.absf (F := Ideal) (φ := .f32) x) (Ideal.ofBits .f32 2139095040#32) = 1#1) :
    ∃ r : ℝ, x = (r : EReal) := by
  rw [inf_bits] at h
  induction x with
  | coe r => exact ⟨r, rfl⟩
  | bot => exact absurd h (by simp [Ideal.cmp, FloatOps.absf])
  | top => exact absurd h (by simp [Ideal.cmp, FloatOps.absf])

theorem ne_top_of_lt (x : EReal) (h : Ideal.cmp .olt x (Ideal.ofBits .f32 2139095040#32) = 1#1) : x ≠ ⊤ := by
  rw [inf_bits] at h
  rintro rfl
  exact absurd h (by simp [Ideal.cmp])

theorem and_one {a b : BitVec 1} (h : IntOp.andi a b = 1#1) : a = 1#1 ∧ b = 1#1 := by
  revert a b
  decide

variable (x0 x1 x2 : FVec Ideal S4x4096x512 .bf16) (x3 x4 : FVec Ideal S4x256x512 .bf16) (x5 : FVec Ideal S8x8x64x512 .f32)

theorem finite_apply (h : fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x3 i = (r : EReal)) ∧ ∀ i, x5 i ≠ ⊤ := by
  have h0 := congrFun h ix0
  unfold fn fn_part1 at h0
  dsimp only at h0
  obtain ⟨ha, h5⟩ := and_one h0
  obtain ⟨hb, h3⟩ := and_one ha
  obtain ⟨h00, h1⟩ := and_one hb
  refine ⟨fun i => ?_, fun i => ?_, fun i => ?_, fun i => ?_⟩
  · exact real_of_abs _ (Host.reduce_andi_all _ _ _ _ _ h00 i)
  · exact real_of_abs _ (Host.reduce_andi_all _ _ _ _ _ h1 i)
  · exact real_of_abs _ (Host.reduce_andi_all _ _ _ _ _ h3 i)
  · exact ne_top_of_lt _ (Host.reduce_andi_all _ _ _ _ _ h5 i)

end Cert.Pre_finite.Read
-- ==== Proof.Equal.lean ====
/- The kernel's whole result is the reference's. -/
module

public import proofs.«01_k».proof.Proof.Whole
public import proofs.«01_k».proof.Proof.Reference
public import proofs.«01_k».proof.Proof.Softmax
public import proofs.«01_k».proof.Proof.Finite

@[expose] public section

set_option maxRecDepth 16384

noncomputable section

namespace Cert.Attn

open Idealize.ShloMosaic Idealize.ShloMosaic.TcCoe Idealize.SL.Sem Cert.KernelIdeal Cert.KernelIdeal.Gen Cert.KernelIdeal.Whole

/-- Every index of the result is a batch, a query of a row and a lane of a head. -/
theorem index_split (i : Sq.Idx) : ∃ (b : Fin 4) (r a : Fin 64) (h : Fin 8) (e : Fin 64), i = ix3 b (rowPos r a) (lane h e) := by
  have h1 := (i 1).isLt
  have h2 := (i 2).isLt
  change (i 1).val < 4096 at h1
  change (i 2).val < 512 at h2
  refine ⟨i 0, ⟨(i 1).val / 64, by omega⟩, ⟨(i 1).val % 64, by omega⟩, ⟨(i 2).val / 64, by omega⟩, ⟨(i 2).val % 64, by omega⟩, ?_⟩
  funext z
  apply Fin.ext
  match z with
  | ⟨0, _⟩ => rfl
  | ⟨1, _⟩ => exact (Nat.div_add_mod (i 1).val 64).symm
  | ⟨2, _⟩ => exact (Nat.div_add_mod (i 2).val 64).symm

/-- Under the precondition the kernel's array is the reference's last value. -/
theorem equal (m : (ℓ : Loc nD τ sig) → Buf (Elt Ideal) ℓ) (c : Dev nD)
    (hpre : Cert.Pre_finite.fn (F := Ideal) (arr0 m c) (arr1 m c) (arr2 m c) (arr3 m c) (arr4 m c) (arr5 m c) = fun _ => 1#1) :
    ((dats m 0 c).arrAt 6 cfg0.N : Sq.Idx → EReal)
      = Cert.ReferenceIdeal.Read.val_main_v73 (F := Ideal) (arr0 m c) (arr1 m c) (arr2 m c) (arr3 m c) (arr4 m c) (arr5 m c) := by
  obtain ⟨h0, h1, h3, h5⟩ := Cert.Pre_finite.Read.finite_apply _ _ _ _ _ _ hpre
  funext i
  obtain ⟨b, r, a, h, e, rfl⟩ := index_split i
  refine (result m c b r a h e).trans (Eq.trans ?_ (Cert.ReferenceIdeal.Whole.result _ _ _ _ _ _ b r a h e).symm)
  exact byReciprocal_eq _ _ (scoreW_ne_top _ _ _ h0 h1 h5 b r a h) (scoreC_real _ _ h0 h3 b r a h) _ _

end Cert.Attn
-- ==== Proof.Experts.Windows.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp

/-! The experts' call: its tables, its windows' blocks, its staging memrefs and its body, at a point. -/

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Window 19 (result 0 (%0)) is written back at every point, at any contents of the tables (its index map reads none). -/
theorem flush0_19 (a : (pcfg0 (F := F)).Adm) : ∀ t : Fin (cfg0 a).N, ((cfg0 a).win 19).flush t = true :=
  (fun t => (Pipeline.Window.flushOf_reads cc0_transform_19 reads0_19 hreads0_19 0 (by decide) (by decide) (Pipeline.Window.sep_of_coord cc0_transform_19 0 0 (fun _ => rfl) (by decide)) (P := 1) (m := 0) (by decide) rfl t).mpr (Nat.mod_one _) : ∀ t : Fin grid0.N, Pipeline.Window.flushOf grid0 true cc0_transform_19 t = true)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`). -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S52 .i32 := Memref.whole main_arg2
abbrev htbM0_0 : tbM0_0.IsWhole := Memref.isWhole_whole _
abbrev tbM0_1 : Memref sig .tc .smem S52 .i32 := Memref.whole main_arg3
abbrev htbM0_1 : tbM0_1.IsWhole := Memref.isWhole_whole _
abbrev tbM0_2 : Memref sig .tc .smem S52 .i32 := Memref.whole main_arg4
abbrev htbM0_2 : tbM0_2.IsWhole := Memref.isWhole_whole _
abbrev tbM0_3 : Memref sig .tc .smem S416 .i32 := Memref.whole main_arg5
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = {0, 1, 2, 3} from by decide,
    bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/- Each input window's current staging buffer holds its block at every point, fetched there or not. -/

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of (hO : Ok m) {c : Dev nD} (dat : Dat τ (Elt F) Unit ℕ (UR sig nD τ) ℕ (cfgM m hO) c) (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of (hO : Ok m) {c : Dev nD} (dat : Dat τ (Elt F) Unit ℕ (UR sig nD τ) ℕ (cfgM m hO) c) (hA : dat.A 12 = V m c (Pipeline.arrRef spec0 12))
    (hafter : ∀ t, dat.after 12 t = iblk m hO c 12 t) (t : Fin (cfgM m hO).N) (d) : dat.before 12 t d = iblk m hO c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of (hO : Ok m) {c : Dev nD} (dat : Dat τ (Elt F) Unit ℕ (UR sig nD τ) ℕ (cfgM m hO) c) (hA : dat.A 13 = V m c (Pipeline.arrRef spec0 13))
    (hafter : ∀ t, dat.after 13 t = iblk m hO c 13 t) (t : Fin (cfgM m hO).N) (d) : dat.before 13 t d = iblk m hO c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of (hO : Ok m) {c : Dev nD} (dat : Dat τ (Elt F) Unit ℕ (UR sig nD τ) ℕ (cfgM m hO) c) (hA : dat.A 14 = V m c (Pipeline.arrRef spec0 14))
    (hafter : ∀ t, dat.after 14 t = iblk m hO c 14 t) (t : Fin (cfgM m hO).N) (d) : dat.before 14 t d = iblk m hO c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of (hO : Ok m) {c : Dev nD} (dat : Dat τ (Elt F) Unit ℕ (UR sig nD τ) ℕ (cfgM m hO) c) (hA : dat.A 15 = V m c (Pipeline.arrRef spec0 15))
    (hafter : ∀ t, dat.after 15 t = iblk m hO c 15 t) (t : Fin (cfgM m hO).N) (d) : dat.before 15 t d = iblk m hO c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of (hO : Ok m) {c : Dev nD} (dat : Dat τ (Elt F) Unit ℕ (UR sig nD τ) ℕ (cfgM m hO) c) (hA : dat.A 16 = V m c (Pipeline.arrRef spec0 16))
    (hafter : ∀ t, dat.after 16 t = iblk m hO c 16 t) (t : Fin (cfgM m hO).N) (d) : dat.before 16 t d = iblk m hO c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of (hO : Ok m) {c : Dev nD} (dat : Dat τ (Elt F) Unit ℕ (UR sig nD τ) ℕ (cfgM m hO) c) (hA : dat.A 17 = V m c (Pipeline.arrRef spec0 17))
    (hafter : ∀ t, dat.after 17 t = iblk m hO c 17 t) (t : Fin (cfgM m hO).N) (d) : dat.before 17 t d = iblk m hO c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of (hO : Ok m) {c : Dev nD} (dat : Dat τ (Elt F) Unit ℕ (UR sig nD τ) ℕ (cfgM m hO) c) (hA : dat.A 18 = V m c (Pipeline.arrRef spec0 18))
    (hafter : ∀ t, dat.after 18 t = iblk m hO c 18 t) (t : Fin (cfgM m hO).N) (d) : dat.before 18 t d = iblk m hO c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1200000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post . -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 7).trans (((dats 0 c).arrAt_in 7 rfl _).trans ((hA c 7).trans rfl)),
      ((h c).1 15).trans (((dats 0 c).arrAt_in 15 rfl _).trans ((hA c 15).trans rfl)),
      ((h c).2 main_arg2 (by decide : main_arg2 ∈ Pipeline.restRefs sig spec0)).trans rfl,
      ((h c).2 main_arg3 (by decide : main_arg3 ∈ Pipeline.restRefs sig spec0)).trans rfl,
      ((h c).2 main_arg4 (by decide : main_arg4 ∈ Pipeline.restRefs sig spec0)).trans rfl,
      ((h c).2 main_arg5 (by decide : main_arg5 ∈ Pipeline.restRefs sig spec0)).trans rfl,
      ((h c).1 16).trans (((dats 0 c).arrAt_in 16 rfl _).trans ((hA c 16).trans rfl)),
      ((h c).1 17).trans (((dats 0 c).arrAt_in 17 rfl _).trans ((hA c 17).trans rfl)),
      ((h c).1 18).trans (((dats 0 c).arrAt_in 18 rfl _).trans ((hA c 18).trans rfl))⟩) h

/-- One staging buffer of output window 19, through which its contents are stated (`View.read_writes_of_cover`: the
    choice does not matter). -/
abbrev VO0_19 : View sig .tc .vmem S8x64x1024 .bf16 := (Memref.whole cc0_stg19_0 : Memref sig .tc .vmem S8x64x1024 .bf16).view
/-- Each window's current staging memref at point `t`, spelled as the pipeline passes it (`bodyAt0`), and its wholeness. -/
abbrev ms0_0 (hO : Ok m) (t : Fin (cfgM m hO).N) : Memref sig .tc .vmem S1x64x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x64x1024 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x64x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x64x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x64x1024 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x64x1024 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x64x1024 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x64x1024 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x64x128 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x64x128 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x64x128 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x64x128 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x64x128 .f32 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x64x128 .f32 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S1x64x128 .f32 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S1x64x128 .f32 := spec0_15.stage ((cfgM m hO).slots t 15)
abbrev hs0_15 (hO : Ok m) (t : Fin (cfgM m hO).N) : (ms0_15 m hO t).IsWhole := hstage0_15 (((cfgM m hO).slots t 15).cast nbuf0_15)
abbrev ms0_16 (hO : Ok m) (t : Fin (cfgM m hO).N) : Memref sig .tc .vmem S4x1024x256 .f32 := spec0_16.stage ((cfgM m hO).slots t 16)
abbrev hs0_16 (hO : Ok m) (t : Fin (cfgM m hO).N) : (ms0_16 m hO t).IsWhole := hstage0_16 (((cfgM m hO).slots t 16).cast nbuf0_16)
abbrev ms0_17 (hO : Ok m) (t : Fin (cfgM m hO).N) : Memref sig .tc .vmem S4x1024x256 .f32 := spec0_17.stage ((cfgM m hO).slots t 17)
abbrev hs0_17 (hO : Ok m) (t : Fin (cfgM m hO).N) : (ms0_17 m hO t).IsWhole := hstage0_17 (((cfgM m hO).slots t 17).cast nbuf0_17)
abbrev ms0_18 (hO : Ok m) (t : Fin (cfgM m hO).N) : Memref sig .tc .vmem S4x256x1024 .f32 := spec0_18.stage ((cfgM m hO).slots t 18)
abbrev hs0_18 (hO : Ok m) (t : Fin (cfgM m hO).N) : (ms0_18 m hO t).IsWhole := hstage0_18 (((cfgM m hO).slots t 18).cast nbuf0_18)
abbrev ms0_19 (hO : Ok m) (t : Fin (cfgM m hO).N) : Memref sig .tc .vmem S8x64x1024 .bf16 := spec0_19.stage ((cfgM m hO).slots t 19)
abbrev hs0_19 (hO : Ok m) (t : Fin (cfgM m hO).N) : (ms0_19 m hO t).IsWhole := hstage0_19 (((cfgM m hO).slots t 19).cast nbuf0_19)
/-- The scratch operands: whole scoped buffers of the kernel's own, passed beside the windows. -/
abbrev scM0_0 : Memref sig .tc .vmem S4x1024x256 .bf16 := Memref.whole cc0_scratch0
abbrev scM0_1 : Memref sig .tc .vmem S4x1024x256 .bf16 := Memref.whole cc0_scratch1
abbrev scM0_2 : Memref sig .tc .vmem S4x256x1024 .bf16 := Memref.whole cc0_scratch2
/-- The scratch `arg25` the kernel carries between points, as a view: what it holds is stated through it. -/
abbrev VS0_0 : View sig .tc .vmem S4x1024x256 .bf16 := scM0_0.view
/-- The scratch `arg26` the kernel carries between points, as a view: what it holds is stated through it. -/
abbrev VS0_1 : View sig .tc .vmem S4x1024x256 .bf16 := scM0_1.view
/-- The scratch `arg27` the kernel carries between points, as a view: what it holds is stated through it. -/
abbrev VS0_2 : View sig .tc .vmem S4x256x1024 .bf16 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_sorted_experts (grid0.coords t) (Memref.whole main_arg2) (Memref.isWhole_whole _) (Memref.whole main_arg3) (Memref.isWhole_whole _) (Memref.whole main_arg4) (Memref.isWhole_whole _) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (spec0_17.stage ((cfg0 a).slots t 17)) (hstage0_17 (((cfg0 a).slots t 17).cast nbuf0_17)) (spec0_18.stage ((cfg0 a).slots t 18)) (hstage0_18 (((cfg0 a).slots t 18).cast nbuf0_18)) (spec0_19.stage ((cfg0 a).slots t 19)) (hstage0_19 (((cfg0 a).slots t 19).cast nbuf0_19)) (Memref.whole cc0_scratch0) (Memref.isWhole_whole _) (Memref.whole cc0_scratch1) (Memref.isWhole_whole _) (Memref.whole cc0_scratch2) (Memref.isWhole_whole _)

end Cert.Experts

end
-- ==== Proof.Experts.Loads.lean ====
module

public import proofs.«01_k».proof.Proof.Experts.Windows
public import Idealize.ShloMosaic.Lib.WholeRead
public import Idealize.ShloMosaic.Lib.VecWindow

/-! The experts' call: what its body computes from what it loads, and the conditions of its branches. -/

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads -/

section Loads

variable {κ : Kind} {sp : Space} {s : Shape} {e : EltTy} {M : Memref sig κ sp s e}

theorem load_full (h : M.IsWhole) (X : s.Idx → Elt F e) {off : Fin s.rank → ℕ} (inb : ∀ a, off a + s.size a ≤ s.size a) :
    M.view.readAt (Elt F) (Rect.unit off s.size inb).toLoadRect (h.unread X) = X :=
  (View.readAt_full M.view _ inb).trans (h.read_unread X)

/-- What a load of the box `B` reads of `X`. -/
def slice (X : s.Idx → Elt F e) (B : LoadRect s) : B.shape.Idx → Elt F e := fun j => X (B.idx j)

theorem load_slice (h : M.IsWhole) (X : s.Idx → Elt F e) (B : LoadRect s) :
    M.view.readAt (Elt F) B (h.unread X) = slice X B := funext fun j => h.readAt_unread X B j

theorem load_stored {off : Fin s.rank → ℕ} (inb : ∀ a, off a + s.size a ≤ s.size a) (X : s.Idx → Elt F e) (B : LoadRect s) :
    M.view.readCov [⟨Rect.unit off s.size inb, X⟩] B = slice X B :=
  funext fun j => congrFun (View.read_writes_full M.view M.view.junk inb X []) (B.idx j)

theorem read_stored {v : View sig κ sp s e} {f : v.ty.Contents (Elt F)} {L : List (View.Piece (Elt F) s e)} {off : Fin s.rank → ℕ} (inb : ∀ a, off a + s.size a ≤ s.size a)
    {X Y : s.Idx → Elt F e} (hL : L = [⟨Rect.unit off s.size inb, X⟩]) (hX : X = Y) : v.read (Elt F) (v.writes (Elt F) f L) = Y := by
  subst hL hX; exact View.read_writes_full v f inb X []

theorem owns_unread {M : Memref sig .tc sp s e} (h : M.IsWhole) (c : Dev nD) (x : s.Idx → Elt F e) :
    (owns (c : Thread nD τ) M fullShare x : sProp 𝕄) = (M.view.loc (c : Thread nD τ) ↦[M.view.set]{fullShare} h.unread x) := by
  have h₁ : (owns (c : Thread nD τ) M fullShare x : sProp 𝕄) ⊢ (M.view.loc (c : Thread nD τ) ↦[M.view.set]{fullShare} h.unread x) := by
    unfold owns
    iintro ⟨%f, %hf, H⟩
    obtain rfl := h.eq_unread hf
    iexact H
  have h₂ : (M.view.loc (c : Thread nD τ) ↦[M.view.set]{fullShare} h.unread x) ⊢ (owns (c : Thread nD τ) M fullShare x : sProp 𝕄) := by
    unfold owns
    iintro H
    iexists _; isplitr; · ipureintro; exact h.read_unread x
    iexact H
  exact Idealize.SL.BI.equiv_iff.mp ⟨h₁, h₂⟩

end Loads

/-! ## What the body computes -/

section Block

variable (g : BitVec 32)
  (x0 x1 x2 x3 x4 x5 x6 x7 : Vec F S1x64x1024 .bf16) (x8 x9 x10 x11 x12 x13 x14 x15 : Vec F S1x64x128 .f32)
  (a0 a1 a2 a3 b0 b1 b2 b3 : Vec F S1x1024x256 .bf16) (d0 d1 d2 d3 : Vec F S1x256x1024 .bf16)

/-- The rows of the block, and their routing weights. -/
def rows : FVec F S512x1024 .bf16 := k0_pay6 x0 x1 x2 x3 x4 x5 x6 x7
def weights : FVec F S512x128 .f32 := k0_pay10 (k0_pay7 x8) (k0_pay8 x9) (k0_pay9 x10) x11 x12 x13 x14 x15

/-- The fourth expert's hidden rows. -/
def lastHidden : FVec F S512x256 .bf16 :=
  k0_pay23 (rows x0 x1 x2 x3 x4 x5 x6 x7) (k0_pay15 (weights x8 x9 x10 x11 x12 x13 x14 x15) g (iota .tc S512x128 32 [1] iota_S512x128_d1_w32))
    (k0_pay19 (rows x0 x1 x2 x3 x4 x5 x6 x7) a3) b3

/-- The first three experts' results, added. -/
def firstThree : FVec F S512x1024 .f32 :=
  k0_pay24 (rows x0 x1 x2 x3 x4 x5 x6 x7)
    (k0_pay11 (k0_pay7 x8) (k0_pay8 x9) (k0_pay9 x10) x11 x12 x13 x14 x15 g)
    (k0_pay12 (k0_pay7 x8) (k0_pay8 x9) (k0_pay9 x10) x11 x12 x13 x14 x15 g)
    (k0_pay14 (k0_pay13 (k0_pay7 x8) (k0_pay8 x9) (k0_pay9 x10) x11 x12 x13 x14 x15 g))
    (k0_pay16 (rows x0 x1 x2 x3 x4 x5 x6 x7) a0) (k0_pay17 (rows x0 x1 x2 x3 x4 x5 x6 x7) a1) (k0_pay18 (rows x0 x1 x2 x3 x4 x5 x6 x7) a2)
    (k0_pay20 (rows x0 x1 x2 x3 x4 x5 x6 x7) b0) (k0_pay21 (rows x0 x1 x2 x3 x4 x5 x6 x7) b1) (k0_pay22 b2)
    d0 d1 d2

/-- The block as the body stores it: eight pieces of 64 rows, the last first. -/
def piecesOf (h : FVec F S512x256 .bf16) (y : FVec F S512x1024 .f32) (d : Vec F S1x256x1024 .bf16) : List (View.Piece (Elt F) S8x64x1024 .bf16) :=
  [⟨Rect.unit (s := S8x64x1024) ![7, 0, 0] S1x64x1024.size inb_S8x64x1024_S1x64x1024_7_0_0, k0_pay4 (k0_pay25 h y d)⟩,
   ⟨Rect.unit (s := S8x64x1024) ![6, 0, 0] S1x64x1024.size inb_S8x64x1024_S1x64x1024_6_0_0, k0_pay32 h y d⟩,
   ⟨Rect.unit (s := S8x64x1024) ![5, 0, 0] S1x64x1024.size inb_S8x64x1024_S1x64x1024_5_0_0, k0_pay31 h y d⟩,
   ⟨Rect.unit (s := S8x64x1024) ![4, 0, 0] S1x64x1024.size inb_S8x64x1024_S1x64x1024_4_0_0, k0_pay30 h y d⟩,
   ⟨Rect.unit (s := S8x64x1024) ![3, 0, 0] S1x64x1024.size inb_S8x64x1024_S1x64x1024_3_0_0, k0_pay29 h y d⟩,
   ⟨Rect.unit (s := S8x64x1024) ![2, 0, 0] S1x64x1024.size inb_S8x64x1024_S1x64x1024_2_0_0, k0_pay28 h y d⟩,
   ⟨Rect.unit (s := S8x64x1024) ![1, 0, 0] S1x64x1024.size inb_S8x64x1024_S1x64x1024_1_0_0, k0_pay27 h y d⟩,
   ⟨Rect.unit (s := S8x64x1024) ![0, 0, 0] S1x64x1024.size inb_S8x64x1024_S1x64x1024_0_0_0, k0_pay26 h y d⟩]

def pieces : List (View.Piece (Elt F) S8x64x1024 .bf16) :=
  piecesOf (lastHidden g x0 x1 x2 x3 x4 x5 x6 x7 x8 x9 x10 x11 x12 x13 x14 x15 a3 b3)
    (firstThree g x0 x1 x2 x3 x4 x5 x6 x7 x8 x9 x10 x11 x12 x13 x14 x15 a0 a1 a2 b0 b1 b2 d0 d1 d2) d3

end Block

/-- The block a used point leaves, from its inputs and the weights it computes with. -/
def usedBlock (g : BitVec 32) (x0 x1 x2 x3 x4 x5 x6 x7 : Vec F S1x64x1024 .bf16) (x8 x9 x10 x11 x12 x13 x14 x15 : Vec F S1x64x128 .f32)
    (w1 w3 : Vec F S4x1024x256 .bf16) (w2 : Vec F S4x256x1024 .bf16) : Vec F S8x64x1024 .bf16 :=
  View.canon (pieces g x0 x1 x2 x3 x4 x5 x6 x7 x8 x9 x10 x11 x12 x13 x14 x15
    (slice w1 (Rect.unit (s := S4x1024x256) ![0, 0, 0] S1x1024x256.size inb_S4x1024x256_S1x1024x256_0_0_0).toLoadRect) (slice w1 (Rect.unit (s := S4x1024x256) ![1, 0, 0] S1x1024x256.size inb_S4x1024x256_S1x1024x256_1_0_0).toLoadRect) (slice w1 (Rect.unit (s := S4x1024x256) ![2, 0, 0] S1x1024x256.size inb_S4x1024x256_S1x1024x256_2_0_0).toLoadRect) (slice w1 (Rect.unit (s := S4x1024x256) ![3, 0, 0] S1x1024x256.size inb_S4x1024x256_S1x1024x256_3_0_0).toLoadRect)
    (slice w3 (Rect.unit (s := S4x1024x256) ![0, 0, 0] S1x1024x256.size inb_S4x1024x256_S1x1024x256_0_0_0).toLoadRect) (slice w3 (Rect.unit (s := S4x1024x256) ![1, 0, 0] S1x1024x256.size inb_S4x1024x256_S1x1024x256_1_0_0).toLoadRect) (slice w3 (Rect.unit (s := S4x1024x256) ![2, 0, 0] S1x1024x256.size inb_S4x1024x256_S1x1024x256_2_0_0).toLoadRect) (slice w3 (Rect.unit (s := S4x1024x256) ![3, 0, 0] S1x1024x256.size inb_S4x1024x256_S1x1024x256_3_0_0).toLoadRect)
    (slice w2 (Rect.unit (s := S4x256x1024) ![0, 0, 0] S1x256x1024.size inb_S4x256x1024_S1x256x1024_0_0_0).toLoadRect) (slice w2 (Rect.unit (s := S4x256x1024) ![1, 0, 0] S1x256x1024.size inb_S4x256x1024_S1x256x1024_1_0_0).toLoadRect) (slice w2 (Rect.unit (s := S4x256x1024) ![2, 0, 0] S1x256x1024.size inb_S4x256x1024_S1x256x1024_2_0_0).toLoadRect) (slice w2 (Rect.unit (s := S4x256x1024) ![3, 0, 0] S1x256x1024.size inb_S4x256x1024_S1x256x1024_3_0_0).toLoadRect))

theorem pieces_cover (h : FVec F S512x256 .bf16) (y : FVec F S512x1024 .f32) (d : Vec F S1x256x1024 .bf16) (z : S8x64x1024.Idx) :
    ∃ p ∈ piecesOf h y d, z ∈ p.1.set :=
  View.cover_of_tiledBy (piecesOf h y d) ![1, 64, 1024] (by sl_kernel_rfl) z

/-! ## The conditions -/

/-- The word of a table at a point, as the body loads it. -/
abbrev wordAt {c : Dev nD} (M : Memref sig .tc .smem S52 .i32) (x : TbBuf0 (F := F) c M) (off : Fin 1 → ℕ) (h : ∀ a, off a + S1.size a ≤ S52.size a) : BitVec 32 :=
  M.view.readAt (Elt F) (Rect.unit (s := S52) off S1.size h).toLoadRect x (Shape.Idx.first (numel1_S1.symm ▸ Nat.one_pos))
abbrev freshAt {c : Dev nD} (i : grid0.Coords) (x : TbBuf0 (F := F) c tbM0_2) : Prop :=
  Scalar.cmpi .ne (Scalar.extui (Scalar.cmpi .sgt (wordAt tbM0_2 x (k0_off2 i) (k0_off2_inb i)) 0#32)) 0#32 = 1#1
abbrev usedAt {c : Dev nD} (i : grid0.Coords) (x : TbBuf0 (F := F) c tbM0_1) : Prop := k0_cond2 (wordAt tbM0_1 x (k0_off3 i) (k0_off3_inb i)) = 1#1
abbrev unusedAt {c : Dev nD} (i : grid0.Coords) (x : TbBuf0 (F := F) c tbM0_1) : Prop := k0_cond3 (wordAt tbM0_1 x (k0_off5 i) (k0_off5_inb i)) = 1#1

end Cert.Experts

end
-- ==== Proof.Experts.Run.lean ====
module

public import proofs.«01_k».proof.Proof.Experts.Loads

/-! The experts' call: the run of its body at a point. -/

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  {arg5 : Memref sig .tc .vmem S1x64x1024 .bf16} (harg5 : arg5.IsWhole)
  {arg6 : Memref sig .tc .vmem S1x64x1024 .bf16} (harg6 : arg6.IsWhole)
  {arg7 : Memref sig .tc .vmem S1x64x1024 .bf16} (harg7 : arg7.IsWhole)
  {arg8 : Memref sig .tc .vmem S1x64x1024 .bf16} (harg8 : arg8.IsWhole)
  {arg9 : Memref sig .tc .vmem S1x64x1024 .bf16} (harg9 : arg9.IsWhole)
  {arg10 : Memref sig .tc .vmem S1x64x1024 .bf16} (harg10 : arg10.IsWhole)
  {arg11 : Memref sig .tc .vmem S1x64x1024 .bf16} (harg11 : arg11.IsWhole)
  {arg12 : Memref sig .tc .vmem S1x64x1024 .bf16} (harg12 : arg12.IsWhole)
  {arg13 : Memref sig .tc .vmem S1x64x128 .f32} (harg13 : arg13.IsWhole)
  {arg14 : Memref sig .tc .vmem S1x64x128 .f32} (harg14 : arg14.IsWhole)
  {arg15 : Memref sig .tc .vmem S1x64x128 .f32} (harg15 : arg15.IsWhole)
  {arg16 : Memref sig .tc .vmem S1x64x128 .f32} (harg16 : arg16.IsWhole)
  {arg17 : Memref sig .tc .vmem S1x64x128 .f32} (harg17 : arg17.IsWhole)
  {arg18 : Memref sig .tc .vmem S1x64x128 .f32} (harg18 : arg18.IsWhole)
  {arg19 : Memref sig .tc .vmem S1x64x128 .f32} (harg19 : arg19.IsWhole)
  {arg20 : Memref sig .tc .vmem S1x64x128 .f32} (harg20 : arg20.IsWhole)
  {arg21 : Memref sig .tc .vmem S4x1024x256 .f32} (harg21 : arg21.IsWhole)
  {arg22 : Memref sig .tc .vmem S4x1024x256 .f32} (harg22 : arg22.IsWhole)
  {arg23 : Memref sig .tc .vmem S4x256x1024 .f32} (harg23 : arg23.IsWhole)
  {arg24 : Memref sig .tc .vmem S8x64x1024 .bf16} (harg24 : arg24.IsWhole)
  {arg25 : Memref sig .tc .vmem S4x1024x256 .bf16} (harg25 : arg25.IsWhole)
  {arg26 : Memref sig .tc .vmem S4x1024x256 .bf16} (harg26 : arg26.IsWhole)
  {arg27 : Memref sig .tc .vmem S4x256x1024 .bf16} (harg27 : arg27.IsWhole)
  (x0 x1 x2 x3 x4 x5 x6 x7 : Vec F S1x64x1024 .bf16) (x8 x9 x10 x11 x12 x13 x14 x15 : Vec F S1x64x128 .f32)
  (x16 x17 : Vec F S4x1024x256 .f32) (x18 : Vec F S4x256x1024 .f32)
  (xt0 : TbBuf0 (F := F) c tbM0_0) (xt1 : TbBuf0 (F := F) c tbM0_1) (xt2 : TbBuf0 (F := F) c tbM0_2) (xt3 : TbBuf0 (F := F) c tbM0_3)
  (xs0 xs1 : Vec F S4x1024x256 .bf16) (xs2 : Vec F S4x256x1024 .bf16)

/-- The body at a point takes the windows, the tables and the scratch it is given to the block and the scratch stated. -/
def Runs (E : Set ℕ) (K : PUnit → sProp 𝕄) (ys0 ys1 : Vec F S4x1024x256 .bf16) (ys2 : Vec F S4x256x1024 .bf16) (o out : Vec F S8x64x1024 .bf16) : Prop :=
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare x10 ∗ owns (c : Thread nD τ) arg16 fullShare x11 ∗ owns (c : Thread nD τ) arg17 fullShare x12 ∗ owns (c : Thread nD τ) arg18 fullShare x13 ∗ owns (c : Thread nD τ) arg19 fullShare x14 ∗ owns (c : Thread nD τ) arg20 fullShare x15 ∗ owns (c : Thread nD τ) arg21 fullShare x16 ∗ owns (c : Thread nD τ) arg22 fullShare x17 ∗ owns (c : Thread nD τ) arg23 fullShare x18 ∗ owns (c : Thread nD τ) arg24 fullShare o ∗ owns (c : Thread nD τ) arg25 fullShare xs0 ∗ owns (c : Thread nD τ) arg26 fullShare xs1 ∗ owns (c : Thread nD τ) arg27 fullShare xs2 ∗ tbPt0 c tbM0_0 xt0 ∗ tbPt0 c tbM0_1 xt1 ∗ tbPt0 c tbM0_2 xt2 ∗ tbPt0 c tbM0_3 xt3
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare x10 ∗ owns (c : Thread nD τ) arg16 fullShare x11 ∗ owns (c : Thread nD τ) arg17 fullShare x12 ∗ owns (c : Thread nD τ) arg18 fullShare x13 ∗ owns (c : Thread nD τ) arg19 fullShare x14 ∗ owns (c : Thread nD τ) arg20 fullShare x15 ∗ owns (c : Thread nD τ) arg21 fullShare x16 ∗ owns (c : Thread nD τ) arg22 fullShare x17 ∗ owns (c : Thread nD τ) arg23 fullShare x18 ∗ owns (c : Thread nD τ) arg24 fullShare out ∗ owns (c : Thread nD τ) arg25 fullShare ys0 ∗ owns (c : Thread nD τ) arg26 fullShare ys1 ∗ owns (c : Thread nD τ) arg27 fullShare ys2 ∗ tbPt0 c tbM0_0 xt0 ∗ tbPt0 c tbM0_1 xt1 ∗ tbPt0 c tbM0_2 xt2 ∗ tbPt0 c tbM0_3 xt3) -∗ K ⟨⟩))
      ⊢ wp frame (wpE (defs₀ (F := F)) Variants.none c none) E (cc0_moe_sorted_experts i tbM0_0 htbM0_0 tbM0_1 htbM0_1 tbM0_2 htbM0_2 tbM0_3 htbM0_3 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K

set_option maxHeartbeats 6400000 in
/-- A fresh point that is used casts its weights and computes its block from them. -/
theorem fresh_used (E : Set ℕ) (K : PUnit → sProp 𝕄) (o : Vec F S8x64x1024 .bf16) (hc0 : freshAt i xt2) (hc1 : usedAt i xt1) (hc2 : ¬ unusedAt i xt1) :
    Runs c i harg5 harg6 harg7 harg8 harg9 harg10 harg11 harg12 harg13 harg14 harg15 harg16 harg17 harg18 harg19 harg20 harg21 harg22 harg23 harg24 harg25 harg26 harg27 x0 x1 x2 x3 x4 x5 x6 x7 x8 x9 x10 x11 x12 x13 x14 x15 x16 x17 x18 xt0 xt1 xt2 xt3 xs0 xs1 xs2 E K (k0_pay1 x16) (k0_pay2 x17) (k0_pay3 x18) o (usedBlock (wordAt tbM0_0 xt0 (k0_off4 i) (k0_off4_inb i)) x0 x1 x2 x3 x4 x5 x6 x7 x8 x9 x10 x11 x12 x13 x14 x15 (k0_pay1 x16) (k0_pay2 x17) (k0_pay3 x18)) := by
  unfold Runs
  simp only [cc0_moe_sorted_experts_eq_skeleton]; unfold cc0_moe_sorted_experts_skel
  simp only [k0_part1_eq_skeleton, k0_part2_eq_skeleton, k0_part3_eq_skeleton, k0_part4_eq_skeleton, k0_part5_eq_skeleton]
  rw [owns_unread harg5 c x0, owns_unread harg6 c x1, owns_unread harg7 c x2, owns_unread harg8 c x3, owns_unread harg9 c x4, owns_unread harg10 c x5, owns_unread harg11 c x6, owns_unread harg12 c x7, owns_unread harg13 c x8, owns_unread harg14 c x9, owns_unread harg15 c x10, owns_unread harg16 c x11, owns_unread harg17 c x12, owns_unread harg18 c x13, owns_unread harg19 c x14, owns_unread harg20 c x15, owns_unread harg21 c x16, owns_unread harg22 c x17, owns_unread harg23 c x18, owns_unread harg24 c o, owns_unread harg25 c xs0, owns_unread harg26 c xs1, owns_unread harg27 c xs2]
  iintro ⟨H0, H1, H2, H3, H4, H5, H6, H7, H8, H9, H10, H11, H12, H13, H14, H15, H16, H17, H18, H19, HS0, HS1, HS2, HT0, HT1, HT2, HT3, Hk⟩
  sl_exec (disch := sl_exact hc0)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · unfold owns; iexists _; isplitr
    swap; · iexact H19
    ipureintro
    refine (View.read_writes_eq_canon arg24.view _ _ (View.cover_of_tiledBy _ ![1, 64, 1024] (by sl_kernel_rfl))).trans ?_
    refine Eq.trans (b := View.canon (pieces (wordAt tbM0_0 xt0 (k0_off4 i) (k0_off4_inb i)) (arg5.view.readAt (Elt F) (Rect.unit (s := S1x64x1024) ![0, 0, 0] S1x64x1024.size inb_S1x64x1024_S1x64x1024_0_0_0).toLoadRect (harg5.unread x0)) (arg6.view.readAt (Elt F) (Rect.unit (s := S1x64x1024) ![0, 0, 0] S1x64x1024.size inb_S1x64x1024_S1x64x1024_0_0_0).toLoadRect (harg6.unread x1)) (arg7.view.readAt (Elt F) (Rect.unit (s := S1x64x1024) ![0, 0, 0] S1x64x1024.size inb_S1x64x1024_S1x64x1024_0_0_0).toLoadRect (harg7.unread x2)) (arg8.view.readAt (Elt F) (Rect.unit (s := S1x64x1024) ![0, 0, 0] S1x64x1024.size inb_S1x64x1024_S1x64x1024_0_0_0).toLoadRect (harg8.unread x3)) (arg9.view.readAt (Elt F) (Rect.unit (s := S1x64x1024) ![0, 0, 0] S1x64x1024.size inb_S1x64x1024_S1x64x1024_0_0_0).toLoadRect (harg9.unread x4)) (arg10.view.readAt (Elt F) (Rect.unit (s := S1x64x1024) ![0, 0, 0] S1x64x1024.size inb_S1x64x1024_S1x64x1024_0_0_0).toLoadRect (harg10.unread x5)) (arg11.view.readAt (Elt F) (Rect.unit (s := S1x64x1024) ![0, 0, 0] S1x64x1024.size inb_S1x64x1024_S1x64x1024_0_0_0).toLoadRect (harg11.unread x6)) (arg12.view.readAt (Elt F) (Rect.unit (s := S1x64x1024) ![0, 0, 0] S1x64x1024.size inb_S1x64x1024_S1x64x1024_0_0_0).toLoadRect (harg12.unread x7)) (arg13.view.readAt (Elt F) (Rect.unit (s := S1x64x128) ![0, 0, 0] S1x64x128.size inb_S1x64x128_S1x64x128_0_0_0).toLoadRect (harg13.unread x8)) (arg14.view.readAt (Elt F) (Rect.unit (s := S1x64x128) ![0, 0, 0] S1x64x128.size inb_S1x64x128_S1x64x128_0_0_0).toLoadRect (harg14.unread x9)) (arg15.view.readAt (Elt F) (Rect.unit (s := S1x64x128) ![0, 0, 0] S1x64x128.size inb_S1x64x128_S1x64x128_0_0_0).toLoadRect (harg15.unread x10)) (arg16.view.readAt (Elt F) (Rect.unit (s := S1x64x128) ![0, 0, 0] S1x64x128.size inb_S1x64x128_S1x64x128_0_0_0).toLoadRect (harg16.unread x11)) (arg17.view.readAt (Elt F) (Rect.unit (s := S1x64x128) ![0, 0, 0] S1x64x128.size inb_S1x64x128_S1x64x128_0_0_0).toLoadRect (harg17.unread x12)) (arg18.view.readAt (Elt F) (Rect.unit (s := S1x64x128) ![0, 0, 0] S1x64x128.size inb_S1x64x128_S1x64x128_0_0_0).toLoadRect (harg18.unread x13)) (arg19.view.readAt (Elt F) (Rect.unit (s := S1x64x128) ![0, 0, 0] S1x64x128.size inb_S1x64x128_S1x64x128_0_0_0).toLoadRect (harg19.unread x14)) (arg20.view.readAt (Elt F) (Rect.unit (s := S1x64x128) ![0, 0, 0] S1x64x128.size inb_S1x64x128_S1x64x128_0_0_0).toLoadRect (harg20.unread x15)) (arg25.view.readCov [⟨Rect.unit (s := S4x1024x256) ![0, 0, 0] S4x1024x256.size inb_S4x1024x256_S4x1024x256_0_0_0, k0_pay1 (arg21.view.readAt (Elt F) (Rect.unit (s := S4x1024x256) ![0, 0, 0] S4x1024x256.size inb_S4x1024x256_S4x1024x256_0_0_0).toLoadRect (harg21.unread x16))⟩] (Rect.unit (s := S4x1024x256) ![0, 0, 0] S1x1024x256.size inb_S4x1024x256_S1x1024x256_0_0_0).toLoadRect) (arg25.view.readCov [⟨Rect.unit (s := S4x1024x256) ![0, 0, 0] S4x1024x256.size inb_S4x1024x256_S4x1024x256_0_0_0, k0_pay1 (arg21.view.readAt (Elt F) (Rect.unit (s := S4x1024x256) ![0, 0, 0] S4x1024x256.size inb_S4x1024x256_S4x1024x256_0_0_0).toLoadRect (harg21.unread x16))⟩] (Rect.unit (s := S4x1024x256) ![1, 0, 0] S1x1024x256.size inb_S4x1024x256_S1x1024x256_1_0_0).toLoadRect) (arg25.view.readCov [⟨Rect.unit (s := S4x1024x256) ![0, 0, 0] S4x1024x256.size inb_S4x1024x256_S4x1024x256_0_0_0, k0_pay1 (arg21.view.readAt (Elt F) (Rect.unit (s := S4x1024x256) ![0, 0, 0] S4x1024x256.size inb_S4x1024x256_S4x1024x256_0_0_0).toLoadRect (harg21.unread x16))⟩] (Rect.unit (s := S4x1024x256) ![2, 0, 0] S1x1024x256.size inb_S4x1024x256_S1x1024x256_2_0_0).toLoadRect) (arg25.view.readCov [⟨Rect.unit (s := S4x1024x256) ![0, 0, 0] S4x1024x256.size inb_S4x1024x256_S4x1024x256_0_0_0, k0_pay1 (arg21.view.readAt (Elt F) (Rect.unit (s := S4x1024x256) ![0, 0, 0] S4x1024x256.size inb_S4x1024x256_S4x1024x256_0_0_0).toLoadRect (harg21.unread x16))⟩] (Rect.unit (s := S4x1024x256) ![3, 0, 0] S1x1024x256.size inb_S4x1024x256_S1x1024x256_3_0_0).toLoadRect) (arg26.view.readCov [⟨Rect.unit (s := S4x1024x256) ![0, 0, 0] S4x1024x256.size inb_S4x1024x256_S4x1024x256_0_0_0, k0_pay2 (arg22.view.readAt (Elt F) (Rect.unit (s := S4x1024x256) ![0, 0, 0] S4x1024x256.size inb_S4x1024x256_S4x1024x256_0_0_0).toLoadRect (harg22.unread x17))⟩] (Rect.unit (s := S4x1024x256) ![0, 0, 0] S1x1024x256.size inb_S4x1024x256_S1x1024x256_0_0_0).toLoadRect) (arg26.view.readCov [⟨Rect.unit (s := S4x1024x256) ![0, 0, 0] S4x1024x256.size inb_S4x1024x256_S4x1024x256_0_0_0, k0_pay2 (arg22.view.readAt (Elt F) (Rect.unit (s := S4x1024x256) ![0, 0, 0] S4x1024x256.size inb_S4x1024x256_S4x1024x256_0_0_0).toLoadRect (harg22.unread x17))⟩] (Rect.unit (s := S4x1024x256) ![1, 0, 0] S1x1024x256.size inb_S4x1024x256_S1x1024x256_1_0_0).toLoadRect) (arg26.view.readCov [⟨Rect.unit (s := S4x1024x256) ![0, 0, 0] S4x1024x256.size inb_S4x1024x256_S4x1024x256_0_0_0, k0_pay2 (arg22.view.readAt (Elt F) (Rect.unit (s := S4x1024x256) ![0, 0, 0] S4x1024x256.size inb_S4x1024x256_S4x1024x256_0_0_0).toLoadRect (harg22.unread x17))⟩] (Rect.unit (s := S4x1024x256) ![2, 0, 0] S1x1024x256.size inb_S4x1024x256_S1x1024x256_2_0_0).toLoadRect) (arg26.view.readCov [⟨Rect.unit (s := S4x1024x256) ![0, 0, 0] S4x1024x256.size inb_S4x1024x256_S4x1024x256_0_0_0, k0_pay2 (arg22.view.readAt (Elt F) (Rect.unit (s := S4x1024x256) ![0, 0, 0] S4x1024x256.size inb_S4x1024x256_S4x1024x256_0_0_0).toLoadRect (harg22.unread x17))⟩] (Rect.unit (s := S4x1024x256) ![3, 0, 0] S1x1024x256.size inb_S4x1024x256_S1x1024x256_3_0_0).toLoadRect) (arg27.view.readCov [⟨Rect.unit (s := S4x256x1024) ![0, 0, 0] S4x256x1024.size inb_S4x256x1024_S4x256x1024_0_0_0, k0_pay3 (arg23.view.readAt (Elt F) (Rect.unit (s := S4x256x1024) ![0, 0, 0] S4x256x1024.size inb_S4x256x1024_S4x256x1024_0_0_0).toLoadRect (harg23.unread x18))⟩] (Rect.unit (s := S4x256x1024) ![0, 0, 0] S1x256x1024.size inb_S4x256x1024_S1x256x1024_0_0_0).toLoadRect) (arg27.view.readCov [⟨Rect.unit (s := S4x256x1024) ![0, 0, 0] S4x256x1024.size inb_S4x256x1024_S4x256x1024_0_0_0, k0_pay3 (arg23.view.readAt (Elt F) (Rect.unit (s := S4x256x1024) ![0, 0, 0] S4x256x1024.size inb_S4x256x1024_S4x256x1024_0_0_0).toLoadRect (harg23.unread x18))⟩] (Rect.unit (s := S4x256x1024) ![1, 0, 0] S1x256x1024.size inb_S4x256x1024_S1x256x1024_1_0_0).toLoadRect) (arg27.view.readCov [⟨Rect.unit (s := S4x256x1024) ![0, 0, 0] S4x256x1024.size inb_S4x256x1024_S4x256x1024_0_0_0, k0_pay3 (arg23.view.readAt (Elt F) (Rect.unit (s := S4x256x1024) ![0, 0, 0] S4x256x1024.size inb_S4x256x1024_S4x256x1024_0_0_0).toLoadRect (harg23.unread x18))⟩] (Rect.unit (s := S4x256x1024) ![2, 0, 0] S1x256x1024.size inb_S4x256x1024_S1x256x1024_2_0_0).toLoadRect) (arg27.view.readCov [⟨Rect.unit (s := S4x256x1024) ![0, 0, 0] S4x256x1024.size inb_S4x256x1024_S4x256x1024_0_0_0, k0_pay3 (arg23.view.readAt (Elt F) (Rect.unit (s := S4x256x1024) ![0, 0, 0] S4x256x1024.size inb_S4x256x1024_S4x256x1024_0_0_0).toLoadRect (harg23.unread x18))⟩] (Rect.unit (s := S4x256x1024) ![3, 0, 0] S1x256x1024.size inb_S4x256x1024_S1x256x1024_3_0_0).toLoadRect))) (by sl_kernel_rfl) ?_
    rw [load_full harg5 x0 inb_S1x64x1024_S1x64x1024_0_0_0, load_full harg6 x1 inb_S1x64x1024_S1x64x1024_0_0_0, load_full harg7 x2 inb_S1x64x1024_S1x64x1024_0_0_0, load_full harg8 x3 inb_S1x64x1024_S1x64x1024_0_0_0, load_full harg9 x4 inb_S1x64x1024_S1x64x1024_0_0_0, load_full harg10 x5 inb_S1x64x1024_S1x64x1024_0_0_0, load_full harg11 x6 inb_S1x64x1024_S1x64x1024_0_0_0, load_full harg12 x7 inb_S1x64x1024_S1x64x1024_0_0_0, load_full harg13 x8 inb_S1x64x128_S1x64x128_0_0_0, load_full harg14 x9 inb_S1x64x128_S1x64x128_0_0_0, load_full harg15 x10 inb_S1x64x128_S1x64x128_0_0_0, load_full harg16 x11 inb_S1x64x128_S1x64x128_0_0_0, load_full harg17 x12 inb_S1x64x128_S1x64x128_0_0_0, load_full harg18 x13 inb_S1x64x128_S1x64x128_0_0_0, load_full harg19 x14 inb_S1x64x128_S1x64x128_0_0_0, load_full harg20 x15 inb_S1x64x128_S1x64x128_0_0_0]
    rw [load_full harg21 x16 inb_S4x1024x256_S4x1024x256_0_0_0, load_full harg22 x17 inb_S4x1024x256_S4x1024x256_0_0_0, load_full harg23 x18 inb_S4x256x1024_S4x256x1024_0_0_0]
    rw [load_stored (M := arg25) inb_S4x1024x256_S4x1024x256_0_0_0 (k0_pay1 x16) (Rect.unit (s := S4x1024x256) ![0, 0, 0] S1x1024x256.size inb_S4x1024x256_S1x1024x256_0_0_0).toLoadRect, load_stored (M := arg25) inb_S4x1024x256_S4x1024x256_0_0_0 (k0_pay1 x16) (Rect.unit (s := S4x1024x256) ![1, 0, 0] S1x1024x256.size inb_S4x1024x256_S1x1024x256_1_0_0).toLoadRect, load_stored (M := arg25) inb_S4x1024x256_S4x1024x256_0_0_0 (k0_pay1 x16) (Rect.unit (s := S4x1024x256) ![2, 0, 0] S1x1024x256.size inb_S4x1024x256_S1x1024x256_2_0_0).toLoadRect, load_stored (M := arg25) inb_S4x1024x256_S4x1024x256_0_0_0 (k0_pay1 x16) (Rect.unit (s := S4x1024x256) ![3, 0, 0] S1x1024x256.size inb_S4x1024x256_S1x1024x256_3_0_0).toLoadRect, load_stored (M := arg26) inb_S4x1024x256_S4x1024x256_0_0_0 (k0_pay2 x17) (Rect.unit (s := S4x1024x256) ![0, 0, 0] S1x1024x256.size inb_S4x1024x256_S1x1024x256_0_0_0).toLoadRect, load_stored (M := arg26) inb_S4x1024x256_S4x1024x256_0_0_0 (k0_pay2 x17) (Rect.unit (s := S4x1024x256) ![1, 0, 0] S1x1024x256.size inb_S4x1024x256_S1x1024x256_1_0_0).toLoadRect, load_stored (M := arg26) inb_S4x1024x256_S4x1024x256_0_0_0 (k0_pay2 x17) (Rect.unit (s := S4x1024x256) ![2, 0, 0] S1x1024x256.size inb_S4x1024x256_S1x1024x256_2_0_0).toLoadRect, load_stored (M := arg26) inb_S4x1024x256_S4x1024x256_0_0_0 (k0_pay2 x17) (Rect.unit (s := S4x1024x256) ![3, 0, 0] S1x1024x256.size inb_S4x1024x256_S1x1024x256_3_0_0).toLoadRect, load_stored (M := arg27) inb_S4x256x1024_S4x256x1024_0_0_0 (k0_pay3 x18) (Rect.unit (s := S4x256x1024) ![0, 0, 0] S1x256x1024.size inb_S4x256x1024_S1x256x1024_0_0_0).toLoadRect, load_stored (M := arg27) inb_S4x256x1024_S4x256x1024_0_0_0 (k0_pay3 x18) (Rect.unit (s := S4x256x1024) ![1, 0, 0] S1x256x1024.size inb_S4x256x1024_S1x256x1024_1_0_0).toLoadRect, load_stored (M := arg27) inb_S4x256x1024_S4x256x1024_0_0_0 (k0_pay3 x18) (Rect.unit (s := S4x256x1024) ![2, 0, 0] S1x256x1024.size inb_S4x256x1024_S1x256x1024_2_0_0).toLoadRect, load_stored (M := arg27) inb_S4x256x1024_S4x256x1024_0_0_0 (k0_pay3 x18) (Rect.unit (s := S4x256x1024) ![3, 0, 0] S1x256x1024.size inb_S4x256x1024_S1x256x1024_3_0_0).toLoadRect]
    rfl
  isplitl [HS0]
  · unfold owns; iexists _; isplitr
    swap; · iexact HS0
    ipureintro; exact read_stored (X := k0_pay1 (arg21.view.readAt (Elt F) (Rect.unit (s := S4x1024x256) ![0, 0, 0] S4x1024x256.size inb_S4x1024x256_S4x1024x256_0_0_0).toLoadRect (harg21.unread x16))) inb_S4x1024x256_S4x1024x256_0_0_0 rfl (congrArg k0_pay1 (load_full harg21 x16 inb_S4x1024x256_S4x1024x256_0_0_0))
  isplitl [HS1]
  · unfold owns; iexists _; isplitr
    swap; · iexact HS1
    ipureintro; exact read_stored (X := k0_pay2 (arg22.view.readAt (Elt F) (Rect.unit (s := S4x1024x256) ![0, 0, 0] S4x1024x256.size inb_S4x1024x256_S4x1024x256_0_0_0).toLoadRect (harg22.unread x17))) inb_S4x1024x256_S4x1024x256_0_0_0 rfl (congrArg k0_pay2 (load_full harg22 x17 inb_S4x1024x256_S4x1024x256_0_0_0))
  isplitl [HS2]
  · unfold owns; iexists _; isplitr
    swap; · iexact HS2
    ipureintro; exact read_stored (X := k0_pay3 (arg23.view.readAt (Elt F) (Rect.unit (s := S4x256x1024) ![0, 0, 0] S4x256x1024.size inb_S4x256x1024_S4x256x1024_0_0_0).toLoadRect (harg23.unread x18))) inb_S4x256x1024_S4x256x1024_0_0_0 rfl (congrArg k0_pay3 (load_full harg23 x18 inb_S4x256x1024_S4x256x1024_0_0_0))
  isplitl [HT0]; · iexact HT0
  isplitl [HT1]; · iexact HT1
  isplitl [HT2]; · iexact HT2
  iexact HT3

set_option maxHeartbeats 6400000 in
/-- A fresh point that is not used casts its weights and leaves zeros. -/
theorem fresh_unused (E : Set ℕ) (K : PUnit → sProp 𝕄) (o : Vec F S8x64x1024 .bf16) (hc0 : freshAt i xt2) (hc1 : ¬ usedAt i xt1) (hc2 : unusedAt i xt1) :
    Runs c i harg5 harg6 harg7 harg8 harg9 harg10 harg11 harg12 harg13 harg14 harg15 harg16 harg17 harg18 harg19 harg20 harg21 harg22 harg23 harg24 harg25 harg26 harg27 x0 x1 x2 x3 x4 x5 x6 x7 x8 x9 x10 x11 x12 x13 x14 x15 x16 x17 x18 xt0 xt1 xt2 xt3 xs0 xs1 xs2 E K (k0_pay1 x16) (k0_pay2 x17) (k0_pay3 x18) o k0_pay5 := by
  unfold Runs
  simp only [cc0_moe_sorted_experts_eq_skeleton]; unfold cc0_moe_sorted_experts_skel
  simp only [k0_part1_eq_skeleton, k0_part2_eq_skeleton, k0_part3_eq_skeleton, k0_part4_eq_skeleton, k0_part5_eq_skeleton]
  rw [owns_unread harg5 c x0, owns_unread harg6 c x1, owns_unread harg7 c x2, owns_unread harg8 c x3, owns_unread harg9 c x4, owns_unread harg10 c x5, owns_unread harg11 c x6, owns_unread harg12 c x7, owns_unread harg13 c x8, owns_unread harg14 c x9, owns_unread harg15 c x10, owns_unread harg16 c x11, owns_unread harg17 c x12, owns_unread harg18 c x13, owns_unread harg19 c x14, owns_unread harg20 c x15, owns_unread harg21 c x16, owns_unread harg22 c x17, owns_unread harg23 c x18, owns_unread harg24 c o, owns_unread harg25 c xs0, owns_unread harg26 c xs1, owns_unread harg27 c xs2]
  iintro ⟨H0, H1, H2, H3, H4, H5, H6, H7, H8, H9, H10, H11, H12, H13, H14, H15, H16, H17, H18, H19, HS0, HS1, HS2, HT0, HT1, HT2, HT3, Hk⟩
  sl_exec (disch := sl_exact hc0)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · unfold owns; iexists _; isplitr
    swap; · iexact H19
    ipureintro
    exact read_stored (X := k0_pay5) inb_S8x64x1024_S8x64x1024_0_0_0 rfl rfl
  isplitl [HS0]
  · unfold owns; iexists _; isplitr
    swap; · iexact HS0
    ipureintro; exact read_stored (X := k0_pay1 (arg21.view.readAt (Elt F) (Rect.unit (s := S4x1024x256) ![0, 0, 0] S4x1024x256.size inb_S4x1024x256_S4x1024x256_0_0_0).toLoadRect (harg21.unread x16))) inb_S4x1024x256_S4x1024x256_0_0_0 rfl (congrArg k0_pay1 (load_full harg21 x16 inb_S4x1024x256_S4x1024x256_0_0_0))
  isplitl [HS1]
  · unfold owns; iexists _; isplitr
    swap; · iexact HS1
    ipureintro; exact read_stored (X := k0_pay2 (arg22.view.readAt (Elt F) (Rect.unit (s := S4x1024x256) ![0, 0, 0] S4x1024x256.size inb_S4x1024x256_S4x1024x256_0_0_0).toLoadRect (harg22.unread x17))) inb_S4x1024x256_S4x1024x256_0_0_0 rfl (congrArg k0_pay2 (load_full harg22 x17 inb_S4x1024x256_S4x1024x256_0_0_0))
  isplitl [HS2]
  · unfold owns; iexists _; isplitr
    swap; · iexact HS2
    ipureintro; exact read_stored (X := k0_pay3 (arg23.view.readAt (Elt F) (Rect.unit (s := S4x256x1024) ![0, 0, 0] S4x256x1024.size inb_S4x256x1024_S4x256x1024_0_0_0).toLoadRect (harg23.unread x18))) inb_S4x256x1024_S4x256x1024_0_0_0 rfl (congrArg k0_pay3 (load_full harg23 x18 inb_S4x256x1024_S4x256x1024_0_0_0))
  isplitl [HT0]; · iexact HT0
  isplitl [HT1]; · iexact HT1
  isplitl [HT2]; · iexact HT2
  iexact HT3

set_option maxHeartbeats 6400000 in
/-- A kept point that is used computes its block from the scratch. -/
theorem kept_used (E : Set ℕ) (K : PUnit → sProp 𝕄) (o : Vec F S8x64x1024 .bf16) (hc0 : ¬ freshAt i xt2) (hc1 : usedAt i xt1) (hc2 : ¬ unusedAt i xt1) :
    Runs c i harg5 harg6 harg7 harg8 harg9 harg10 harg11 harg12 harg13 harg14 harg15 harg16 harg17 harg18 harg19 harg20 harg21 harg22 harg23 harg24 harg25 harg26 harg27 x0 x1 x2 x3 x4 x5 x6 x7 x8 x9 x10 x11 x12 x13 x14 x15 x16 x17 x18 xt0 xt1 xt2 xt3 xs0 xs1 xs2 E K xs0 xs1 xs2 o (usedBlock (wordAt tbM0_0 xt0 (k0_off4 i) (k0_off4_inb i)) x0 x1 x2 x3 x4 x5 x6 x7 x8 x9 x10 x11 x12 x13 x14 x15 xs0 xs1 xs2) := by
  unfold Runs
  simp only [cc0_moe_sorted_experts_eq_skeleton]; unfold cc0_moe_sorted_experts_skel
  simp only [k0_part1_eq_skeleton, k0_part2_eq_skeleton, k0_part3_eq_skeleton, k0_part4_eq_skeleton, k0_part5_eq_skeleton]
  rw [owns_unread harg5 c x0, owns_unread harg6 c x1, owns_unread harg7 c x2, owns_unread harg8 c x3, owns_unread harg9 c x4, owns_unread harg10 c x5, owns_unread harg11 c x6, owns_unread harg12 c x7, owns_unread harg13 c x8, owns_unread harg14 c x9, owns_unread harg15 c x10, owns_unread harg16 c x11, owns_unread harg17 c x12, owns_unread harg18 c x13, owns_unread harg19 c x14, owns_unread harg20 c x15, owns_unread harg21 c x16, owns_unread harg22 c x17, owns_unread harg23 c x18, owns_unread harg24 c o, owns_unread harg25 c xs0, owns_unread harg26 c xs1, owns_unread harg27 c xs2]
  iintro ⟨H0, H1, H2, H3, H4, H5, H6, H7, H8, H9, H10, H11, H12, H13, H14, H15, H16, H17, H18, H19, HS0, HS1, HS2, HT0, HT1, HT2, HT3, Hk⟩
  sl_exec (disch := sl_exact hc0)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · unfold owns; iexists _; isplitr
    swap; · iexact H19
    ipureintro
    refine (View.read_writes_eq_canon arg24.view _ _ (View.cover_of_tiledBy _ ![1, 64, 1024] (by sl_kernel_rfl))).trans ?_
    refine Eq.trans (b := View.canon (pieces (wordAt tbM0_0 xt0 (k0_off4 i) (k0_off4_inb i)) (arg5.view.readAt (Elt F) (Rect.unit (s := S1x64x1024) ![0, 0, 0] S1x64x1024.size inb_S1x64x1024_S1x64x1024_0_0_0).toLoadRect (harg5.unread x0)) (arg6.view.readAt (Elt F) (Rect.unit (s := S1x64x1024) ![0, 0, 0] S1x64x1024.size inb_S1x64x1024_S1x64x1024_0_0_0).toLoadRect (harg6.unread x1)) (arg7.view.readAt (Elt F) (Rect.unit (s := S1x64x1024) ![0, 0, 0] S1x64x1024.size inb_S1x64x1024_S1x64x1024_0_0_0).toLoadRect (harg7.unread x2)) (arg8.view.readAt (Elt F) (Rect.unit (s := S1x64x1024) ![0, 0, 0] S1x64x1024.size inb_S1x64x1024_S1x64x1024_0_0_0).toLoadRect (harg8.unread x3)) (arg9.view.readAt (Elt F) (Rect.unit (s := S1x64x1024) ![0, 0, 0] S1x64x1024.size inb_S1x64x1024_S1x64x1024_0_0_0).toLoadRect (harg9.unread x4)) (arg10.view.readAt (Elt F) (Rect.unit (s := S1x64x1024) ![0, 0, 0] S1x64x1024.size inb_S1x64x1024_S1x64x1024_0_0_0).toLoadRect (harg10.unread x5)) (arg11.view.readAt (Elt F) (Rect.unit (s := S1x64x1024) ![0, 0, 0] S1x64x1024.size inb_S1x64x1024_S1x64x1024_0_0_0).toLoadRect (harg11.unread x6)) (arg12.view.readAt (Elt F) (Rect.unit (s := S1x64x1024) ![0, 0, 0] S1x64x1024.size inb_S1x64x1024_S1x64x1024_0_0_0).toLoadRect (harg12.unread x7)) (arg13.view.readAt (Elt F) (Rect.unit (s := S1x64x128) ![0, 0, 0] S1x64x128.size inb_S1x64x128_S1x64x128_0_0_0).toLoadRect (harg13.unread x8)) (arg14.view.readAt (Elt F) (Rect.unit (s := S1x64x128) ![0, 0, 0] S1x64x128.size inb_S1x64x128_S1x64x128_0_0_0).toLoadRect (harg14.unread x9)) (arg15.view.readAt (Elt F) (Rect.unit (s := S1x64x128) ![0, 0, 0] S1x64x128.size inb_S1x64x128_S1x64x128_0_0_0).toLoadRect (harg15.unread x10)) (arg16.view.readAt (Elt F) (Rect.unit (s := S1x64x128) ![0, 0, 0] S1x64x128.size inb_S1x64x128_S1x64x128_0_0_0).toLoadRect (harg16.unread x11)) (arg17.view.readAt (Elt F) (Rect.unit (s := S1x64x128) ![0, 0, 0] S1x64x128.size inb_S1x64x128_S1x64x128_0_0_0).toLoadRect (harg17.unread x12)) (arg18.view.readAt (Elt F) (Rect.unit (s := S1x64x128) ![0, 0, 0] S1x64x128.size inb_S1x64x128_S1x64x128_0_0_0).toLoadRect (harg18.unread x13)) (arg19.view.readAt (Elt F) (Rect.unit (s := S1x64x128) ![0, 0, 0] S1x64x128.size inb_S1x64x128_S1x64x128_0_0_0).toLoadRect (harg19.unread x14)) (arg20.view.readAt (Elt F) (Rect.unit (s := S1x64x128) ![0, 0, 0] S1x64x128.size inb_S1x64x128_S1x64x128_0_0_0).toLoadRect (harg20.unread x15)) (arg25.view.readAt (Elt F) (Rect.unit (s := S4x1024x256) ![0, 0, 0] S1x1024x256.size inb_S4x1024x256_S1x1024x256_0_0_0).toLoadRect (harg25.unread xs0)) (arg25.view.readAt (Elt F) (Rect.unit (s := S4x1024x256) ![1, 0, 0] S1x1024x256.size inb_S4x1024x256_S1x1024x256_1_0_0).toLoadRect (harg25.unread xs0)) (arg25.view.readAt (Elt F) (Rect.unit (s := S4x1024x256) ![2, 0, 0] S1x1024x256.size inb_S4x1024x256_S1x1024x256_2_0_0).toLoadRect (harg25.unread xs0)) (arg25.view.readAt (Elt F) (Rect.unit (s := S4x1024x256) ![3, 0, 0] S1x1024x256.size inb_S4x1024x256_S1x1024x256_3_0_0).toLoadRect (harg25.unread xs0)) (arg26.view.readAt (Elt F) (Rect.unit (s := S4x1024x256) ![0, 0, 0] S1x1024x256.size inb_S4x1024x256_S1x1024x256_0_0_0).toLoadRect (harg26.unread xs1)) (arg26.view.readAt (Elt F) (Rect.unit (s := S4x1024x256) ![1, 0, 0] S1x1024x256.size inb_S4x1024x256_S1x1024x256_1_0_0).toLoadRect (harg26.unread xs1)) (arg26.view.readAt (Elt F) (Rect.unit (s := S4x1024x256) ![2, 0, 0] S1x1024x256.size inb_S4x1024x256_S1x1024x256_2_0_0).toLoadRect (harg26.unread xs1)) (arg26.view.readAt (Elt F) (Rect.unit (s := S4x1024x256) ![3, 0, 0] S1x1024x256.size inb_S4x1024x256_S1x1024x256_3_0_0).toLoadRect (harg26.unread xs1)) (arg27.view.readAt (Elt F) (Rect.unit (s := S4x256x1024) ![0, 0, 0] S1x256x1024.size inb_S4x256x1024_S1x256x1024_0_0_0).toLoadRect (harg27.unread xs2)) (arg27.view.readAt (Elt F) (Rect.unit (s := S4x256x1024) ![1, 0, 0] S1x256x1024.size inb_S4x256x1024_S1x256x1024_1_0_0).toLoadRect (harg27.unread xs2)) (arg27.view.readAt (Elt F) (Rect.unit (s := S4x256x1024) ![2, 0, 0] S1x256x1024.size inb_S4x256x1024_S1x256x1024_2_0_0).toLoadRect (harg27.unread xs2)) (arg27.view.readAt (Elt F) (Rect.unit (s := S4x256x1024) ![3, 0, 0] S1x256x1024.size inb_S4x256x1024_S1x256x1024_3_0_0).toLoadRect (harg27.unread xs2)))) (by sl_kernel_rfl) ?_
    rw [load_full harg5 x0 inb_S1x64x1024_S1x64x1024_0_0_0, load_full harg6 x1 inb_S1x64x1024_S1x64x1024_0_0_0, load_full harg7 x2 inb_S1x64x1024_S1x64x1024_0_0_0, load_full harg8 x3 inb_S1x64x1024_S1x64x1024_0_0_0, load_full harg9 x4 inb_S1x64x1024_S1x64x1024_0_0_0, load_full harg10 x5 inb_S1x64x1024_S1x64x1024_0_0_0, load_full harg11 x6 inb_S1x64x1024_S1x64x1024_0_0_0, load_full harg12 x7 inb_S1x64x1024_S1x64x1024_0_0_0, load_full harg13 x8 inb_S1x64x128_S1x64x128_0_0_0, load_full harg14 x9 inb_S1x64x128_S1x64x128_0_0_0, load_full harg15 x10 inb_S1x64x128_S1x64x128_0_0_0, load_full harg16 x11 inb_S1x64x128_S1x64x128_0_0_0, load_full harg17 x12 inb_S1x64x128_S1x64x128_0_0_0, load_full harg18 x13 inb_S1x64x128_S1x64x128_0_0_0, load_full harg19 x14 inb_S1x64x128_S1x64x128_0_0_0, load_full harg20 x15 inb_S1x64x128_S1x64x128_0_0_0]
    rw [load_slice harg25 xs0 (Rect.unit (s := S4x1024x256) ![0, 0, 0] S1x1024x256.size inb_S4x1024x256_S1x1024x256_0_0_0).toLoadRect, load_slice harg25 xs0 (Rect.unit (s := S4x1024x256) ![1, 0, 0] S1x1024x256.size inb_S4x1024x256_S1x1024x256_1_0_0).toLoadRect, load_slice harg25 xs0 (Rect.unit (s := S4x1024x256) ![2, 0, 0] S1x1024x256.size inb_S4x1024x256_S1x1024x256_2_0_0).toLoadRect, load_slice harg25 xs0 (Rect.unit (s := S4x1024x256) ![3, 0, 0] S1x1024x256.size inb_S4x1024x256_S1x1024x256_3_0_0).toLoadRect, load_slice harg26 xs1 (Rect.unit (s := S4x1024x256) ![0, 0, 0] S1x1024x256.size inb_S4x1024x256_S1x1024x256_0_0_0).toLoadRect, load_slice harg26 xs1 (Rect.unit (s := S4x1024x256) ![1, 0, 0] S1x1024x256.size inb_S4x1024x256_S1x1024x256_1_0_0).toLoadRect, load_slice harg26 xs1 (Rect.unit (s := S4x1024x256) ![2, 0, 0] S1x1024x256.size inb_S4x1024x256_S1x1024x256_2_0_0).toLoadRect, load_slice harg26 xs1 (Rect.unit (s := S4x1024x256) ![3, 0, 0] S1x1024x256.size inb_S4x1024x256_S1x1024x256_3_0_0).toLoadRect, load_slice harg27 xs2 (Rect.unit (s := S4x256x1024) ![0, 0, 0] S1x256x1024.size inb_S4x256x1024_S1x256x1024_0_0_0).toLoadRect, load_slice harg27 xs2 (Rect.unit (s := S4x256x1024) ![1, 0, 0] S1x256x1024.size inb_S4x256x1024_S1x256x1024_1_0_0).toLoadRect, load_slice harg27 xs2 (Rect.unit (s := S4x256x1024) ![2, 0, 0] S1x256x1024.size inb_S4x256x1024_S1x256x1024_2_0_0).toLoadRect, load_slice harg27 xs2 (Rect.unit (s := S4x256x1024) ![3, 0, 0] S1x256x1024.size inb_S4x256x1024_S1x256x1024_3_0_0).toLoadRect]
    rfl
  isplitl [HS0]; · iexact HS0
  isplitl [HS1]; · iexact HS1
  isplitl [HS2]; · iexact HS2
  isplitl [HT0]; · iexact HT0
  isplitl [HT1]; · iexact HT1
  isplitl [HT2]; · iexact HT2
  iexact HT3

set_option maxHeartbeats 6400000 in
/-- A kept point that is not used leaves zeros. -/
theorem kept_unused (E : Set ℕ) (K : PUnit → sProp 𝕄) (o : Vec F S8x64x1024 .bf16) (hc0 : ¬ freshAt i xt2) (hc1 : ¬ usedAt i xt1) (hc2 : unusedAt i xt1) :
    Runs c i harg5 harg6 harg7 harg8 harg9 harg10 harg11 harg12 harg13 harg14 harg15 harg16 harg17 harg18 harg19 harg20 harg21 harg22 harg23 harg24 harg25 harg26 harg27 x0 x1 x2 x3 x4 x5 x6 x7 x8 x9 x10 x11 x12 x13 x14 x15 x16 x17 x18 xt0 xt1 xt2 xt3 xs0 xs1 xs2 E K xs0 xs1 xs2 o k0_pay5 := by
  unfold Runs
  simp only [cc0_moe_sorted_experts_eq_skeleton]; unfold cc0_moe_sorted_experts_skel
  simp only [k0_part1_eq_skeleton, k0_part2_eq_skeleton, k0_part3_eq_skeleton, k0_part4_eq_skeleton, k0_part5_eq_skeleton]
  rw [owns_unread harg5 c x0, owns_unread harg6 c x1, owns_unread harg7 c x2, owns_unread harg8 c x3, owns_unread harg9 c x4, owns_unread harg10 c x5, owns_unread harg11 c x6, owns_unread harg12 c x7, owns_unread harg13 c x8, owns_unread harg14 c x9, owns_unread harg15 c x10, owns_unread harg16 c x11, owns_unread harg17 c x12, owns_unread harg18 c x13, owns_unread harg19 c x14, owns_unread harg20 c x15, owns_unread harg21 c x16, owns_unread harg22 c x17, owns_unread harg23 c x18, owns_unread harg24 c o, owns_unread harg25 c xs0, owns_unread harg26 c xs1, owns_unread harg27 c xs2]
  iintro ⟨H0, H1, H2, H3, H4, H5, H6, H7, H8, H9, H10, H11, H12, H13, H14, H15, H16, H17, H18, H19, HS0, HS1, HS2, HT0, HT1, HT2, HT3, Hk⟩
  sl_exec (disch := sl_exact hc0)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · unfold owns; iexists _; isplitr
    swap; · iexact H19
    ipureintro
    exact read_stored (X := k0_pay5) inb_S8x64x1024_S8x64x1024_0_0_0 rfl rfl
  isplitl [HS0]; · iexact HS0
  isplitl [HS1]; · iexact HS1
  isplitl [HS2]; · iexact HS2
  isplitl [HT0]; · iexact HT0
  isplitl [HT1]; · iexact HT1
  isplitl [HT2]; · iexact HT2
  iexact HT3

/-- The body at a point: a fresh point casts its weights into the scratch, a used one leaves its block computed from
    the scratch, an unused one zeros. -/
theorem run (E : Set ℕ) (K : PUnit → sProp 𝕄)
    (ys0 ys1 : Vec F S4x1024x256 .bf16) (ys2 : Vec F S4x256x1024 .bf16) (o out : Vec F S8x64x1024 .bf16)
    (hfresh : freshAt i xt2 → ys0 = k0_pay1 x16 ∧ ys1 = k0_pay2 x17 ∧ ys2 = k0_pay3 x18)
    (hkept : ¬ freshAt i xt2 → ys0 = xs0 ∧ ys1 = xs1 ∧ ys2 = xs2)
    (hused : usedAt i xt1 → ¬ unusedAt i xt1 ∧ out = usedBlock (wordAt tbM0_0 xt0 (k0_off4 i) (k0_off4_inb i)) x0 x1 x2 x3 x4 x5 x6 x7 x8 x9 x10 x11 x12 x13 x14 x15 ys0 ys1 ys2)
    (hzero : ¬ usedAt i xt1 → unusedAt i xt1 ∧ out = k0_pay5) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare x10 ∗ owns (c : Thread nD τ) arg16 fullShare x11 ∗ owns (c : Thread nD τ) arg17 fullShare x12 ∗ owns (c : Thread nD τ) arg18 fullShare x13 ∗ owns (c : Thread nD τ) arg19 fullShare x14 ∗ owns (c : Thread nD τ) arg20 fullShare x15 ∗ owns (c : Thread nD τ) arg21 fullShare x16 ∗ owns (c : Thread nD τ) arg22 fullShare x17 ∗ owns (c : Thread nD τ) arg23 fullShare x18 ∗ owns (c : Thread nD τ) arg24 fullShare o ∗ owns (c : Thread nD τ) arg25 fullShare xs0 ∗ owns (c : Thread nD τ) arg26 fullShare xs1 ∗ owns (c : Thread nD τ) arg27 fullShare xs2 ∗ tbPt0 c tbM0_0 xt0 ∗ tbPt0 c tbM0_1 xt1 ∗ tbPt0 c tbM0_2 xt2 ∗ tbPt0 c tbM0_3 xt3
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare x10 ∗ owns (c : Thread nD τ) arg16 fullShare x11 ∗ owns (c : Thread nD τ) arg17 fullShare x12 ∗ owns (c : Thread nD τ) arg18 fullShare x13 ∗ owns (c : Thread nD τ) arg19 fullShare x14 ∗ owns (c : Thread nD τ) arg20 fullShare x15 ∗ owns (c : Thread nD τ) arg21 fullShare x16 ∗ owns (c : Thread nD τ) arg22 fullShare x17 ∗ owns (c : Thread nD τ) arg23 fullShare x18 ∗ owns (c : Thread nD τ) arg24 fullShare out ∗ owns (c : Thread nD τ) arg25 fullShare ys0 ∗ owns (c : Thread nD τ) arg26 fullShare ys1 ∗ owns (c : Thread nD τ) arg27 fullShare ys2 ∗ tbPt0 c tbM0_0 xt0 ∗ tbPt0 c tbM0_1 xt1 ∗ tbPt0 c tbM0_2 xt2 ∗ tbPt0 c tbM0_3 xt3) -∗ K ⟨⟩))
      ⊢ wp frame (wpE (defs₀ (F := F)) Variants.none c none) E (cc0_moe_sorted_experts i tbM0_0 htbM0_0 tbM0_1 htbM0_1 tbM0_2 htbM0_2 tbM0_3 htbM0_3 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  show Runs c i harg5 harg6 harg7 harg8 harg9 harg10 harg11 harg12 harg13 harg14 harg15 harg16 harg17 harg18 harg19 harg20 harg21 harg22 harg23 harg24 harg25 harg26 harg27 x0 x1 x2 x3 x4 x5 x6 x7 x8 x9 x10 x11 x12 x13 x14 x15 x16 x17 x18 xt0 xt1 xt2 xt3 xs0 xs1 xs2 E K ys0 ys1 ys2 o out
  by_cases hc0 : freshAt i xt2 <;> by_cases hc1 : usedAt i xt1
  · obtain ⟨e0, e1, e2⟩ := hfresh hc0; subst e0 e1 e2; obtain ⟨hc2, rfl⟩ := hused hc1; exact fresh_used c i harg5 harg6 harg7 harg8 harg9 harg10 harg11 harg12 harg13 harg14 harg15 harg16 harg17 harg18 harg19 harg20 harg21 harg22 harg23 harg24 harg25 harg26 harg27 x0 x1 x2 x3 x4 x5 x6 x7 x8 x9 x10 x11 x12 x13 x14 x15 x16 x17 x18 xt0 xt1 xt2 xt3 xs0 xs1 xs2 E K o hc0 hc1 hc2
  · obtain ⟨e0, e1, e2⟩ := hfresh hc0; subst e0 e1 e2; obtain ⟨hc2, rfl⟩ := hzero hc1; exact fresh_unused c i harg5 harg6 harg7 harg8 harg9 harg10 harg11 harg12 harg13 harg14 harg15 harg16 harg17 harg18 harg19 harg20 harg21 harg22 harg23 harg24 harg25 harg26 harg27 x0 x1 x2 x3 x4 x5 x6 x7 x8 x9 x10 x11 x12 x13 x14 x15 x16 x17 x18 xt0 xt1 xt2 xt3 xs0 xs1 xs2 E K o hc0 hc1 hc2
  · obtain ⟨e0, e1, e2⟩ := hkept hc0; subst e0 e1 e2; obtain ⟨hc2, rfl⟩ := hused hc1; exact kept_used c i harg5 harg6 harg7 harg8 harg9 harg10 harg11 harg12 harg13 harg14 harg15 harg16 harg17 harg18 harg19 harg20 harg21 harg22 harg23 harg24 harg25 harg26 harg27 x0 x1 x2 x3 x4 x5 x6 x7 x8 x9 x10 x11 x12 x13 x14 x15 x16 x17 x18 xt0 xt1 xt2 xt3 ys0 ys1 ys2 E K o hc0 hc1 hc2
  · obtain ⟨e0, e1, e2⟩ := hkept hc0; subst e0 e1 e2; obtain ⟨hc2, rfl⟩ := hzero hc1; exact kept_unused c i harg5 harg6 harg7 harg8 harg9 harg10 harg11 harg12 harg13 harg14 harg15 harg16 harg17 harg18 harg19 harg20 harg21 harg22 harg23 harg24 harg25 harg26 harg27 x0 x1 x2 x3 x4 x5 x6 x7 x8 x9 x10 x11 x12 x13 x14 x15 x16 x17 x18 xt0 xt1 xt2 xt3 ys0 ys1 ys2 E K o hc0 hc1 hc2

end Cert.Experts

end
-- ==== Proof.Experts.Frame.lean ====
module

public import proofs.«01_k».proof.Proof.Experts.Run

/-! The experts' call: what every point leaves, the pipeline's proof data, and the run of its main. -/

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the tables have to say for the body's branches: the first point is fresh, a point that is not fresh has the
    weights of the point before, and a point is used or it is not. -/
structure Routed : Prop where
  ok : Ok m
  first : ∀ (c : Dev nD) (t : Fin (cfgM m ok).N), t.val = 0 → freshAt (c := c) (grid0.coords t) (tbl m 2)
  same1 : ∀ (c : Dev nD) (t t' : Fin (cfgM m ok).N), t.val = t'.val + 1 → ¬ freshAt (c := c) (grid0.coords t) (tbl m 2) →
    (iblk m ok c 16 t' : Vec F S4x1024x256 .f32) = iblk m ok c 16 t
  same3 : ∀ (c : Dev nD) (t t' : Fin (cfgM m ok).N), t.val = t'.val + 1 → ¬ freshAt (c := c) (grid0.coords t) (tbl m 2) →
    (iblk m ok c 17 t' : Vec F S4x1024x256 .f32) = iblk m ok c 17 t
  same2 : ∀ (c : Dev nD) (t t' : Fin (cfgM m ok).N), t.val = t'.val + 1 → ¬ freshAt (c := c) (grid0.coords t) (tbl m 2) →
    (iblk m ok c 18 t' : Vec F S4x256x1024 .f32) = iblk m ok c 18 t
  used : ∀ (c : Dev nD) (t : Fin (cfgM m ok).N), usedAt (c := c) (grid0.coords t) (tbl m 1) → ¬ unusedAt (c := c) (grid0.coords t) (tbl m 1)
  unused : ∀ (c : Dev nD) (t : Fin (cfgM m ok).N), ¬ usedAt (c := c) (grid0.coords t) (tbl m 1) → unusedAt (c := c) (grid0.coords t) (tbl m 1)

/-! ## What a point leaves -/

/-- The weights a point computes with: its blocks, cast. -/
def cast1 (hO : Ok m) (c : Dev nD) (t : Fin (cfgM m hO).N) : Vec F S4x1024x256 .bf16 := k0_pay1 (iblk m hO c 16 t)
def cast3 (hO : Ok m) (c : Dev nD) (t : Fin (cfgM m hO).N) : Vec F S4x1024x256 .bf16 := k0_pay2 (iblk m hO c 17 t)
def cast2 (hO : Ok m) (c : Dev nD) (t : Fin (cfgM m hO).N) : Vec F S4x256x1024 .bf16 := k0_pay3 (iblk m hO c 18 t)

open Classical in
/-- The block of results a point leaves. -/
def outAt (hO : Ok m) (c : Dev nD) (t : Fin (cfgM m hO).N) : Vec F S8x64x1024 .bf16 :=
  if usedAt (c := c) (grid0.coords t) (tbl m 1) then
    usedBlock (wordAt (c := c) tbM0_0 (tbl m 0) (k0_off4 (grid0.coords t)) (k0_off4_inb (grid0.coords t))) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (cast1 m hO c t) (cast3 m hO c t) (cast2 m hO c t)
  else k0_pay5

theorem outAt_used (hO : Ok m) (c : Dev nD) (t : Fin (cfgM m hO).N) (h : usedAt (c := c) (grid0.coords t) (tbl m 1)) :
    outAt m hO c t = usedBlock (wordAt (c := c) tbM0_0 (tbl m 0) (k0_off4 (grid0.coords t)) (k0_off4_inb (grid0.coords t))) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (cast1 m hO c t) (cast3 m hO c t) (cast2 m hO c t) := if_pos h

theorem outAt_unused (hO : Ok m) (c : Dev nD) (t : Fin (cfgM m hO).N) (h : ¬ usedAt (c := c) (grid0.coords t) (tbl m 1)) :
    outAt m hO c t = k0_pay5 := if_neg h

/-- The invariant before position `n`: before the first point the scratch at anything, afterwards at the cast weights of the
    point before. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (cast1 m hO c ⟨n, hn⟩) ∗ owns (c : Thread nD τ) scM0_1 fullShare (cast3 m hO c ⟨n, hn⟩) ∗ owns (c : Thread nD τ) scM0_2 fullShare (cast2 m hO c ⟨n, hn⟩)) ∗ (∃ r, prngReg c r)) ∗ Pipeline.ΦT pre0 (tbl m) c)

theorem PhiS_succ (hO : Ok m) (c : Dev nD) (n : ℕ) (hn : n < (cfgM m hO).N) :
    PhiS m hO c (n + 1) hn = iprop(iprop(iprop(owns (c : Thread nD τ) scM0_0 fullShare (cast1 m hO c ⟨n, hn⟩) ∗ owns (c : Thread nD τ) scM0_1 fullShare (cast3 m hO c ⟨n, hn⟩) ∗ owns (c : Thread nD τ) scM0_2 fullShare (cast2 m hO c ⟨n, hn⟩)) ∗ (∃ r, prngReg c r)) ∗ Pipeline.ΦT pre0 (tbl m) c) := rfl

/-- Before any point the scratch is held at contents that, unless the point is fresh, are its cast weights. -/
theorem PhiS_found (R : Routed m) (c : Dev nD) (t : Fin (cfgM m R.ok).N) (h : t.val ≤ (cfgM m R.ok).N) :
    PhiS m R.ok c t.val h ⊢ iprop(∃ xs0 xs1 xs2, ⌜¬ freshAt (c := c) (grid0.coords t) (tbl m 2) → cast1 m R.ok c t = xs0 ∧ cast3 m R.ok c t = xs1 ∧ cast2 m R.ok c t = xs2⌝
      ∗ iprop(iprop(owns (c : Thread nD τ) scM0_0 fullShare xs0 ∗ owns (c : Thread nD τ) scM0_1 fullShare xs1 ∗ owns (c : Thread nD τ) scM0_2 fullShare xs2) ∗ (∃ r, prngReg c r)) ∗ Pipeline.ΦT pre0 (tbl m) c) := by
  obtain ⟨n, hn⟩ := t
  cases n with
  | zero =>
    show iprop(Pipeline.ΦA spec0 c ∗ Pipeline.ΦT pre0 (tbl m) c) ⊢ _
    rw [PhiA0_eq]
    iintro ⟨⟨⟨⟨%d0, HS0⟩, ⟨%d1, HS1⟩, ⟨%d2, HS2⟩⟩, Hg⟩, HT⟩
    iexists d0, d1, d2
    isplitr; · ipureintro; exact fun hf => absurd (R.first c ⟨0, hn⟩ rfl) hf
    isplitl [HS0 HS1 HS2 Hg]
    · isplitl [HS0 HS1 HS2]
      · isplitl [HS0]; · iexact HS0
        isplitl [HS1]; · iexact HS1
        iexact HS2
      iexact Hg
    iexact HT
  | succ n =>
    show PhiS m R.ok c (n + 1) _ ⊢ _
    rw [PhiS_succ]
    iintro ⟨⟨⟨HS0, HS1, HS2⟩, Hg⟩, HT⟩
    iexists _, _, _
    isplitr
    swap
    · isplitl [HS0 HS1 HS2 Hg]
      · isplitl [HS0 HS1 HS2]
        · isplitl [HS0]; · iexact HS0
          isplitl [HS1]; · iexact HS1
          iexact HS2
        iexact Hg
      iexact HT
    ipureintro
    exact fun hf => ⟨congrArg k0_pay1 (R.same1 c ⟨n + 1, hn⟩ ⟨n, Nat.lt_of_succ_lt hn⟩ rfl hf).symm,
      congrArg k0_pay2 (R.same3 c ⟨n + 1, hn⟩ ⟨n, Nat.lt_of_succ_lt hn⟩ rfl hf).symm,
      congrArg k0_pay3 (R.same2 c ⟨n + 1, hn⟩ ⟨n, Nat.lt_of_succ_lt hn⟩ rfl hf).symm⟩

/-! ## The pipeline's proof data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => outAt m hO c t
    | ⟨_ + 20, h⟩ => absurd h (Nat.not_lt.2 (Nat.le_add_left _ _))
  Φ t := PhiS m hO c t.val (Nat.le_of_lt_succ t.isLt)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = outAt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d

/-! ## The body at a point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t)
    ∗ owns (c : Thread nD τ) (ms0_18 m hO t) fullShare ((dats m hO 0 c).after 18 t)
    ∗ owns (c : Thread nD τ) (ms0_19 m hO t) fullShare ((dats m hO 0 c).after 19 t))

set_option maxHeartbeats 6400000 in
theorem sound_body (R : Routed m) (c : Dev nD) (t : Fin (cfgM m R.ok).N) :
    bodyPre m R.ok c t ⊢ wp frame (wpE (defs₀ (F := F)) Variants.none c none) Set.univ (bodyAt0 (adm m R.ok) t) (fun _ => bodyPost m R.ok c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m R.ok 0 c).owesAt () t.succ = (dats m R.ok 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  rw [show (dats m R.ok 0 c).Φ t.succ = PhiS m R.ok c (t.val + 1) t.isLt from rfl, PhiS_succ, PhiT0_eq]
  rw [show (dats m R.ok 0 c).Φ t.castSucc = PhiS m R.ok c t.val (Nat.le_of_lt t.isLt) from rfl]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  ihave HQ := (PhiS_found m R c t (Nat.le_of_lt t.isLt)) $$ HP
  rw [PhiT0_eq]
  icases HQ with ⟨%xs0, %xs1, %xs2, %hx, ⟨⟨HS0, HS1, HS2⟩, Hg⟩, HT0, HT1, HT2, HT3⟩
  iapply (run c (grid0.coords t) (hs0_0 m R.ok t) (hs0_1 m R.ok t) (hs0_2 m R.ok t) (hs0_3 m R.ok t) (hs0_4 m R.ok t) (hs0_5 m R.ok t) (hs0_6 m R.ok t) (hs0_7 m R.ok t) (hs0_8 m R.ok t) (hs0_9 m R.ok t) (hs0_10 m R.ok t) (hs0_11 m R.ok t) (hs0_12 m R.ok t) (hs0_13 m R.ok t) (hs0_14 m R.ok t) (hs0_15 m R.ok t) (hs0_16 m R.ok t) (hs0_17 m R.ok t) (hs0_18 m R.ok t) (hs0_19 m R.ok t) (Memref.isWhole_whole _) (Memref.isWhole_whole _) (Memref.isWhole_whole _) (iblk m R.ok c 0 t) (iblk m R.ok c 1 t) (iblk m R.ok c 2 t) (iblk m R.ok c 3 t) (iblk m R.ok c 4 t) (iblk m R.ok c 5 t) (iblk m R.ok c 6 t) (iblk m R.ok c 7 t) (iblk m R.ok c 8 t) (iblk m R.ok c 9 t) (iblk m R.ok c 10 t) (iblk m R.ok c 11 t) (iblk m R.ok c 12 t) (iblk m R.ok c 13 t) (iblk m R.ok c 14 t) (iblk m R.ok c 15 t) (iblk m R.ok c 16 t) (iblk m R.ok c 17 t) (iblk m R.ok c 18 t) (tbl m 0) (tbl m 1) (tbl m 2) (tbl m 3) xs0 xs1 xs2 Set.univ _ (cast1 m R.ok c t) (cast3 m R.ok c t) (cast2 m R.ok c t) _ (outAt m R.ok c t)
    (fun _ => ⟨rfl, rfl, rfl⟩) hx (fun h => ⟨R.used c t h, outAt_used m R.ok c t h⟩) (fun h => ⟨R.unused c t h, outAt_unused m R.ok c t h⟩))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [HS0]; · iexact HS0
  isplitl [HS1]; · iexact HS1
  isplitl [HS2]; · iexact HS2
  isplitl [HT0]; · iexact HT0
  isplitl [HT1]; · iexact HT1
  isplitl [HT2]; · iexact HT2
  isplitl [HT3]; · iexact HT3
  iintro ⟨H0, H1, H2, H3, H4, H5, H6, H7, H8, H9, H10, H11, H12, H13, H14, H15, H16, H17, H18, H19, HS0, HS1, HS2, HT0, HT1, HT2, HT3⟩
  isplitl [HS0 HS1 HS2 Hg HT0 HT1 HT2 HT3]
  · isplitl [HS0 HS1 HS2 Hg]
    · isplitl [HS0 HS1 HS2]
      · isplitl [HS0]; · iexact HS0
        isplitl [HS1]; · iexact HS1
        iexact HS2
      iexact Hg
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (R : Routed m) (c : Dev nD) : BodyObligation (dats (F := F) m R.ok 0 c) (defs₀ (F := F)) Variants.none () Set.univ := fun t => by
  rw [bigSep_W0, bigSep_W0, defs₀_row m R.ok]
  refine triple_restated (sound_body m R c t) rfl .rfl fun _ => ?_
  unfold bodyPost
  iintro ⟨HP, Ho, H0, H1, H2, H3, H4, H5, H6, H7, H8, H9, H10, H11, H12, H13, H14, H15, H16, H17, H18, H19⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  split
  · rename_i h
    exact (Bool.false_ne_true h).elim
  · split
    · split
      · rename_i h
        exact absurd (h.symm.trans (flush0_19 (adm m R.ok) t)) (by decide)
      · iexact H19
    · iexact H19

theorem hin (hO : Ok m) (c : Dev nD) : iprop(Pipeline.ΦA spec0 c ∗ Pipeline.ΦT pre0 (tbl m) c) ⊢ (dats m hO 0 c).Φ 0 := .rfl

theorem hout (hO : Ok m) (c : Dev nD) : (dats m hO 0 c).Φ (Fin.last (cfgM m hO).N) ⊢ Pipeline.ΦA spec0 c := by
  rw [show (dats m hO 0 c).Φ (Fin.last (cfgM m hO).N) = PhiS m hO c (51 + 1) (le_of_eq N_0.symm) from rfl, PhiS_succ, PhiA0_eq]
  iintro ⟨⟨⟨HS0, HS1, HS2⟩, Hg⟩, -⟩
  isplitl [HS0 HS1 HS2]
  · isplitl [HS0]
    · iexists _; iexact HS0
    isplitl [HS1]
    · iexists _; iexact HS1
    iexists _; iexact HS2
  iexact Hg

/-! ## The run -/

set_option backward.isDefEq.respectTransparency.types false in
theorem run_main_quiescent (R : Routed m) : θ_run defs (onTc (τ := τ) (main (F := F))) (s₀ m ρ) (fun r => (Pipeline.FramePost (Pipeline.pin pcfgs fun _ => adm m R.ok) (dats m R.ok) 0 (V m)) r ∧ r.2.sem = fun _ => 0) :=
  Pipeline.θ_run_frameP_track_shared (Q' := _) pcfgs (fun _ => adm m R.ok) (dats m R.ok) (0 : Fin 1) launch₀0 defs₀ Variants.none m ρ main
    (hbody := fun c => (body_obligation m R c).loose) (hq := fun _ _ _ => rfl)
    (howed := fun _ _ => rfl) (V := V m) (hmain := hmain m Variants.none) (hA := A_eq m R.ok) (hpf := V_pre m)
    (hin := hin m R.ok) (hout := hout m R.ok)

theorem run_main (R : Routed m) : θ_run defs (onTc (τ := τ) (main (F := F))) (s₀ m ρ) (Pipeline.FramePost (Pipeline.pin pcfgs fun _ => adm m R.ok) (dats m R.ok) 0 (V m)) :=
  (θ_run defs _ _).mono (fun _ h => h.1) (run_main_quiescent m ρ R)

end Cert.Experts

end
-- ==== Proof.Experts.Tables.lean ====
module

public import proofs.«01_k».proof.Proof.Gen.Pre_routed
public import Idealize.ShloMosaic.Lib.ReduceAll
public import Idealize.ShloMosaic.Lib.Pointwise

/-! What the precondition on the tables says, word by word. -/

@[expose] public section

noncomputable section

namespace Cert.Experts

open Idealize.ShloMosaic Cert.Pre_routed Cert.Pre_routed.Gen

/-- The tables' words are in range, the first point is fresh, and a point that is not has the group of the point before. -/
structure Words (G U R : Fin 52 → BitVec 32) (S : Fin 416 → BitVec 32) : Prop where
  group : ∀ k, (G k).toNat < 4
  used : ∀ k, IntOp.cmpi .sge (U k) 0#32 = 1#1
  src : ∀ k, (S k).toNat < 384
  first : ∀ k, k.val = 0 → IntOp.cmpi .sgt (R k) 0#32 = 1#1
  next : ∀ k k' : Fin 52, k.val = k'.val + 1 → IntOp.cmpi .sgt (R k) 0#32 = 1#1 ∨ G k = G k'

theorem ands {a b : BitVec 1} (h : IntOp.andi a b = 1#1) : a = 1#1 ∧ b = 1#1 := by
  revert a b
  decide

theorem ors {a b : BitVec 1} (h : IntOp.ori a b = 1#1) : a = 1#1 ∨ b = 1#1 := by
  revert a b
  decide

theorem of_one {b : Bool} (h : BitVec.ofBool b = 1#1) : b = true := by
  revert b
  decide

theorem lt_of_between {x : BitVec 32} {n : ℕ} (hn : n < 2 ^ 31) (h : IntOp.andi (IntOp.cmpi .sge x 0#32) (IntOp.cmpi .slt x (BitVec.ofNat 32 n)) = 1#1) :
    x.toNat < n := by
  obtain ⟨h0, h1⟩ := ands h
  have e0 : (0#32).sle x = true := of_one h0
  have e1 : x.slt (BitVec.ofNat 32 n) = true := of_one h1
  rw [BitVec.sle_iff_toInt_le] at e0
  rw [BitVec.slt_iff_toInt_lt] at e1
  have hx := x.isLt
  have hm : n % 2 ^ 32 = n := Nat.mod_eq_of_lt (by omega)
  have hi : (BitVec.ofNat 32 n).toInt = n := by
    rw [BitVec.toInt_eq_toNat_cond, BitVec.toNat_ofNat, hm, if_pos (by omega)]
  rw [hi] at e1
  have hz : (0#32).toInt = 0 := by decide
  rw [hz] at e0
  rw [BitVec.toInt_eq_toNat_cond] at e0 e1
  split at e0 <;> rename_i hc <;> [rw [if_pos hc] at e1; rw [if_neg hc] at e1] <;> omega

instance : Subsingleton S_.Idx := ⟨fun a b => funext fun x => x.elim0⟩

variable {F : FTy → Type} [FloatOps F]

theorem words_of_routed (x0 : FVec F S384x64x1024 .bf16) (x1 : FVec F S384x64x128 .f32) (G U R : IVec S52 32) (S : IVec S416 32)
    (x6 x7 : FVec F S64x1024x256 .f32) (x8 : FVec F S64x256x1024 .f32) (h : fn (F := F) x0 x1 G U R S x6 x7 x8 = fun _ => 1#1) :
    Words (fun k => G (ix1 k)) (fun k => U (ix1 k)) (fun k => R (ix1 k)) (fun k => S (ix1 k)) := by
  have h0 := congrFun h ix0
  unfold fn fn_part1 at h0
  dsimp only at h0
  obtain ⟨h20, h28⟩ := ands h0
  obtain ⟨h16, h19⟩ := ands h20
  obtain ⟨h9, h15⟩ := ands h16
  obtain ⟨h5, h8⟩ := ands h9
  refine ⟨fun k => ?_, fun k => ?_, fun k => ?_, fun k hk => ?_, fun k k' hk => ?_⟩
  · exact lt_of_between (by decide) (Host.reduce_andi_all _ _ _ _ _ h5 (ix1 k))
  · exact Host.reduce_andi_all _ _ _ _ _ h8 (ix1 k)
  · exact lt_of_between (by decide) (Host.reduce_andi_all _ _ _ _ _ h15 (ix1 k))
  · have e : k = 0 := Fin.ext hk
    subst e
    refine Eq.trans ?_ h19
    refine congrArg (fun z => IntOp.cmpi .sgt (R z) 0#32) ?_
    funext a
    exact Fin.ext (by match a with | ⟨0, _⟩ => rfl)
  · have hl : k'.val < 51 := by have := k.isLt; omega
    have h := ors (Host.reduce_andi_all _ _ _ _ _ h28 (ix1 ⟨k'.val, hl⟩))
    have e1 : ∀ X : IVec S52 32, extractStridedSlice S51 ![1] X Facts.slices_S52_S51_1 (ix1 ⟨k'.val, hl⟩) = X (ix1 k) := fun X => by
      refine congrArg X (funext fun a => Fin.ext ?_)
      match a with
      | ⟨0, _⟩ => show 1 + k'.val = k.val; omega
    have e2 : ∀ X : IVec S52 32, extractStridedSlice S51 ![0] X Facts.slices_S52_S51_0 (ix1 ⟨k'.val, hl⟩) = X (ix1 k') := fun X => by
      refine congrArg X (funext fun a => Fin.ext ?_)
      match a with
      | ⟨0, _⟩ => show 0 + k'.val = k'.val; omega
    rcases h with h | h
    · left
      have h' : IntOp.cmpi .sgt (extractStridedSlice S51 ![1] R Facts.slices_S52_S51_1 (ix1 ⟨k'.val, hl⟩)) 0#32 = 1#1 := h
      rwa [e1] at h'
    · right
      have h' : IntOp.cmpi .eq (extractStridedSlice S51 ![1] G Facts.slices_S52_S51_1 (ix1 ⟨k'.val, hl⟩)) (extractStridedSlice S51 ![0] G Facts.slices_S52_S51_0 (ix1 ⟨k'.val, hl⟩)) = 1#1 := h
      rw [e1, e2] at h'
      exact beq_iff_eq.mp (of_one h')

end Cert.Experts

end
-- ==== Proof.Experts.Routed.lean ====
module

public import proofs.«01_k».proof.Proof.Experts.Frame
public import proofs.«01_k».proof.Proof.Experts.Tables
public import Idealize.ShloMosaic.Lib.Claim

/-! The experts' call under its precondition: the tables' words choose the blocks, and the run is one of `Frame`'s. -/

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## Words of the tables -/

theorem coord : ∀ t : Fin grid0.N, (grid0.coords t 0).val = t.val := by decide +kernel

/-- The step of a point, and the `r`-th of its eight chunks. -/
def stepOf (i : grid0.Coords) : Fin 52 := i 0
def chunkOf (k : Fin 52) (r : Fin 8) : Fin 416 := ⟨8 * k.val + r.val, by have := k.isLt; have := r.isLt; omega⟩

theorem word52 (X : S52.Idx → BitVec 32) {off : Fin 1 → ℕ} (inb : ∀ a, off a + S1.size a ≤ S52.size a) (hn : 0 < (Rect.unit (s := S52) off S1.size inb).shape.numel)
    (k : Fin 52) (h : off 0 = k.val) : X ((Rect.unit (s := S52) off S1.size inb).emb (Shape.Idx.first hn)) = X (ix1 k) := by
  refine congrArg X (funext fun a => Fin.ext ?_)
  match a with
  | ⟨0, _⟩ => exact h

theorem word416 (X : S416.Idx → BitVec 32) {off : Fin 1 → ℕ} (inb : ∀ a, off a + S1.size a ≤ S416.size a) (hn : 0 < (Rect.unit (s := S416) off S1.size inb).shape.numel)
    (k : Fin 416) (h : off 0 = k.val) : X ((Rect.unit (s := S416) off S1.size inb).emb (Shape.Idx.first hn)) = X (ix1 k) := by
  refine congrArg X (funext fun a => Fin.ext ?_)
  match a with
  | ⟨0, _⟩ => exact h

theorem off_step (i : grid0.Coords) : (Scalar.indexCast (BitVec.ofNat 32 (i 0).val)).toNat = (stepOf i).val := by
  have h : ∀ n : Fin 52, (Scalar.indexCast (BitVec.ofNat 32 n.val)).toNat = n.val := by decide +kernel
  exact h (i 0)

theorem off_chunk (i : grid0.Coords) (r : Fin 8) :
    (Scalar.indexCast (Scalar.addi (Scalar.muli (BitVec.ofNat 32 (i 0).val) 8#32) (BitVec.ofNat 32 r.val))).toNat = (chunkOf (stepOf i) r).val := by
  have h : ∀ (n : Fin 52) (r : Fin 8), (Scalar.indexCast (Scalar.addi (Scalar.muli (BitVec.ofNat 32 n.val) 8#32) (BitVec.ofNat 32 r.val))).toNat = 8 * n.val + r.val := by
    decide +kernel
  exact h (i 0) r

/-- Where the blocks of a point begin, by the words of the tables. -/
theorem chunk_index (pf : pre0.Contents (Elt F)) (i : grid0.Coords) (r : Fin 8) {off : Fin 1 → ℕ} (inb : ∀ a, off a + S1.size a ≤ S416.size a)
    (h : off 0 = (chunkOf (stepOf i) r).val) :
    (![(pf.at 3 (Rect.unit (s := S416) off S1.size inb) numel1_S1).toNat, (0#32).toNat, (0#32).toNat] : Fin 3 → ℕ) = ![(pf 3 (ix1 (chunkOf (stepOf i) r))).toNat, 0, 0] := by
  have e : pf.at 3 (Rect.unit (s := S416) off S1.size inb) numel1_S1 = pf 3 (ix1 (chunkOf (stepOf i) r)) := word416 (pf 3) inb _ _ h
  rw [e]; rfl

theorem group_index (pf : pre0.Contents (Elt F)) (i : grid0.Coords) {off : Fin 1 → ℕ} (inb : ∀ a, off a + S1.size a ≤ S52.size a)
    (h : off 0 = (stepOf i).val) :
    (![(Scalar.addi 0#32 (pf.at 0 (Rect.unit (s := S52) off S1.size inb) numel1_S1)).toNat, (0#32).toNat, (0#32).toNat] : Fin 3 → ℕ) = ![(pf 0 (ix1 (stepOf i))).toNat, 0, 0] := by
  have e : pf.at 0 (Rect.unit (s := S52) off S1.size inb) numel1_S1 = pf 0 (ix1 (stepOf i)) := word52 (pf 0) inb _ _ h
  have z : ∀ x : BitVec 32, Scalar.addi 0#32 x = x := fun x => BitVec.zero_add x
  rw [e]; exact congrArg (fun x : BitVec 32 => (![x.toNat, 0, 0] : Fin 3 → ℕ)) (z _)

theorem index_0 (pf : pre0.Contents (Elt F)) (i : grid0.Coords) : cc0_transform_0 k0_off1_inb numel1_S1 pf i = ![(pf 3 (ix1 (chunkOf (stepOf i) 0))).toNat, 0, 0] :=
  chunk_index pf i 0 (k0_off1_inb i 0) (off_chunk i 0)
theorem index_1 (pf : pre0.Contents (Elt F)) (i : grid0.Coords) : cc0_transform_1 k0_off1_inb numel1_S1 pf i = ![(pf 3 (ix1 (chunkOf (stepOf i) 1))).toNat, 0, 0] :=
  chunk_index pf i 1 (k0_off1_inb i 1) (off_chunk i 1)
theorem index_2 (pf : pre0.Contents (Elt F)) (i : grid0.Coords) : cc0_transform_2 k0_off1_inb numel1_S1 pf i = ![(pf 3 (ix1 (chunkOf (stepOf i) 2))).toNat, 0, 0] :=
  chunk_index pf i 2 (k0_off1_inb i 2) (off_chunk i 2)
theorem index_3 (pf : pre0.Contents (Elt F)) (i : grid0.Coords) : cc0_transform_3 k0_off1_inb numel1_S1 pf i = ![(pf 3 (ix1 (chunkOf (stepOf i) 3))).toNat, 0, 0] :=
  chunk_index pf i 3 (k0_off1_inb i 3) (off_chunk i 3)
theorem index_4 (pf : pre0.Contents (Elt F)) (i : grid0.Coords) : cc0_transform_4 k0_off1_inb numel1_S1 pf i = ![(pf 3 (ix1 (chunkOf (stepOf i) 4))).toNat, 0, 0] :=
  chunk_index pf i 4 (k0_off1_inb i 4) (off_chunk i 4)
theorem index_5 (pf : pre0.Contents (Elt F)) (i : grid0.Coords) : cc0_transform_5 k0_off1_inb numel1_S1 pf i = ![(pf 3 (ix1 (chunkOf (stepOf i) 5))).toNat, 0, 0] :=
  chunk_index pf i 5 (k0_off1_inb i 5) (off_chunk i 5)
theorem index_6 (pf : pre0.Contents (Elt F)) (i : grid0.Coords) : cc0_transform_6 k0_off1_inb numel1_S1 pf i = ![(pf 3 (ix1 (chunkOf (stepOf i) 6))).toNat, 0, 0] :=
  chunk_index pf i 6 (k0_off1_inb i 6) (off_chunk i 6)
theorem index_7 (pf : pre0.Contents (Elt F)) (i : grid0.Coords) : cc0_transform_7 k0_off1_inb numel1_S1 pf i = ![(pf 3 (ix1 (chunkOf (stepOf i) 7))).toNat, 0, 0] :=
  chunk_index pf i 7 (k0_off1_inb i 7) (off_chunk i 7)
theorem index_8 (pf : pre0.Contents (Elt F)) (i : grid0.Coords) : cc0_transform_8 k0_off1_inb numel1_S1 pf i = ![(pf 3 (ix1 (chunkOf (stepOf i) 0))).toNat, 0, 0] :=
  chunk_index pf i 0 (k0_off1_inb i 0) (off_chunk i 0)
theorem index_9 (pf : pre0.Contents (Elt F)) (i : grid0.Coords) : cc0_transform_9 k0_off1_inb numel1_S1 pf i = ![(pf 3 (ix1 (chunkOf (stepOf i) 1))).toNat, 0, 0] :=
  chunk_index pf i 1 (k0_off1_inb i 1) (off_chunk i 1)
theorem index_10 (pf : pre0.Contents (Elt F)) (i : grid0.Coords) : cc0_transform_10 k0_off1_inb numel1_S1 pf i = ![(pf 3 (ix1 (chunkOf (stepOf i) 2))).toNat, 0, 0] :=
  chunk_index pf i 2 (k0_off1_inb i 2) (off_chunk i 2)
theorem index_11 (pf : pre0.Contents (Elt F)) (i : grid0.Coords) : cc0_transform_11 k0_off1_inb numel1_S1 pf i = ![(pf 3 (ix1 (chunkOf (stepOf i) 3))).toNat, 0, 0] :=
  chunk_index pf i 3 (k0_off1_inb i 3) (off_chunk i 3)
theorem index_12 (pf : pre0.Contents (Elt F)) (i : grid0.Coords) : cc0_transform_12 k0_off1_inb numel1_S1 pf i = ![(pf 3 (ix1 (chunkOf (stepOf i) 4))).toNat, 0, 0] :=
  chunk_index pf i 4 (k0_off1_inb i 4) (off_chunk i 4)
theorem index_13 (pf : pre0.Contents (Elt F)) (i : grid0.Coords) : cc0_transform_13 k0_off1_inb numel1_S1 pf i = ![(pf 3 (ix1 (chunkOf (stepOf i) 5))).toNat, 0, 0] :=
  chunk_index pf i 5 (k0_off1_inb i 5) (off_chunk i 5)
theorem index_14 (pf : pre0.Contents (Elt F)) (i : grid0.Coords) : cc0_transform_14 k0_off1_inb numel1_S1 pf i = ![(pf 3 (ix1 (chunkOf (stepOf i) 6))).toNat, 0, 0] :=
  chunk_index pf i 6 (k0_off1_inb i 6) (off_chunk i 6)
theorem index_15 (pf : pre0.Contents (Elt F)) (i : grid0.Coords) : cc0_transform_15 k0_off1_inb numel1_S1 pf i = ![(pf 3 (ix1 (chunkOf (stepOf i) 7))).toNat, 0, 0] :=
  chunk_index pf i 7 (k0_off1_inb i 7) (off_chunk i 7)
theorem index_16 (pf : pre0.Contents (Elt F)) (i : grid0.Coords) : cc0_transform_16 k0_off2_inb numel1_S1 pf i = ![(pf 0 (ix1 (stepOf i))).toNat, 0, 0] :=
  group_index pf i (k0_off2_inb i) (off_step i)
theorem index_17 (pf : pre0.Contents (Elt F)) (i : grid0.Coords) : cc0_transform_17 k0_off2_inb numel1_S1 pf i = ![(pf 0 (ix1 (stepOf i))).toNat, 0, 0] :=
  group_index pf i (k0_off2_inb i) (off_step i)
theorem index_18 (pf : pre0.Contents (Elt F)) (i : grid0.Coords) : cc0_transform_18 k0_off2_inb numel1_S1 pf i = ![(pf 0 (ix1 (stepOf i))).toNat, 0, 0] :=
  group_index pf i (k0_off2_inb i) (off_step i)

/-! ## The side condition -/

theorem ok_rows {T : Fin 3 → ℕ} {n : ℕ} (hT : T = ![n, 0, 0]) (hn : n < 384) :
    ∃ h : (∀ a, (T a + 1) * S1x64x1024.size a ≤ S384x64x1024.size a), EltTy.bits .bf16 = 32 ∨ (Rect.block (s := S384x64x1024) S1x64x1024.size T h).WholeWords (EltTy.packing .bf16) := by
  subst hT
  refine ⟨fun a => ?_, Or.inr (Affine.block_words_rows (by decide) rfl)⟩
  match a with
  | ⟨0, _⟩ => show (n + 1) * 1 ≤ 384; omega
  | ⟨1, _⟩ => exact le_refl 64
  | ⟨2, _⟩ => exact le_refl 1024

theorem ok_weights {T : Fin 3 → ℕ} {n : ℕ} (hT : T = ![n, 0, 0]) (hn : n < 384) :
    ∃ h : (∀ a, (T a + 1) * S1x64x128.size a ≤ S384x64x128.size a), EltTy.bits .f32 = 32 ∨ (Rect.block (s := S384x64x128) S1x64x128.size T h).WholeWords (EltTy.packing .f32) := by
  subst hT
  refine ⟨fun a => ?_, Or.inl rfl⟩
  match a with
  | ⟨0, _⟩ => show (n + 1) * 1 ≤ 384; omega
  | ⟨1, _⟩ => exact le_refl 64
  | ⟨2, _⟩ => exact le_refl 128

theorem ok_up {T : Fin 3 → ℕ} {n : ℕ} (hT : T = ![n, 0, 0]) (hn : n < 4) :
    ∃ h : (∀ a, (T a + 1) * S4x1024x256.size a ≤ S64x1024x256.size a), EltTy.bits .f32 = 32 ∨ (Rect.block (s := S64x1024x256) S4x1024x256.size T h).WholeWords (EltTy.packing .f32) := by
  subst hT
  refine ⟨fun a => ?_, Or.inl rfl⟩
  match a with
  | ⟨0, _⟩ => show (n + 1) * 4 ≤ 64; omega
  | ⟨1, _⟩ => exact le_refl 1024
  | ⟨2, _⟩ => exact le_refl 256

theorem ok_down {T : Fin 3 → ℕ} {n : ℕ} (hT : T = ![n, 0, 0]) (hn : n < 4) :
    ∃ h : (∀ a, (T a + 1) * S4x256x1024.size a ≤ S64x256x1024.size a), EltTy.bits .f32 = 32 ∨ (Rect.block (s := S64x256x1024) S4x256x1024.size T h).WholeWords (EltTy.packing .f32) := by
  subst hT
  refine ⟨fun a => ?_, Or.inl rfl⟩
  match a with
  | ⟨0, _⟩ => show (n + 1) * 4 ≤ 64; omega
  | ⟨1, _⟩ => exact le_refl 256
  | ⟨2, _⟩ => exact le_refl 1024

variable (m : (ℓ : Loc nD τ sig) → Buf (Elt F) ℓ) (ρ : Dev nD → PrngReg)

/-- The tables' words are those of the precondition. -/
abbrev Tables : Prop := Words (fun k => tbl m 0 (ix1 k)) (fun k => tbl m 1 (ix1 k)) (fun k => tbl m 2 (ix1 k)) (fun k => tbl m 3 (ix1 k))

theorem ok_of (W : Tables m) : Ok m :=
  ⟨fun i => ok_rows (index_0 (tbl m) i) (W.src _), fun i => ok_rows (index_1 (tbl m) i) (W.src _), fun i => ok_rows (index_2 (tbl m) i) (W.src _), fun i => ok_rows (index_3 (tbl m) i) (W.src _), fun i => ok_rows (index_4 (tbl m) i) (W.src _), fun i => ok_rows (index_5 (tbl m) i) (W.src _), fun i => ok_rows (index_6 (tbl m) i) (W.src _), fun i => ok_rows (index_7 (tbl m) i) (W.src _), fun i => ok_weights (index_8 (tbl m) i) (W.src _), fun i => ok_weights (index_9 (tbl m) i) (W.src _), fun i => ok_weights (index_10 (tbl m) i) (W.src _), fun i => ok_weights (index_11 (tbl m) i) (W.src _), fun i => ok_weights (index_12 (tbl m) i) (W.src _), fun i => ok_weights (index_13 (tbl m) i) (W.src _), fun i => ok_weights (index_14 (tbl m) i) (W.src _), fun i => ok_weights (index_15 (tbl m) i) (W.src _), fun i => ok_up (index_16 (tbl m) i) (W.group _), fun i => ok_up (index_17 (tbl m) i) (W.group _), fun i => ok_down (index_18 (tbl m) i) (W.group _)⟩

/-! ## What the blocks hold -/

section Blocks

variable {m} (W : Tables m) (hO : Ok m) (c : Dev nD) (t : Fin (cfgM m hO).N)

/-- The chunk of the activations a chunk of the result is of, and the group of a step. -/
def src (k : Fin 416) : Fin 384 := ⟨(tbl m 3 (ix1 k)).toNat, W.src k⟩
def grp (k : Fin 52) : Fin 4 := ⟨(tbl m 0 (ix1 k)).toNat, W.group k⟩

/-- The `e`-th expert of group `g`, among all layers' experts. -/
def expert (g e : Fin 4) : Fin 64 := ⟨4 * g.val + e.val, by have := g.isLt; have := e.isLt; omega⟩

abbrev pt (hO : Ok m) (t : Fin (cfgM m hO).N) : Fin 52 := stepOf (grid0.coords t)

theorem rows_emb {j : S384x64x1024.Idx} {T : Fin 3 → ℕ} {n : Fin 384} (hT : T = ![n.val, 0, 0]) (p : Fin 64) (l : Fin 1024)
    (h : ∀ a, (j a).val = T a * S1x64x1024.size a + (ix3 (n0 := 1) (n1 := 64) (n2 := 1024) 0 p l a).val) : j = ix3 n p l := by
  subst hT
  funext a
  apply Fin.ext
  rw [h a]
  match a with
  | ⟨0, _⟩ => show n.val * 1 + 0 = n.val; omega
  | ⟨1, _⟩ => show 0 * 64 + p.val = p.val; omega
  | ⟨2, _⟩ => show 0 * 1024 + l.val = l.val; omega

theorem weights_emb {j : S384x64x128.Idx} {T : Fin 3 → ℕ} {n : Fin 384} (hT : T = ![n.val, 0, 0]) (p : Fin 64) (l : Fin 128)
    (h : ∀ a, (j a).val = T a * S1x64x128.size a + (ix3 (n0 := 1) (n1 := 64) (n2 := 128) 0 p l a).val) : j = ix3 n p l := by
  subst hT
  funext a
  apply Fin.ext
  rw [h a]
  match a with
  | ⟨0, _⟩ => show n.val * 1 + 0 = n.val; omega
  | ⟨1, _⟩ => show 0 * 64 + p.val = p.val; omega
  | ⟨2, _⟩ => show 0 * 128 + l.val = l.val; omega

theorem up_emb {j : S64x1024x256.Idx} {T : Fin 3 → ℕ} {g : Fin 4} (hT : T = ![g.val, 0, 0]) (e : Fin 4) (p : Fin 1024) (l : Fin 256)
    (h : ∀ a, (j a).val = T a * S4x1024x256.size a + (ix3 (n0 := 4) (n1 := 1024) (n2 := 256) e p l a).val) : j = ix3 (expert g e) p l := by
  subst hT
  funext a
  apply Fin.ext
  rw [h a]
  match a with
  | ⟨0, _⟩ => show g.val * 4 + e.val = 4 * g.val + e.val; omega
  | ⟨1, _⟩ => show 0 * 1024 + p.val = p.val; omega
  | ⟨2, _⟩ => show 0 * 256 + l.val = l.val; omega

theorem down_emb {j : S64x256x1024.Idx} {T : Fin 3 → ℕ} {g : Fin 4} (hT : T = ![g.val, 0, 0]) (e : Fin 4) (p : Fin 256) (l : Fin 1024)
    (h : ∀ a, (j a).val = T a * S4x256x1024.size a + (ix3 (n0 := 4) (n1 := 256) (n2 := 1024) e p l a).val) : j = ix3 (expert g e) p l := by
  subst hT
  funext a
  apply Fin.ext
  rw [h a]
  match a with
  | ⟨0, _⟩ => show g.val * 4 + e.val = 4 * g.val + e.val; omega
  | ⟨1, _⟩ => show 0 * 256 + p.val = p.val; omega
  | ⟨2, _⟩ => show 0 * 1024 + l.val = l.val; omega

theorem blk_0 (p : Fin 64) (l : Fin 1024) : iblk m hO c 0 t (ix3 (n0 := 1) (n1 := 64) (n2 := 1024) 0 p l) = m ((c : Thread nD τ).loc main_arg0) (ix3 (src W (chunkOf (pt hO t) 0)) p l) :=
  congrArg (m ((c : Thread nD τ).loc main_arg0)) (rows_emb (n := src W _) (index_0 (tbl m) (grid0.coords t)) p l
    (((cfgM m hO).win 0).rect_emb_val t (ix3 (n0 := 1) (n1 := 64) (n2 := 1024) 0 p l)))
theorem blk_1 (p : Fin 64) (l : Fin 1024) : iblk m hO c 1 t (ix3 (n0 := 1) (n1 := 64) (n2 := 1024) 0 p l) = m ((c : Thread nD τ).loc main_arg0) (ix3 (src W (chunkOf (pt hO t) 1)) p l) :=
  congrArg (m ((c : Thread nD τ).loc main_arg0)) (rows_emb (n := src W _) (index_1 (tbl m) (grid0.coords t)) p l
    (((cfgM m hO).win 1).rect_emb_val t (ix3 (n0 := 1) (n1 := 64) (n2 := 1024) 0 p l)))
theorem blk_2 (p : Fin 64) (l : Fin 1024) : iblk m hO c 2 t (ix3 (n0 := 1) (n1 := 64) (n2 := 1024) 0 p l) = m ((c : Thread nD τ).loc main_arg0) (ix3 (src W (chunkOf (pt hO t) 2)) p l) :=
  congrArg (m ((c : Thread nD τ).loc main_arg0)) (rows_emb (n := src W _) (index_2 (tbl m) (grid0.coords t)) p l
    (((cfgM m hO).win 2).rect_emb_val t (ix3 (n0 := 1) (n1 := 64) (n2 := 1024) 0 p l)))
theorem blk_3 (p : Fin 64) (l : Fin 1024) : iblk m hO c 3 t (ix3 (n0 := 1) (n1 := 64) (n2 := 1024) 0 p l) = m ((c : Thread nD τ).loc main_arg0) (ix3 (src W (chunkOf (pt hO t) 3)) p l) :=
  congrArg (m ((c : Thread nD τ).loc main_arg0)) (rows_emb (n := src W _) (index_3 (tbl m) (grid0.coords t)) p l
    (((cfgM m hO).win 3).rect_emb_val t (ix3 (n0 := 1) (n1 := 64) (n2 := 1024) 0 p l)))
theorem blk_4 (p : Fin 64) (l : Fin 1024) : iblk m hO c 4 t (ix3 (n0 := 1) (n1 := 64) (n2 := 1024) 0 p l) = m ((c : Thread nD τ).loc main_arg0) (ix3 (src W (chunkOf (pt hO t) 4)) p l) :=
  congrArg (m ((c : Thread nD τ).loc main_arg0)) (rows_emb (n := src W _) (index_4 (tbl m) (grid0.coords t)) p l
    (((cfgM m hO).win 4).rect_emb_val t (ix3 (n0 := 1) (n1 := 64) (n2 := 1024) 0 p l)))
theorem blk_5 (p : Fin 64) (l : Fin 1024) : iblk m hO c 5 t (ix3 (n0 := 1) (n1 := 64) (n2 := 1024) 0 p l) = m ((c : Thread nD τ).loc main_arg0) (ix3 (src W (chunkOf (pt hO t) 5)) p l) :=
  congrArg (m ((c : Thread nD τ).loc main_arg0)) (rows_emb (n := src W _) (index_5 (tbl m) (grid0.coords t)) p l
    (((cfgM m hO).win 5).rect_emb_val t (ix3 (n0 := 1) (n1 := 64) (n2 := 1024) 0 p l)))
theorem blk_6 (p : Fin 64) (l : Fin 1024) : iblk m hO c 6 t (ix3 (n0 := 1) (n1 := 64) (n2 := 1024) 0 p l) = m ((c : Thread nD τ).loc main_arg0) (ix3 (src W (chunkOf (pt hO t) 6)) p l) :=
  congrArg (m ((c : Thread nD τ).loc main_arg0)) (rows_emb (n := src W _) (index_6 (tbl m) (grid0.coords t)) p l
    (((cfgM m hO).win 6).rect_emb_val t (ix3 (n0 := 1) (n1 := 64) (n2 := 1024) 0 p l)))
theorem blk_7 (p : Fin 64) (l : Fin 1024) : iblk m hO c 7 t (ix3 (n0 := 1) (n1 := 64) (n2 := 1024) 0 p l) = m ((c : Thread nD τ).loc main_arg0) (ix3 (src W (chunkOf (pt hO t) 7)) p l) :=
  congrArg (m ((c : Thread nD τ).loc main_arg0)) (rows_emb (n := src W _) (index_7 (tbl m) (grid0.coords t)) p l
    (((cfgM m hO).win 7).rect_emb_val t (ix3 (n0 := 1) (n1 := 64) (n2 := 1024) 0 p l)))
theorem blk_8 (p : Fin 64) (l : Fin 128) : iblk m hO c 8 t (ix3 (n0 := 1) (n1 := 64) (n2 := 128) 0 p l) = m ((c : Thread nD τ).loc main_arg1) (ix3 (src W (chunkOf (pt hO t) 0)) p l) :=
  congrArg (m ((c : Thread nD τ).loc main_arg1)) (weights_emb (n := src W _) (index_8 (tbl m) (grid0.coords t)) p l
    (((cfgM m hO).win 8).rect_emb_val t (ix3 (n0 := 1) (n1 := 64) (n2 := 128) 0 p l)))
theorem blk_9 (p : Fin 64) (l : Fin 128) : iblk m hO c 9 t (ix3 (n0 := 1) (n1 := 64) (n2 := 128) 0 p l) = m ((c : Thread nD τ).loc main_arg1) (ix3 (src W (chunkOf (pt hO t) 1)) p l) :=
  congrArg (m ((c : Thread nD τ).loc main_arg1)) (weights_emb (n := src W _) (index_9 (tbl m) (grid0.coords t)) p l
    (((cfgM m hO).win 9).rect_emb_val t (ix3 (n0 := 1) (n1 := 64) (n2 := 128) 0 p l)))
theorem blk_10 (p : Fin 64) (l : Fin 128) : iblk m hO c 10 t (ix3 (n0 := 1) (n1 := 64) (n2 := 128) 0 p l) = m ((c : Thread nD τ).loc main_arg1) (ix3 (src W (chunkOf (pt hO t) 2)) p l) :=
  congrArg (m ((c : Thread nD τ).loc main_arg1)) (weights_emb (n := src W _) (index_10 (tbl m) (grid0.coords t)) p l
    (((cfgM m hO).win 10).rect_emb_val t (ix3 (n0 := 1) (n1 := 64) (n2 := 128) 0 p l)))
theorem blk_11 (p : Fin 64) (l : Fin 128) : iblk m hO c 11 t (ix3 (n0 := 1) (n1 := 64) (n2 := 128) 0 p l) = m ((c : Thread nD τ).loc main_arg1) (ix3 (src W (chunkOf (pt hO t) 3)) p l) :=
  congrArg (m ((c : Thread nD τ).loc main_arg1)) (weights_emb (n := src W _) (index_11 (tbl m) (grid0.coords t)) p l
    (((cfgM m hO).win 11).rect_emb_val t (ix3 (n0 := 1) (n1 := 64) (n2 := 128) 0 p l)))
theorem blk_12 (p : Fin 64) (l : Fin 128) : iblk m hO c 12 t (ix3 (n0 := 1) (n1 := 64) (n2 := 128) 0 p l) = m ((c : Thread nD τ).loc main_arg1) (ix3 (src W (chunkOf (pt hO t) 4)) p l) :=
  congrArg (m ((c : Thread nD τ).loc main_arg1)) (weights_emb (n := src W _) (index_12 (tbl m) (grid0.coords t)) p l
    (((cfgM m hO).win 12).rect_emb_val t (ix3 (n0 := 1) (n1 := 64) (n2 := 128) 0 p l)))
theorem blk_13 (p : Fin 64) (l : Fin 128) : iblk m hO c 13 t (ix3 (n0 := 1) (n1 := 64) (n2 := 128) 0 p l) = m ((c : Thread nD τ).loc main_arg1) (ix3 (src W (chunkOf (pt hO t) 5)) p l) :=
  congrArg (m ((c : Thread nD τ).loc main_arg1)) (weights_emb (n := src W _) (index_13 (tbl m) (grid0.coords t)) p l
    (((cfgM m hO).win 13).rect_emb_val t (ix3 (n0 := 1) (n1 := 64) (n2 := 128) 0 p l)))
theorem blk_14 (p : Fin 64) (l : Fin 128) : iblk m hO c 14 t (ix3 (n0 := 1) (n1 := 64) (n2 := 128) 0 p l) = m ((c : Thread nD τ).loc main_arg1) (ix3 (src W (chunkOf (pt hO t) 6)) p l) :=
  congrArg (m ((c : Thread nD τ).loc main_arg1)) (weights_emb (n := src W _) (index_14 (tbl m) (grid0.coords t)) p l
    (((cfgM m hO).win 14).rect_emb_val t (ix3 (n0 := 1) (n1 := 64) (n2 := 128) 0 p l)))
theorem blk_15 (p : Fin 64) (l : Fin 128) : iblk m hO c 15 t (ix3 (n0 := 1) (n1 := 64) (n2 := 128) 0 p l) = m ((c : Thread nD τ).loc main_arg1) (ix3 (src W (chunkOf (pt hO t) 7)) p l) :=
  congrArg (m ((c : Thread nD τ).loc main_arg1)) (weights_emb (n := src W _) (index_15 (tbl m) (grid0.coords t)) p l
    (((cfgM m hO).win 15).rect_emb_val t (ix3 (n0 := 1) (n1 := 64) (n2 := 128) 0 p l)))
theorem blk_16 (e : Fin 4) (p : Fin 1024) (l : Fin 256) : iblk m hO c 16 t (ix3 (n0 := 4) (n1 := 1024) (n2 := 256) e p l) = m ((c : Thread nD τ).loc main_arg6) (ix3 (expert (grp W (pt hO t)) e) p l) :=
  congrArg (m ((c : Thread nD τ).loc main_arg6)) (up_emb (g := grp W _) (index_16 (tbl m) (grid0.coords t)) e p l
    (((cfgM m hO).win 16).rect_emb_val t (ix3 (n0 := 4) (n1 := 1024) (n2 := 256) e p l)))
theorem blk_17 (e : Fin 4) (p : Fin 1024) (l : Fin 256) : iblk m hO c 17 t (ix3 (n0 := 4) (n1 := 1024) (n2 := 256) e p l) = m ((c : Thread nD τ).loc main_arg7) (ix3 (expert (grp W (pt hO t)) e) p l) :=
  congrArg (m ((c : Thread nD τ).loc main_arg7)) (up_emb (g := grp W _) (index_17 (tbl m) (grid0.coords t)) e p l
    (((cfgM m hO).win 17).rect_emb_val t (ix3 (n0 := 4) (n1 := 1024) (n2 := 256) e p l)))
theorem blk_18 (e : Fin 4) (p : Fin 256) (l : Fin 1024) : iblk m hO c 18 t (ix3 (n0 := 4) (n1 := 256) (n2 := 1024) e p l) = m ((c : Thread nD τ).loc main_arg8) (ix3 (expert (grp W (pt hO t)) e) p l) :=
  congrArg (m ((c : Thread nD τ).loc main_arg8)) (down_emb (g := grp W _) (index_18 (tbl m) (grid0.coords t)) e p l
    (((cfgM m hO).win 18).rect_emb_val t (ix3 (n0 := 4) (n1 := 256) (n2 := 1024) e p l)))

end Blocks

/-! ## The branches' conditions -/

theorem fresh_iff (c : Dev nD) (i : grid0.Coords) : freshAt (c := c) i (tbl m 2) ↔ IntOp.cmpi .sgt (tbl m 2 (ix1 (stepOf i))) 0#32 = 1#1 := by
  have e : wordAt (c := c) tbM0_2 (tbl m 2) (k0_off2 i) (k0_off2_inb i) = tbl m 2 (ix1 (stepOf i)) := word52 (tbl m 2) (k0_off2_inb i) _ _ (off_step i)
  have z : ∀ b : BitVec 1, Scalar.cmpi .ne (Scalar.extui b) 0#32 = 1#1 ↔ b = 1#1 := by decide
  unfold freshAt
  rw [e]
  exact z _

theorem used_iff (c : Dev nD) (i : grid0.Coords) : usedAt (c := c) i (tbl m 1) ↔ IntOp.cmpi .sgt (tbl m 1 (ix1 (stepOf i))) 0#32 = 1#1 := by
  have e : wordAt (c := c) tbM0_1 (tbl m 1) (k0_off3 i) (k0_off3_inb i) = tbl m 1 (ix1 (stepOf i)) := word52 (tbl m 1) (k0_off3_inb i) _ _ (off_step i)
  have z : ∀ b : BitVec 1, Scalar.cmpi .ne (Scalar.extui b) 0#32 = 1#1 ↔ b = 1#1 := by decide
  unfold usedAt
  rw [e]
  exact z _

theorem unused_iff (c : Dev nD) (i : grid0.Coords) : unusedAt (c := c) i (tbl m 1) ↔ IntOp.cmpi .eq (tbl m 1 (ix1 (stepOf i))) 0#32 = 1#1 := by
  have e : wordAt (c := c) tbM0_1 (tbl m 1) (k0_off5 i) (k0_off5_inb i) = tbl m 1 (ix1 (stepOf i)) := word52 (tbl m 1) (k0_off5_inb i) _ _ (off_step i)
  have z : ∀ b : BitVec 1, Scalar.cmpi .ne (Scalar.extui b) 0#32 = 1#1 ↔ b = 1#1 := by decide
  unfold unusedAt
  rw [e]
  exact z _

theorem word_group (c : Dev nD) (i : grid0.Coords) : wordAt (c := c) tbM0_0 (tbl m 0) (k0_off4 i) (k0_off4_inb i) = tbl m 0 (ix1 (stepOf i)) :=
  word52 (tbl m 0) (k0_off4_inb i) _ _ (off_step i)

theorem not_both {x : BitVec 32} (h : IntOp.cmpi .sgt x 0#32 = 1#1) : ¬ IntOp.cmpi .eq x 0#32 = 1#1 := by
  intro h'
  have e : x = 0#32 := beq_iff_eq.mp (of_one h')
  subst e
  revert h
  decide

theorem one_of {x : BitVec 32} (h0 : IntOp.cmpi .sge x 0#32 = 1#1) (h : ¬ IntOp.cmpi .sgt x 0#32 = 1#1) : IntOp.cmpi .eq x 0#32 = 1#1 := by
  have e0 : (0#32).sle x = true := of_one h0
  have e1 : ¬ (0#32).slt x = true := fun hx => h (congrArg BitVec.ofBool hx)
  rw [BitVec.sle_iff_toInt_le] at e0
  rw [BitVec.slt_iff_toInt_lt] at e1
  have e : x = 0#32 := BitVec.eq_of_toInt_eq (by omega)
  subst e
  decide

theorem same_group (W : Tables m) (c : Dev nD) (t t' : Fin (cfgM m (ok_of m W)).N) (h : t.val = t'.val + 1) (hf : ¬ freshAt (c := c) (grid0.coords t) (tbl m 2)) :
    grp W (pt (ok_of m W) t') = grp W (pt (ok_of m W) t) := by
  have e : tbl m 0 (ix1 (stepOf (grid0.coords t))) = tbl m 0 (ix1 (stepOf (grid0.coords t'))) :=
    (W.next (stepOf (grid0.coords t)) (stepOf (grid0.coords t')) ((coord t).trans (h.trans (congrArg (· + 1) (coord t').symm)))).resolve_left
      fun h => hf ((fresh_iff m c _).mpr h)
  have e' : (tbl m 0 (ix1 (stepOf (grid0.coords t'))) : BitVec 32).toNat = (tbl m 0 (ix1 (stepOf (grid0.coords t))) : BitVec 32).toNat := congrArg (BitVec.toNat (w := 32)) e.symm
  exact Fin.ext e'

/-- The tables' words give what the body's branches need. -/
theorem routed_of (W : Tables m) : Routed m where
  ok := ok_of m W
  first c t h := (fresh_iff m c _).mpr (W.first _ ((coord t).trans h))
  same1 c t t' h hf := by
    have hg := same_group m W c t t' h hf
    funext j
    rw [eq_ix3 j]
    exact (blk_16 W _ c t' _ _ _).trans ((by rw [hg] : _ = _).trans (blk_16 W _ c t _ _ _).symm)
  same3 c t t' h hf := by
    have hg := same_group m W c t t' h hf
    funext j
    rw [eq_ix3 j]
    exact (blk_17 W _ c t' _ _ _).trans ((by rw [hg] : _ = _).trans (blk_17 W _ c t _ _ _).symm)
  same2 c t t' h hf := by
    have hg := same_group m W c t t' h hf
    funext j
    rw [eq_ix3 j]
    exact (blk_18 W _ c t' _ _ _).trans ((by rw [hg] : _ = _).trans (blk_18 W _ c t _ _ _).symm)
  used c t h := fun h' => not_both ((used_iff m c _).mp h) ((unused_iff m c _).mp h')
  unused c t h := (unused_iff m c _).mpr (one_of (W.used _) fun h' => h ((used_iff m c _).mpr h'))

/-- The run of the call's main, under its precondition: its arguments unchanged, nothing left in flight. -/
theorem frame_run (W : Tables m) :
    θ_run defs (onTc (τ := τ) (main (F := F))) ⟨m, fun _ => 0, ρ⟩ (fun r => (∀ c : Dev nD,
      r.2.mem ((c : Thread nD τ).loc main_arg0) = m ((c : Thread nD τ).loc main_arg0) ∧ r.2.mem ((c : Thread nD τ).loc main_arg1) = m ((c : Thread nD τ).loc main_arg1) ∧
      r.2.mem ((c : Thread nD τ).loc main_arg2) = m ((c : Thread nD τ).loc main_arg2) ∧ r.2.mem ((c : Thread nD τ).loc main_arg3) = m ((c : Thread nD τ).loc main_arg3) ∧
      r.2.mem ((c : Thread nD τ).loc main_arg4) = m ((c : Thread nD τ).loc main_arg4) ∧ r.2.mem ((c : Thread nD τ).loc main_arg5) = m ((c : Thread nD τ).loc main_arg5) ∧
      r.2.mem ((c : Thread nD τ).loc main_arg6) = m ((c : Thread nD τ).loc main_arg6) ∧ r.2.mem ((c : Thread nD τ).loc main_arg7) = m ((c : Thread nD τ).loc main_arg7) ∧
      r.2.mem ((c : Thread nD τ).loc main_arg8) = m ((c : Thread nD τ).loc main_arg8)) ∧ r.2.sem = fun _ => 0) :=
  θ_run_and (frame_of m ρ (routed_of m W).ok (dats m (routed_of m W).ok) (A_eq m (routed_of m W).ok) (run_main m ρ (routed_of m W)))
    ((θ_run defs _ _).mono (fun _ h => h.2) (run_main_quiescent m ρ (routed_of m W)))

end Cert.Experts

end
-- ==== Proof.Experts.Frames.lean ====
module

public import proofs.«01_k».proof.Proof.Experts.Routed
public import proofs.«01_k».proof.Proof.Gen.Kernel2
public import Idealize.ShloMosaic.Lib.Pipeline.Regions

/-! The experts' call and its ideal version run alike: the frame of one is the frame of the other. -/

@[expose] public section

set_option maxRecDepth 16384

noncomputable section

namespace Cert.Experts

open Idealize.ShloMosaic Idealize.SL.Sem

section Frames

variable (F : FTy → Type) [FloatOps F]

/-- The frame of the call, and of its ideal version, on any float type. -/
def FrameK : Prop :=
  ∀ (m : (ℓ : Loc Cert.Kernel2.nD Cert.Kernel2.τ Cert.Kernel2.sig) → Buf (Elt F) ℓ) (g : Dev Cert.Kernel2.nD → PrngReg),
    (∀ c : Dev Cert.Kernel2.nD, Cert.Pre_routed.fn (F := F) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) = fun _ => 1#1) →
    θ_run (Cert.Kernel2.defs (F := F)) (onTc (τ := Cert.Kernel2.τ) (Cert.Kernel2.main (F := F))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0) ∧
      r.2.mem ((c.tc : Thread Cert.Kernel2.nD Cert.Kernel2.τ).loc Cert.Kernel2.main_arg1) = m ((c.tc : Thread Cert.Kernel2.nD Cert.Kernel2.τ).loc Cert.Kernel2.main_arg1) ∧
      r.2.mem ((c.tc : Thread Cert.Kernel2.nD Cert.Kernel2.τ).loc Cert.Kernel2.main_arg2) = m ((c.tc : Thread Cert.Kernel2.nD Cert.Kernel2.τ).loc Cert.Kernel2.main_arg2) ∧
      r.2.mem ((c.tc : Thread Cert.Kernel2.nD Cert.Kernel2.τ).loc Cert.Kernel2.main_arg3) = m ((c.tc : Thread Cert.Kernel2.nD Cert.Kernel2.τ).loc Cert.Kernel2.main_arg3) ∧
      r.2.mem ((c.tc : Thread Cert.Kernel2.nD Cert.Kernel2.τ).loc Cert.Kernel2.main_arg4) = m ((c.tc : Thread Cert.Kernel2.nD Cert.Kernel2.τ).loc Cert.Kernel2.main_arg4) ∧
      r.2.mem ((c.tc : Thread Cert.Kernel2.nD Cert.Kernel2.τ).loc Cert.Kernel2.main_arg5) = m ((c.tc : Thread Cert.Kernel2.nD Cert.Kernel2.τ).loc Cert.Kernel2.main_arg5) ∧
      r.2.mem ((c.tc : Thread Cert.Kernel2.nD Cert.Kernel2.τ).loc Cert.Kernel2.main_arg6) = m ((c.tc : Thread Cert.Kernel2.nD Cert.Kernel2.τ).loc Cert.Kernel2.main_arg6) ∧
      r.2.mem ((c.tc : Thread Cert.Kernel2.nD Cert.Kernel2.τ).loc Cert.Kernel2.main_arg7) = m ((c.tc : Thread Cert.Kernel2.nD Cert.Kernel2.τ).loc Cert.Kernel2.main_arg7) ∧
      r.2.mem ((c.tc : Thread Cert.Kernel2.nD Cert.Kernel2.τ).loc Cert.Kernel2.main_arg8) = m ((c.tc : Thread Cert.Kernel2.nD Cert.Kernel2.τ).loc Cert.Kernel2.main_arg8)) ∧ r.2.sem = fun _ => 0)
def FrameI : Prop :=
  ∀ (m : (ℓ : Loc Cert.Kernel2Ideal.nD Cert.Kernel2Ideal.τ Cert.Kernel2Ideal.sig) → Buf (Elt F) ℓ) (g : Dev Cert.Kernel2Ideal.nD → PrngReg),
    (∀ c : Dev Cert.Kernel2Ideal.nD, Cert.Pre_routed.fn (F := F) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) = fun _ => 1#1) →
    θ_run (Cert.Kernel2Ideal.defs (F := F)) (onTc (τ := Cert.Kernel2Ideal.τ) (Cert.Kernel2Ideal.main (F := F))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0) ∧
      r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1) ∧
      r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2) ∧
      r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3) ∧
      r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4) ∧
      r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5) ∧
      r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6) ∧
      r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7) ∧
      r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)) ∧ r.2.sem = fun _ => 0)

theorem frames_same : FrameK F = FrameI F := by chain_rfl

theorem tables_of (m : (ℓ : Loc Cert.Kernel2Ideal.nD Cert.Kernel2Ideal.τ Cert.Kernel2Ideal.sig) → Buf (Elt F) ℓ)
    (h : Cert.Pre_routed.fn (F := F) (m (((0 : Dev Cert.Kernel2Ideal.nD).tc : Thread Cert.Kernel2Ideal.nD Cert.Kernel2Ideal.τ).loc Cert.Kernel2Ideal.main_arg0)) (m (((0 : Dev Cert.Kernel2Ideal.nD).tc : Thread Cert.Kernel2Ideal.nD Cert.Kernel2Ideal.τ).loc Cert.Kernel2Ideal.main_arg1)) (m (((0 : Dev Cert.Kernel2Ideal.nD).tc : Thread Cert.Kernel2Ideal.nD Cert.Kernel2Ideal.τ).loc Cert.Kernel2Ideal.main_arg2)) (m (((0 : Dev Cert.Kernel2Ideal.nD).tc : Thread Cert.Kernel2Ideal.nD Cert.Kernel2Ideal.τ).loc Cert.Kernel2Ideal.main_arg3)) (m (((0 : Dev Cert.Kernel2Ideal.nD).tc : Thread Cert.Kernel2Ideal.nD Cert.Kernel2Ideal.τ).loc Cert.Kernel2Ideal.main_arg4)) (m (((0 : Dev Cert.Kernel2Ideal.nD).tc : Thread Cert.Kernel2Ideal.nD Cert.Kernel2Ideal.τ).loc Cert.Kernel2Ideal.main_arg5)) (m (((0 : Dev Cert.Kernel2Ideal.nD).tc : Thread Cert.Kernel2Ideal.nD Cert.Kernel2Ideal.τ).loc Cert.Kernel2Ideal.main_arg6)) (m (((0 : Dev Cert.Kernel2Ideal.nD).tc : Thread Cert.Kernel2Ideal.nD Cert.Kernel2Ideal.τ).loc Cert.Kernel2Ideal.main_arg7)) (m (((0 : Dev Cert.Kernel2Ideal.nD).tc : Thread Cert.Kernel2Ideal.nD Cert.Kernel2Ideal.τ).loc Cert.Kernel2Ideal.main_arg8)) = fun _ => 1#1) : Tables m :=
  words_of_routed _ _ _ _ _ _ _ _ _ h

theorem frame_ideal : FrameI F := fun m g h => frame_run m g (tables_of F m (h 0))

theorem frame_kernel : FrameK F := (frames_same F).mpr (frame_ideal F)

end Frames

end Cert.Experts

end
-- ==== Proof.Experts.Blocks.lean ====
module

public import proofs.«01_k».proof.Proof.Experts.Routed

/-! The array the experts' call ends with, block by block, and its arguments, as launched. -/

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The block of a point in the result: its step. -/
theorem index_19 (i : grid0.Coords) : cc0_transform_19 i = ![(stepOf i).val, 0, 0] := by
  have h : ∀ n : Fin 52, (BitVec.ofNat 32 n.val).toNat = n.val := by decide
  unfold cc0_transform_19
  exact congrArg (fun n => ![n, 0, 0]) (h (stepOf i))

theorem step_inj (t t' : Fin grid0.N) (h : cc0_transform_19 (grid0.coords t) = cc0_transform_19 (grid0.coords t')) : t = t' := by
  rw [index_19, index_19] at h
  have e : (stepOf (grid0.coords t)).val = (stepOf (grid0.coords t')).val := congrFun h 0
  exact Fin.ext ((coord t).symm.trans (e.trans (coord t')))

section Result

variable (hO : Ok m) (c : Dev nD)

theorem disjoint_19 : ∀ t t' : Fin (cfgM m hO).N, ((cfgM m hO).win 19).flush t = true → ((cfgM m hO).win 19).flush t' = true → t ≠ t' →
    Disjoint (((cfgM m hO).win 19).blk t).view.set (((cfgM m hO).win 19).blk t').view.set :=
  fun t t' _ _ hne => ((cfgM m hO).win 19).disjoint_blk fun h => hne (step_inj t t' h)

theorem block_19 (t : Fin (cfgM m hO).N) :
    (((cfgM m hO).win 19).blk t).view.read (Elt F) ((dats m hO 0 c).arrAt 19 (cfgM m hO).N) = outAt m hO c t := by
  refine ((dats m hO 0 c).read_blk_arrAt_eq_flushed 19 (disjoint_19 m hO) (cfgM m hO).N t t.isLt (flush0_19 (adm m hO) t)).trans ?_
  show ((cfgM m hO).win 19).cut (grid0.coords t) ((dats m hO 0 c).after 19 t) = _
  rw [after0_19]
  rfl

/-- Chunk `r` of step `k` is what the point of that step leaves there. -/
theorem result_apply (t : Fin (cfgM m hO).N) (r : Fin 8) (p : Fin 64) (l : Fin 1024) :
    (dats m hO 0 c).arrAt 19 (cfgM m hO).N (ix3 (n0 := 416) (n1 := 64) (n2 := 1024) (chunkOf (pt hO t) r) p l)
      = outAt m hO c t (ix3 (n0 := 8) (n1 := 64) (n2 := 1024) r p l) := by
  have he : (((cfgM m hO).win 19).blk t).view.emb (ix3 (n0 := 8) (n1 := 64) (n2 := 1024) r p l) = ix3 (chunkOf (pt hO t) r) p l := by
    funext a
    apply Fin.ext
    refine (((cfgM m hO).win 19).rect_emb_val t (ix3 (n0 := 8) (n1 := 64) (n2 := 1024) r p l) a).trans ?_
    show cc0_transform_19 (grid0.coords t) a * S8x64x1024.size a + _ = _
    rw [index_19]
    match a with
    | ⟨0, _⟩ => show (pt hO t).val * 8 + r.val = 8 * (pt hO t).val + r.val; omega
    | ⟨1, _⟩ => show 0 * 64 + p.val = p.val; omega
    | ⟨2, _⟩ => show 0 * 1024 + l.val = l.val; omega
  have hb := congrFun (block_19 m hO c t) (ix3 (n0 := 8) (n1 := 64) (n2 := 1024) r p l)
  generalize (dats m hO 0 c).arrAt 19 (cfgM m hO).N = X at hb ⊢
  generalize outAt m hO c t = Y at hb ⊢
  exact (congrArg X he).symm.trans hb

end Result

theorem value_run (W : Tables m) :
    θ_run defs (onTc (τ := τ) (main (F := F))) ⟨m, fun _ => 0, ρ⟩ (fun r => ∀ c : Dev nD,
      r.2.mem ((c : Thread nD τ).loc main_v0) = (dats m (routed_of m W).ok 0 c).arrAt 19 (cfgM m (routed_of m W).ok).N ∧
      r.2.mem ((c : Thread nD τ).loc main_arg0) = m ((c : Thread nD τ).loc main_arg0) ∧ r.2.mem ((c : Thread nD τ).loc main_arg1) = m ((c : Thread nD τ).loc main_arg1) ∧
      r.2.mem ((c : Thread nD τ).loc main_arg2) = m ((c : Thread nD τ).loc main_arg2) ∧ r.2.mem ((c : Thread nD τ).loc main_arg3) = m ((c : Thread nD τ).loc main_arg3) ∧
      r.2.mem ((c : Thread nD τ).loc main_arg4) = m ((c : Thread nD τ).loc main_arg4) ∧ r.2.mem ((c : Thread nD τ).loc main_arg5) = m ((c : Thread nD τ).loc main_arg5) ∧
      r.2.mem ((c : Thread nD τ).loc main_arg6) = m ((c : Thread nD τ).loc main_arg6) ∧ r.2.mem ((c : Thread nD τ).loc main_arg7) = m ((c : Thread nD τ).loc main_arg7) ∧
      r.2.mem ((c : Thread nD τ).loc main_arg8) = m ((c : Thread nD τ).loc main_arg8))  := by
  have hv : θ_run defs (onTc (τ := τ) (main (F := F))) ⟨m, fun _ => 0, ρ⟩ (fun r => ∀ c : Dev nD,
      r.2.mem ((c : Thread nD τ).loc main_v0) = (dats m (routed_of m W).ok 0 c).arrAt 19 (cfgM m (routed_of m W).ok).N) :=
    (θ_run defs _ _).mono (fun r h c => (h c).1 19) (run_main m ρ (routed_of m W))
  exact (θ_run defs _ _).mono (fun r h c => ⟨h.2 c, h.1.1 c⟩) (θ_run_and (frame_run m ρ W) hv)

end Cert.Experts

end
-- ==== Proof.Experts.Spec.lean ====
module

public import Idealize.ShloMosaic.Lib.Pointwise
public import Mathlib.Algebra.BigOperators.Fin

/-! What an expert gives a row, over the extended reals, and the sum over the experts of a group. -/

@[expose] public section

noncomputable section

namespace Cert.Experts

open Idealize.ShloMosaic

/-- One hidden unit of an expert: the gated product of the row's two projections. -/
def hidden (x A B : Fin 1024 → EReal) : EReal :=
  (∑ k, x k * A k) * Ideal.logistic (∑ k, x k * A k) * ∑ k, x k * B k

/-- One element of an expert's result for a row of routing weight `w`. -/
def expertOut (x : Fin 1024 → EReal) (w : EReal) (A B : Fin 1024 → Fin 256 → EReal) (D : Fin 256 → EReal) : EReal :=
  ∑ f, hidden x (fun k => A k f) (fun k => B k f) * w * D f

theorem expertOut_zero (x : Fin 1024 → EReal) (A B : Fin 1024 → Fin 256 → EReal) (D : Fin 256 → EReal) :
    expertOut x 0 A B D = 0 := by
  unfold expertOut
  simp only [mul_zero, zero_mul, Finset.sum_const_zero]

/-- The `e`-th expert of group `g`, among a layer's. -/
def member (g e : Fin 4) : Fin 16 := ⟨4 * g.val + e.val, by have := g.isLt; have := e.isLt; omega⟩

/-- A sum over the experts of which only those of group `g` count. -/
theorem sum_group (g : Fin 4) (f : Fin 16 → EReal) (h : ∀ e, e.val / 4 ≠ g.val → f e = 0) :
    ∑ e, f e = f (member g 0) + f (member g 1) + f (member g 2) + f (member g 3) := by
  have hz : ∀ g' e : Fin 4, g' ≠ g → f (member g' e) = 0 := fun g' e hne => h _ fun hv => hne (Fin.ext (by
    have := e.isLt
    have hv' : (4 * g'.val + e.val) / 4 = g.val := hv
    omega))
  have key : ∑ e, f e = ∑ g' : Fin 4, ∑ e : Fin 4, f (member g' e) := by
    rw [← Fintype.sum_prod_type', ← (finProdFinEquiv (m := 4) (n := 4)).sum_comp f]
    refine Finset.sum_congr rfl fun q _ => congrArg f (Fin.ext ?_)
    show q.2.val + 4 * q.1.val = 4 * q.1.val + q.2.val
    omega
  rw [key, Finset.sum_eq_single g (fun g' _ hne => Finset.sum_eq_zero fun e _ => hz g' e hne) (fun hn => absurd (Finset.mem_univ g) hn), Fin.sum_univ_four]

end Cert.Experts

end
-- ==== Proof.Experts.Value.lean ====
module

public import proofs.«01_k».proof.Proof.Experts.Loads
public import proofs.«01_k».proof.Proof.Experts.Spec
public import Idealize.ShloMosaic.Lib.Pipeline.ValueKit.Tiles

/-! What a used block of the experts' call holds, element by element, over the extended reals. -/

@[expose] public section

set_option maxRecDepth 16384

noncomputable section

namespace Cert.Experts

open Cert.Kernel2Ideal Cert.Kernel2Ideal.Gen
open Idealize.ShloMosaic Idealize.ShloMosaic.TcCoe Idealize.SL.Sem

/-- Row `p` of the `r`-th chunk of a block. -/
def rowAt (r : Fin 8) (p : Fin 64) : Fin 512 := ⟨64 * r.val + p.val, by have := r.isLt; have := p.isLt; omega⟩

section Value

variable
  (x0 x1 x2 x3 x4 x5 x6 x7 : Vec Ideal S1x64x1024 .bf16) (x8 x9 x10 x11 x12 x13 x14 x15 : Vec Ideal S1x64x128 .f32)

/-! ## Rows and gates -/

/-- A choice among eight chunks of 64 rows. -/
def pick (v : ℕ) (hv : v < 512) (f : Fin 8 → Fin 64 → EReal) : EReal :=
  f ⟨v / 64, by omega⟩ ⟨v % 64, Nat.mod_lt _ (by norm_num)⟩

theorem pick_eq (v : ℕ) (hv : v < 512) (f : Fin 8 → Fin 64 → EReal) :
    (if h : v < 64 then f 0 ⟨v, h⟩ else if h : v - 64 < 64 then f 1 ⟨v - 64, h⟩ else if h : v - 64 - 64 < 64 then f 2 ⟨v - 64 - 64, h⟩
      else if h : v - 64 - 64 - 64 < 64 then f 3 ⟨v - 64 - 64 - 64, h⟩ else if h : v - 64 - 64 - 64 - 64 < 64 then f 4 ⟨v - 64 - 64 - 64 - 64, h⟩
      else if h : v - 64 - 64 - 64 - 64 - 64 < 64 then f 5 ⟨v - 64 - 64 - 64 - 64 - 64, h⟩
      else if h : v - 64 - 64 - 64 - 64 - 64 - 64 < 64 then f 6 ⟨v - 64 - 64 - 64 - 64 - 64 - 64, h⟩
      else f 7 ⟨v - 64 - 64 - 64 - 64 - 64 - 64 - 64, by omega⟩) = pick v hv f := by
  unfold pick
  split_ifs <;> refine congrArg₂ f (Fin.ext ?_) (Fin.ext ?_) <;> simp only [Fin.val_zero, Fin.val_one, Fin.val_two] <;> (try show _ = v / 64) <;> omega

theorem pick_row (r : Fin 8) (p : Fin 64) (hv : 64 * r.val + p.val < 512) (f : Fin 8 → Fin 64 → EReal) : pick (64 * r.val + p.val) hv f = f r p := by
  have hp := p.isLt
  unfold pick
  exact congrArg₂ f (Fin.ext (by show (64 * r.val + p.val) / 64 = r.val; omega)) (Fin.ext (by show (64 * r.val + p.val) % 64 = p.val; omega))

theorem rows_apply (r : Fin 8) (p : Fin 64) (k : Fin 1024) :
    rows (F := Ideal) x0 x1 x2 x3 x4 x5 x6 x7 (ix2 (rowAt r p) k) = (![x0, x1, x2, x3, x4, x5, x6, x7] r) (ix3 0 p k) := by
  unfold rowAt
  pointwise [rows, k0_pay6]
  have hv : 64 * r.val + p.val < 512 := (rowAt r p).isLt
  exact (pick_eq _ hv fun r p => (![x0, x1, x2, x3, x4, x5, x6, x7] r) (ix3 0 p k)).trans (pick_row r p hv _)

theorem weights_apply (r : Fin 8) (p : Fin 64) (k : Fin 128) :
    weights (F := Ideal) x8 x9 x10 x11 x12 x13 x14 x15 (ix2 (rowAt r p) k) = (![x8, x9, x10, x11, x12, x13, x14, x15] r) (ix3 0 p k) := by
  unfold rowAt
  pointwise [weights, k0_pay10, k0_pay7, k0_pay8, k0_pay9]
  have hv : 64 * r.val + p.val < 512 := (rowAt r p).isLt
  exact (pick_eq _ hv fun r p => (![x8, x9, x10, x11, x12, x13, x14, x15] r) (ix3 0 p k)).trans (pick_row r p hv _)

/-- The lane an expert's routing weight is in. -/
def laneOf (g e : Fin 4) : Fin 128 := ⟨4 * g.val + e.val, by have := g.isLt; have := e.isLt; omega⟩

/-- A row's lanes with all but one expert's cleared add up to that expert's. -/
theorem sum_lane (g e : Fin 4) (f : Fin 128 → EReal) :
    ∑ x : Fin 128, Scalar.select (IntOp.cmpi .eq (BitVec.ofNat 32 x.val) (Scalar.addi (Scalar.muli (BitVec.ofNat 32 g.val) 4#32) (BitVec.ofNat 32 e.val))) (f x) 0
      = f (laneOf g e) := by
  have h : ∀ (g e : Fin 4) (x : Fin 128), IntOp.cmpi .eq (BitVec.ofNat 32 x.val) (Scalar.addi (Scalar.muli (BitVec.ofNat 32 g.val) 4#32) (BitVec.ofNat 32 e.val))
      = if x = laneOf g e then 1#1 else 0#1 := by decide +kernel
  rw [Finset.sum_eq_single (laneOf g e)]
  · rw [h, if_pos rfl]; rfl
  · intro x _ hx
    rw [h, if_neg hx]; rfl
  · exact fun hn => absurd (Finset.mem_univ _) hn

section Gates

variable (g : Fin 4) (a : Fin 512) (z : Fin 1)

theorem gate0_apply : k0_pay11 (F := Ideal) (k0_pay7 x8) (k0_pay8 x9) (k0_pay9 x10) x11 x12 x13 x14 x15 (BitVec.ofNat 32 g.val) (ix2 a z)
    = weights (F := Ideal) x8 x9 x10 x11 x12 x13 x14 x15 (ix2 a (laneOf g 0)) := by
  show _ = k0_pay10 (F := Ideal) (k0_pay7 x8) (k0_pay8 x9) (k0_pay9 x10) x11 x12 x13 x14 x15 (ix2 a (laneOf g 0))
  unfold k0_pay11
  generalize k0_pay10 (F := Ideal) (k0_pay7 x8) (k0_pay8 x9) (k0_pay9 x10) x11 x12 x13 x14 x15 = w
  pointwise []
  exact sum_lane g 0 fun x => w (ix2 a x)

theorem gate1_apply : k0_pay12 (F := Ideal) (k0_pay7 x8) (k0_pay8 x9) (k0_pay9 x10) x11 x12 x13 x14 x15 (BitVec.ofNat 32 g.val) (ix2 a z)
    = weights (F := Ideal) x8 x9 x10 x11 x12 x13 x14 x15 (ix2 a (laneOf g 1)) := by
  show _ = k0_pay10 (F := Ideal) (k0_pay7 x8) (k0_pay8 x9) (k0_pay9 x10) x11 x12 x13 x14 x15 (ix2 a (laneOf g 1))
  unfold k0_pay12
  generalize k0_pay10 (F := Ideal) (k0_pay7 x8) (k0_pay8 x9) (k0_pay9 x10) x11 x12 x13 x14 x15 = w
  pointwise []
  exact sum_lane g 1 fun x => w (ix2 a x)

theorem gate2_apply : k0_pay14 (F := Ideal) (k0_pay13 (k0_pay7 x8) (k0_pay8 x9) (k0_pay9 x10) x11 x12 x13 x14 x15 (BitVec.ofNat 32 g.val)) (ix2 a z)
    = weights (F := Ideal) x8 x9 x10 x11 x12 x13 x14 x15 (ix2 a (laneOf g 2)) := by
  show _ = k0_pay10 (F := Ideal) (k0_pay7 x8) (k0_pay8 x9) (k0_pay9 x10) x11 x12 x13 x14 x15 (ix2 a (laneOf g 2))
  unfold k0_pay14 k0_pay13
  generalize k0_pay10 (F := Ideal) (k0_pay7 x8) (k0_pay8 x9) (k0_pay9 x10) x11 x12 x13 x14 x15 = w
  pointwise []
  exact sum_lane g 2 fun x => w (ix2 a x)

theorem gate3_apply (w : FVec Ideal S512x128 .f32) :
    k0_pay15 (F := Ideal) w (BitVec.ofNat 32 g.val) (iota .tc S512x128 32 [1] iota_S512x128_d1_w32) (ix2 a z) = w (ix2 a (laneOf g 3)) := by
  pointwise [k0_pay15]
  exact sum_lane g 3 fun x => w (ix2 a x)

end Gates

/-! ## The experts' results -/

theorem up_apply (x : FVec Ideal S512x1024 .bf16) (A : Vec Ideal S1x1024x256 .bf16) (a : Fin 512) (f : Fin 256) :
    k0_pay16 (F := Ideal) x A (ix2 a f) = ∑ k : Fin 1024, x (ix2 a k) * A (ix3 0 k f) := by
  pointwise [k0_pay16]

theorem last_apply (x : FVec Ideal S512x1024 .bf16) (w : FVec Ideal S512x1 .f32) (A B : Vec Ideal S1x1024x256 .bf16) (a : Fin 512) (f : Fin 256) :
    k0_pay23 (F := Ideal) x w (k0_pay19 x A) B (ix2 a f)
      = hidden (fun k => x (ix2 a k)) (fun k => A (ix3 0 k f)) (fun k => B (ix3 0 k f)) * w (ix2 a 0) := by
  pointwise [k0_pay23, k0_pay19]
  rfl

theorem first_apply (x : FVec Ideal S512x1024 .bf16) (w0 w1 w2 : FVec Ideal S512x1 .f32) (a0 a1 a2 b0 b1 b2 : Vec Ideal S1x1024x256 .bf16)
    (d0 d1 d2 : Vec Ideal S1x256x1024 .bf16) (a : Fin 512) (l : Fin 1024) :
    k0_pay24 (F := Ideal) x w0 w1 w2 (k0_pay16 x a0) (k0_pay17 x a1) (k0_pay18 x a2) (k0_pay20 x b0) (k0_pay21 x b1) (k0_pay22 b2) d0 d1 d2 (ix2 a l)
      = expertOut (fun k => x (ix2 a k)) (w0 (ix2 a 0)) (fun k f => a0 (ix3 0 k f)) (fun k f => b0 (ix3 0 k f)) (fun f => d0 (ix3 0 f l))
        + expertOut (fun k => x (ix2 a k)) (w1 (ix2 a 0)) (fun k f => a1 (ix3 0 k f)) (fun k f => b1 (ix3 0 k f)) (fun f => d1 (ix3 0 f l))
        + expertOut (fun k => x (ix2 a k)) (w2 (ix2 a 0)) (fun k f => a2 (ix3 0 k f)) (fun k f => b2 (ix3 0 k f)) (fun f => d2 (ix3 0 f l)) := by
  pointwise [k0_pay24, k0_pay16, k0_pay17, k0_pay18, k0_pay20, k0_pay21, k0_pay22]
  rfl

theorem sum_apply (h : FVec Ideal S512x256 .bf16) (y : FVec Ideal S512x1024 .f32) (d : Vec Ideal S1x256x1024 .bf16) (a : Fin 512) (l : Fin 1024) :
    k0_pay25 (F := Ideal) h y d (ix2 a l) = (y (ix2 a l) : EReal) + ∑ f : Fin 256, h (ix2 a f) * d (ix3 0 f l) := by
  pointwise [k0_pay25]

/-- The members of a group's weights, as they are loaded. -/
theorem slice_up (X : Vec Ideal S4x1024x256 .bf16) (e : Fin 4) {off : Fin 3 → ℕ} (inb) (ho : off = ![e.val, 0, 0]) (z : Fin 1) (k : Fin 1024) (f : Fin 256) :
    slice X (Rect.unit (s := S4x1024x256) off S1x1024x256.size inb).toLoadRect (ix3 z k f) = X (ix3 e k f) := by
  subst ho
  refine congrArg X (funext fun d => Fin.ext ?_)
  refine (Rect.idx_unit_val (s := S4x1024x256) ![e.val, 0, 0] S1x1024x256.size inb (ix3 z k f) d).trans ?_
  match d with
  | ⟨0, _⟩ => show e.val + z.val = e.val; omega
  | ⟨1, _⟩ => exact Nat.zero_add _
  | ⟨2, _⟩ => exact Nat.zero_add _

theorem slice_down (X : Vec Ideal S4x256x1024 .bf16) (e : Fin 4) {off : Fin 3 → ℕ} (inb) (ho : off = ![e.val, 0, 0]) (z : Fin 1) (f : Fin 256) (l : Fin 1024) :
    slice X (Rect.unit (s := S4x256x1024) off S1x256x1024.size inb).toLoadRect (ix3 z f l) = X (ix3 e f l) := by
  subst ho
  refine congrArg X (funext fun d => Fin.ext ?_)
  refine (Rect.idx_unit_val (s := S4x256x1024) ![e.val, 0, 0] S1x256x1024.size inb (ix3 z f l) d).trans ?_
  match d with
  | ⟨0, _⟩ => show e.val + z.val = e.val; omega
  | ⟨1, _⟩ => exact Nat.zero_add _
  | ⟨2, _⟩ => exact Nat.zero_add _

theorem lastHidden_apply (g : Fin 4) (A B : Vec Ideal S1x1024x256 .bf16) (a : Fin 512) (f : Fin 256) :
    lastHidden (F := Ideal) (BitVec.ofNat 32 g.val) x0 x1 x2 x3 x4 x5 x6 x7 x8 x9 x10 x11 x12 x13 x14 x15 A B (ix2 a f)
      = hidden (fun k => rows (F := Ideal) x0 x1 x2 x3 x4 x5 x6 x7 (ix2 a k)) (fun k => A (ix3 0 k f)) (fun k => B (ix3 0 k f))
        * weights (F := Ideal) x8 x9 x10 x11 x12 x13 x14 x15 (ix2 a (laneOf g 3)) := by
  unfold lastHidden
  rw [last_apply, gate3_apply]

theorem firstThree_apply (g : Fin 4) (a0 a1 a2 b0 b1 b2 : Vec Ideal S1x1024x256 .bf16) (d0 d1 d2 : Vec Ideal S1x256x1024 .bf16) (a : Fin 512) (l : Fin 1024) :
    firstThree (F := Ideal) (BitVec.ofNat 32 g.val) x0 x1 x2 x3 x4 x5 x6 x7 x8 x9 x10 x11 x12 x13 x14 x15 a0 a1 a2 b0 b1 b2 d0 d1 d2 (ix2 a l)
      = (let out := fun (e : Fin 4) (A B : Vec Ideal S1x1024x256 .bf16) (D : Vec Ideal S1x256x1024 .bf16) =>
          expertOut (fun k => rows (F := Ideal) x0 x1 x2 x3 x4 x5 x6 x7 (ix2 a k)) (weights (F := Ideal) x8 x9 x10 x11 x12 x13 x14 x15 (ix2 a (laneOf g e)))
            (fun k f => A (ix3 0 k f)) (fun k f => B (ix3 0 k f)) (fun f => D (ix3 0 f l))
        out 0 a0 b0 d0 + out 1 a1 b1 d1 + out 2 a2 b2 d2) := by
  unfold firstThree
  rw [first_apply, gate0_apply, gate1_apply, gate2_apply]

/-! ## The stored block -/

/-- The block whose chunks are the rows of `w`, 64 by 64. -/
def stacked (w : FVec Ideal S512x1024 .bf16) : S8x64x1024.Idx → Elt Ideal .bf16 := fun j => w (ix2 (rowAt (j 0) (j 1)) (j 2))

theorem stacked_emb (w : FVec Ideal S512x1024 .bf16) (r : Fin 8) {off : Fin 3 → ℕ} (inb) (hoff : off = ![r.val, 0, 0]) (z : Fin 1) (p : Fin 64) (l : Fin 1024) :
    stacked w ((Rect.unit (s := S8x64x1024) off S1x64x1024.size inb).emb (ix3 z p l)) = w (ix2 (rowAt r p) l) := by
  subst hoff
  have e : (Rect.unit (s := S8x64x1024) ![r.val, 0, 0] S1x64x1024.size inb).emb (ix3 z p l) = ix3 r p l := by
    funext d
    apply Fin.ext
    refine (Rect.idx_unit_val (s := S8x64x1024) ![r.val, 0, 0] S1x64x1024.size inb (ix3 z p l) d).trans ?_
    match d with
    | ⟨0, _⟩ => show r.val + z.val = r.val; omega
    | ⟨1, _⟩ => exact Nat.zero_add _
    | ⟨2, _⟩ => exact Nat.zero_add _
  rw [e]; rfl

theorem pieces_agree (h : FVec Ideal S512x256 .bf16) (y : FVec Ideal S512x1024 .f32) (d : Vec Ideal S1x256x1024 .bf16) :
    ∀ P ∈ piecesOf h y d, ∀ j : P.1.shape.Idx, P.2 j = stacked (k0_pay25 h y d) (P.1.emb j) := by
  intro P hP j
  unfold piecesOf at hP
  have q : ∀ (r : Fin 8) (off : Fin 3 → ℕ) (inb) (w : FVec Ideal S1x64x1024 .bf16), off = ![r.val, 0, 0] →
      (∀ (z : Fin 1) (p : Fin 64) (l : Fin 1024), w (ix3 z p l) = k0_pay25 h y d (ix2 (rowAt r p) l)) →
      ∀ j : S1x64x1024.Idx, w j = stacked (k0_pay25 h y d) ((Rect.unit (s := S8x64x1024) off S1x64x1024.size inb).emb j) := by
    intro r off inb w ho hw j
    rw [eq_ix3 j]
    exact (hw _ _ _).trans (stacked_emb _ r inb ho _ _ _).symm
  simp only [List.mem_cons, List.not_mem_nil, or_false] at hP
  generalize hv : k0_pay25 h y d = v at q ⊢
  rcases hP with rfl | rfl | rfl | rfl | rfl | rfl | rfl | rfl
  · refine q 7 _ inb_S8x64x1024_S1x64x1024_7_0_0 _ rfl (fun z p l => ?_) j
    unfold k0_pay4; rw [hv]; pointwise []
    exact congrArg (fun a => v (ix2 a l)) (Fin.ext (show 448 + p.val = 64 * 7 + p.val by omega))
  · refine q 6 _ inb_S8x64x1024_S1x64x1024_6_0_0 _ rfl (fun z p l => ?_) j
    unfold k0_pay32; rw [hv]; pointwise []
    exact congrArg (fun a => v (ix2 a l)) (Fin.ext (show 384 + p.val = 64 * 6 + p.val by omega))
  · refine q 5 _ inb_S8x64x1024_S1x64x1024_5_0_0 _ rfl (fun z p l => ?_) j
    unfold k0_pay31; rw [hv]; pointwise []
    exact congrArg (fun a => v (ix2 a l)) (Fin.ext (show 320 + p.val = 64 * 5 + p.val by omega))
  · refine q 4 _ inb_S8x64x1024_S1x64x1024_4_0_0 _ rfl (fun z p l => ?_) j
    unfold k0_pay30; rw [hv]; pointwise []
    exact congrArg (fun a => v (ix2 a l)) (Fin.ext (show 256 + p.val = 64 * 4 + p.val by omega))
  · refine q 3 _ inb_S8x64x1024_S1x64x1024_3_0_0 _ rfl (fun z p l => ?_) j
    unfold k0_pay29; rw [hv]; pointwise []
    exact congrArg (fun a => v (ix2 a l)) (Fin.ext (show 192 + p.val = 64 * 3 + p.val by omega))
  · refine q 2 _ inb_S8x64x1024_S1x64x1024_2_0_0 _ rfl (fun z p l => ?_) j
    unfold k0_pay28; rw [hv]; pointwise []
    exact congrArg (fun a => v (ix2 a l)) (Fin.ext (show 128 + p.val = 64 * 2 + p.val by omega))
  · refine q 1 _ inb_S8x64x1024_S1x64x1024_1_0_0 _ rfl (fun z p l => ?_) j
    unfold k0_pay27; rw [hv]; pointwise []
    exact congrArg (fun a => v (ix2 a l)) (Fin.ext (show 64 + p.val = 64 * 1 + p.val by omega))
  · refine q 0 _ inb_S8x64x1024_S1x64x1024_0_0_0 _ rfl (fun z p l => ?_) j
    unfold k0_pay26; rw [hv]; pointwise []
    exact congrArg (fun a => v (ix2 a l)) (Fin.ext (show p.val = 64 * 0 + p.val by omega))

theorem usedBlock_apply (g : Fin 4) (w1 w3 : Vec Ideal S4x1024x256 .bf16) (w2 : Vec Ideal S4x256x1024 .bf16) (r : Fin 8) (p : Fin 64) (l : Fin 1024) :
    usedBlock (F := Ideal) (BitVec.ofNat 32 g.val) x0 x1 x2 x3 x4 x5 x6 x7 x8 x9 x10 x11 x12 x13 x14 x15 w1 w3 w2 (ix3 r p l)
      = (let out := fun e : Fin 4 => expertOut (fun k => (![x0, x1, x2, x3, x4, x5, x6, x7] r) (ix3 0 p k)) ((![x8, x9, x10, x11, x12, x13, x14, x15] r) (ix3 0 p (laneOf g e)))
          (fun k f => w1 (ix3 e k f)) (fun k f => w3 (ix3 e k f)) (fun f => w2 (ix3 e f l))
        out 0 + out 1 + out 2 + out 3) := by
  unfold usedBlock pieces
  rw [View.canon_apply_of_pieces _ _ (pieces_agree _ _ _) _ (pieces_cover _ _ _ _)]
  show k0_pay25 (F := Ideal) _ _ _ (ix2 (rowAt r p) l) = _
  rw [sum_apply]
  simp only [lastHidden_apply, firstThree_apply, rows_apply, weights_apply]
  simp only [slice_up _ 0 inb_S4x1024x256_S1x1024x256_0_0_0 rfl, slice_up _ 1 inb_S4x1024x256_S1x1024x256_1_0_0 rfl, slice_up _ 2 inb_S4x1024x256_S1x1024x256_2_0_0 rfl, slice_up _ 3 inb_S4x1024x256_S1x1024x256_3_0_0 rfl, slice_down _ 0 inb_S4x256x1024_S1x256x1024_0_0_0 rfl, slice_down _ 1 inb_S4x256x1024_S1x256x1024_1_0_0 rfl, slice_down _ 2 inb_S4x256x1024_S1x256x1024_2_0_0 rfl, slice_down _ 3 inb_S4x256x1024_S1x256x1024_3_0_0 rfl]
  rfl

end Value

end Cert.Experts

end
-- ==== Proof.Experts.Reference.lean ====
module

public import proofs.«01_k».proof.Proof.Gen.Reference2Ideal.Read
public import proofs.«01_k».proof.Proof.Experts.Spec
public import Idealize.ShloMosaic.Lib.Pointwise

/-! What the reference of the experts' call computes, element by element. -/

@[expose] public section

set_option maxRecDepth 16384

noncomputable section

namespace Cert.Reference2Ideal.Read

open Cert.Reference2Ideal Cert.Reference2Ideal.Gen Idealize.ShloMosaic Idealize.ShloMosaic.TcCoe Idealize.SL.Sem Idealize.ShloMosaic.StableHlo
open Cert.Experts

/-! ## A chunk taken by a table's word -/

/-- Taking the blocks of a rank-3 operand that a table names. -/
abbrev blockDims (N R A B : Nat) (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

theorem gather_block_apply {α : Type} {N R A B w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (k : Fin R) (p : Fin A) (l : Fin B) :
    Host.gather (blockDims N R A B wf) x idx (ix3 k p l) = x (ix3 ⟨min (idx (ix2 k 0)).toInt.toNat (N - 1), by omega⟩ p l) := by
  unfold Host.gather
  congr 1
  funext a
  refine Fin.ext ?_
  show (blockDims N R A B wf).start (ix3 k p l) idx a + (blockDims N R A B wf).batchCoord (ix3 k p l) a
      + (blockDims N R A B wf).offCoord (ix3 k p l) a = _
  rw [GatherDims.batchCoord_eq_zero _ _ _ List.not_mem_nil, Nat.add_zero]
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (blockDims N R A B wf).startIndexMap from List.mem_singleton.mpr rfl)]
    have hsi : (blockDims N R A B wf).siIdx (ix3 k p l) ⟨List.idxOf (0 : Fin 3) (blockDims N R A B wf).startIndexMap,
        List.idxOf_lt_length_iff.2 (List.mem_singleton.mpr rfl)⟩ = ix2 k 0 := by
      funext b; refine Fin.ext ?_
      match b with
      | ⟨0, _⟩ => rfl
      | ⟨1, _⟩ => rfl
    rw [hsi]
    rfl
  · unfold GatherDims.start GatherDims.offCoord
    rw [dif_neg (show (1 : Fin 3) ∉ ([0] : List (Fin 3)) by decide), Nat.zero_add,
      dif_pos ((GatherDims.mem_sKept _ _).mpr ⟨show (1 : Fin 3) ∉ ([0] : List (Fin 3)) by decide, List.not_mem_nil⟩)]
    rfl
  · unfold GatherDims.start GatherDims.offCoord
    rw [dif_neg (show (2 : Fin 3) ∉ ([0] : List (Fin 3)) by decide), Nat.zero_add,
      dif_pos ((GatherDims.mem_sKept _ _).mpr ⟨show (2 : Fin 3) ∉ ([0] : List (Fin 3)) by decide, List.not_mem_nil⟩)]
    rfl

/-- A word below 384 is its own index, wrapped and clamped. -/
theorem clamp_word (n : Fin 384) :
    min (Scalar.select (IntOp.cmpi .slt (BitVec.ofNat 32 n.val) 0#32) (IntOp.addi (BitVec.ofNat 32 n.val) 384#32) (BitVec.ofNat 32 n.val)).toInt.toNat (384 - 1) = n.val := by
  revert n; decide +kernel

variable
  (x0 : (⟨S384x64x1024, .bf16⟩ : BufTy).Contents (Elt Ideal)) (x1 : (⟨S384x64x128, .f32⟩ : BufTy).Contents (Elt Ideal))
  (x2 x3 : (⟨S52, .i32⟩ : BufTy).Contents (Elt Ideal)) (x5 : (⟨S416, .i32⟩ : BufTy).Contents (Elt Ideal))
  (x6 x7 : (⟨S64x1024x256, .f32⟩ : BufTy).Contents (Elt Ideal)) (x8 : (⟨S64x256x1024, .f32⟩ : BufTy).Contents (Elt Ideal))

theorem v6_apply (c : Fin 416) (n : Fin 384) (hn : x5 (ix1 c) = BitVec.ofNat 32 n.val) :
    min (val_main_v6 (F := Ideal) x5 (ix2 c 0)).toInt.toNat (384 - 1) = n.val := by
  rw [← clamp_word n, ← hn]
  pointwise [val_main_v6, val_main_v5, val_main_v4, val_main_v3, val_main_c_0, val_main_v2, val_main_v1, val_main_c]

theorem v14_apply (c : Fin 416) (n : Fin 384) (hn : x5 (ix1 c) = BitVec.ofNat 32 n.val) :
    min (val_main_v14 (F := Ideal) x5 (ix2 c 0)).toInt.toNat (384 - 1) = n.val := by
  rw [← clamp_word n, ← hn]
  pointwise [val_main_v14, val_main_v13, val_main_v12, val_main_v11, val_main_c_2, val_main_v10, val_main_v9, val_main_c_1]

theorem v7_apply (c : Fin 416) (n : Fin 384) (hn : x5 (ix1 c) = BitVec.ofNat 32 n.val) (p : Fin 64) (q : Fin 1024) :
    val_main_v7 (F := Ideal) x0 x5 (ix3 c p q) = x0 (ix3 n p q) := by
  refine (gather_block_apply (by norm_num) _ (val_main_v0 (F := Ideal) x0) (val_main_v6 (F := Ideal) x5) c p q).trans ?_
  refine (val_main_v0_apply x0 _).trans (congrArg (fun n => x0 (ix3 n p q)) (Fin.ext (v6_apply x5 c n hn)))

theorem v15_apply (c : Fin 416) (n : Fin 384) (hn : x5 (ix1 c) = BitVec.ofNat 32 n.val) (p : Fin 64) (q : Fin 128) :
    val_main_v15 (F := Ideal) x1 x5 (ix3 c p q) = x1 (ix3 n p q) := by
  refine (gather_block_apply (by norm_num) _ x1 (val_main_v14 (F := Ideal) x5) c p q).trans ?_
  refine (congrArg (fun n => x1 (ix3 n p q)) (Fin.ext (v14_apply x5 c n hn)))

section Row

variable (k : Fin 52) (a : Fin 512) (c : Fin 416) (p : Fin 64) (h : 512 * k.val + a.val = 64 * c.val + p.val)
  (n : Fin 384) (hn : x5 (ix1 c) = BitVec.ofNat 32 n.val) (g : Fin 4) (hg : x2 (ix1 k) = BitVec.ofNat 32 g.val)
include h hn

/-- The row of the activations that a row of a block is. -/
theorem v8_apply (q : Fin 1024) : val_main_v8 (F := Ideal) x0 x5 (ix3 k a q) = x0 (ix3 n p q) := by
  have hp := p.isLt
  have hq := q.isLt
  rw [val_main_v8_apply, ← v7_apply x0 x5 c n hn p q]
  refine congrArg (val_main_v7 (F := Ideal) x0 x5) (funext fun d => Fin.ext ?_)
  match d with
  | ⟨0, _⟩ => show ((k.val * 512 + a.val) * 1024 + q.val) / 65536 = c.val; omega
  | ⟨1, _⟩ => show ((k.val * 512 + a.val) * 1024 + q.val) / 1024 % 64 = p.val; omega
  | ⟨2, _⟩ => show ((k.val * 512 + a.val) * 1024 + q.val) % 1024 = q.val; omega

theorem v16_apply (q : Fin 128) : val_main_v16 (F := Ideal) x1 x5 (ix3 k a q) = x1 (ix3 n p q) := by
  have hp := p.isLt
  have hq := q.isLt
  rw [val_main_v16_apply, ← v15_apply x1 x5 c n hn p q]
  refine congrArg (val_main_v15 (F := Ideal) x1 x5) (funext fun d => Fin.ext ?_)
  match d with
  | ⟨0, _⟩ => show ((k.val * 512 + a.val) * 128 + q.val) / 8192 = c.val; omega
  | ⟨1, _⟩ => show ((k.val * 512 + a.val) * 128 + q.val) / 128 % 64 = p.val; omega
  | ⟨2, _⟩ => show ((k.val * 512 + a.val) * 128 + q.val) % 128 = q.val; omega

theorem v30_apply (e : Fin 16) (f : Fin 256) :
    val_main_v30 (F := Ideal) x0 x5 x6 (ix4 k a e f) = ∑ q : Fin 1024, x0 (ix3 n p q) * x6 (ix3 ⟨e.val, by omega⟩ q f) := by
  pointwise [val_main_v30, val_main_v27]
  simp only [v8_apply x0 x5 k a c p h n hn]

theorem v32_apply (e : Fin 16) (f : Fin 256) :
    val_main_v32 (F := Ideal) x0 x5 x7 (ix4 k a e f) = ∑ q : Fin 1024, x0 (ix3 n p q) * x7 (ix3 ⟨e.val, by omega⟩ q f) := by
  pointwise [val_main_v32, val_main_v28]
  simp only [v8_apply x0 x5 k a c p h n hn]

theorem v33_apply (e : Fin 16) (f : Fin 256) :
    val_main_v33 (F := Ideal) x0 x5 x6 x7 (ix4 k a e f)
      = hidden (fun q => x0 (ix3 n p q)) (fun q => x6 (ix3 ⟨e.val, by omega⟩ q f)) (fun q => x7 (ix3 ⟨e.val, by omega⟩ q f)) := by
  pointwise [val_main_v33, val_main_v31, val_main_call2_v5, val_main_call2_v4, val_main_call2_cst_0, val_main_call2_v3, val_main_call2_v2, val_main_call2_cst, val_main_call2_v1, val_main_call2_v0]
  rw [v30_apply x0 x5 x6 k a c p h n hn, v32_apply x0 x5 x7 k a c p h n hn]
  rfl

end Row

/-- The group of four an expert lies in. -/
theorem v19_apply (e : Fin 16) : val_main_v19 (F := Ideal) (ix1 e) = BitVec.ofNat 32 (e.val / 4) := by
  pointwise [val_main_v19, val_main_call0_v11, val_main_call0_v13, val_main_call0_v2, val_main_call0_v6, val_main_call0_v10, val_main_call0_v3, val_main_call0_v5, val_main_call0_v4, val_main_call0_v8, val_main_call0_v9, val_main_call0_c, val_main_call0_v12, val_main_call0_c_0, val_main_call0_v7, val_main_call0_v1, val_main_call0_v0, val_main_c_3, val_main_v18]
  revert e; decide +kernel

theorem v26_apply (k : Fin 52) (a : Fin 512) (e : Fin 16) (g : Fin 4) (hg : x2 (ix1 k) = BitVec.ofNat 32 g.val) :
    val_main_v26 (F := Ideal) x1 x2 x5 (ix3 k a e) = if e.val / 4 = g.val then val_main_v16 (F := Ideal) x1 x5 (ix3 k a ⟨e.val, by omega⟩) else 0 := by
  have hd : ∀ (e : Fin 16) (g : Fin 4), IntOp.cmpi .eq (BitVec.ofNat 32 (e.val / 4)) (BitVec.ofNat 32 g.val) = if e.val / 4 = g.val then 1#1 else 0#1 := by decide +kernel
  pointwise [val_main_v26, val_main_call1_v1, val_main_v25, val_main_v24, val_main_v23, val_main_v22, val_main_v21, val_main_v20, val_main_v17, val_main_call1_v2, val_main_call1_v0, val_main_cst, id]
  rw [v19_apply, hg, hd]
  split
  · exact if_pos rfl
  · exact if_neg (by decide)

/-- One expert's answer in the block's group, as the reference has it. -/
def refOut (k : Fin 1024) (n : Fin 384) (p : Fin 64) (e : Fin 16) : EReal :=
  expertOut (fun q => x0 (ix3 n p q)) (x1 (ix3 n p ⟨e.val, by omega⟩)) (fun q f => x6 (ix3 ⟨e.val, by omega⟩ q f))
    (fun q f => x7 (ix3 ⟨e.val, by omega⟩ q f)) (fun f => x8 (ix3 ⟨e.val, by omega⟩ f k))

/-- The sum over the layer's sixteen experts is the sum over the block's group of four. -/
theorem v37_apply (k : Fin 52) (a : Fin 512) (c : Fin 416) (p : Fin 64) (h : 512 * k.val + a.val = 64 * c.val + p.val)
    (n : Fin 384) (hn : x5 (ix1 c) = BitVec.ofNat 32 n.val) (g : Fin 4) (hg : x2 (ix1 k) = BitVec.ofNat 32 g.val) (l : Fin 1024) :
    val_main_v37 (F := Ideal) x0 x1 x2 x5 x6 x7 x8 (ix3 k a l)
      = refOut x0 x1 x6 x7 x8 l n p (member g 0) + refOut x0 x1 x6 x7 x8 l n p (member g 1)
        + refOut x0 x1 x6 x7 x8 l n p (member g 2) + refOut x0 x1 x6 x7 x8 l n p (member g 3) := by
  pointwise [val_main_v37, val_main_v29, val_main_v36, val_main_v35, val_main_v34]
  simp only [v33_apply x0 x5 x6 x7 k a c p h n hn, v26_apply x1 x2 x5 k a _ g hg]
  refine (sum_group g _ fun e he => ?_).trans ?_
  · simp only [if_neg he, mul_zero, zero_mul, Finset.sum_const_zero]
  · have hm : ∀ e : Fin 4, (member g e).val / 4 = g.val := by clear hg; revert g; decide
    simp only [if_pos (hm _), v16_apply x1 x5 k a c p h n hn]
    rfl

theorem v43_apply (k : Fin 52) (a : Fin 512) (c : Fin 416) (p : Fin 64) (h : 512 * k.val + a.val = 64 * c.val + p.val) (l : Fin 1024) :
    val_main_v43 (F := Ideal) x0 x1 x2 x3 x5 x6 x7 x8 (ix3 c p l)
      = Scalar.select (IntOp.cmpi .sgt (x3 (ix1 k)) 0#32) (val_main_v37 (F := Ideal) x0 x1 x2 x5 x6 x7 x8 (ix3 k a l)) 0 := by
  have hp := p.isLt
  have hl := l.isLt
  have e : val_main_v42 (F := Ideal) x0 x1 x2 x3 x5 x6 x7 x8 (ix3 c p l) = val_main_v41 (F := Ideal) x0 x1 x2 x3 x5 x6 x7 x8 (ix3 k a l) := by
    rw [val_main_v42_apply]
    refine congrArg (val_main_v41 (F := Ideal) x0 x1 x2 x3 x5 x6 x7 x8) (funext fun d => Fin.ext ?_)
    match d with
    | ⟨0, _⟩ => show ((c.val * 64 + p.val) * 1024 + l.val) / 524288 = k.val; omega
    | ⟨1, _⟩ => show ((c.val * 64 + p.val) * 1024 + l.val) / 1024 % 512 = a.val; omega
    | ⟨2, _⟩ => show ((c.val * 64 + p.val) * 1024 + l.val) % 1024 = l.val; omega
  refine (val_main_v43_apply x0 x1 x2 x3 x5 x6 x7 x8 (ix3 c p l)).trans (e.trans ?_)
  pointwise [val_main_v41, val_main_call3_v1, val_main_v40, val_main_v39, val_main_v38, val_main_c_4, val_main_call3_v2, val_main_call3_v0, val_main_cst_5, id]

end Cert.Reference2Ideal.Read

end
-- ==== Proof.Experts.Equal.lean ====
module

public import proofs.«01_k».proof.Proof.Experts.Blocks
public import proofs.«01_k».proof.Proof.Experts.Value
public import proofs.«01_k».proof.Proof.Experts.Reference

/-! Over the extended reals the experts' call and its reference compute the same array. -/

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.Sem
open Cert.Reference2Ideal.Read (refOut val_main_v43 v43_apply v37_apply)

theorem ofNat_word (x : BitVec 32) : x = BitVec.ofNat 32 x.toNat := by simp

section Casts

variable (x : Vec Ideal S4x1024x256 .f32) (y : Vec Ideal S4x256x1024 .f32)

theorem pay1_apply (e : Fin 4) (k : Fin 1024) (f : Fin 256) : k0_pay1 (F := Ideal) x (ix3 e k f) = x (ix3 e k f) := by
  unfold k0_pay1; pointwise []
theorem pay2_apply (e : Fin 4) (k : Fin 1024) (f : Fin 256) : k0_pay2 (F := Ideal) x (ix3 e k f) = x (ix3 e k f) := by
  unfold k0_pay2; pointwise []
theorem pay3_apply (e : Fin 4) (f : Fin 256) (l : Fin 1024) : k0_pay3 (F := Ideal) y (ix3 e f l) = y (ix3 e f l) := by
  unfold k0_pay3; pointwise []
theorem pay5_apply (r : Fin 8) (p : Fin 64) (l : Fin 1024) : k0_pay5 (F := Ideal) (ix3 r p l) = (0 : EReal) := by
  unfold k0_pay5; pointwise []

end Casts

variable (m : (ℓ : Loc nD τ sig) → Buf (Elt Ideal) ℓ) (c : Dev nD)

abbrev arr0 : S384x64x1024.Idx → EReal := m ((c : Thread nD τ).loc main_arg0)
abbrev arr1 : S384x64x128.Idx → EReal := m ((c : Thread nD τ).loc main_arg1)
abbrev arr2 : S52.Idx → BitVec 32 := m ((c : Thread nD τ).loc main_arg2)
abbrev arr3 : S52.Idx → BitVec 32 := m ((c : Thread nD τ).loc main_arg3)
abbrev arr5 : S416.Idx → BitVec 32 := m ((c : Thread nD τ).loc main_arg5)
abbrev arr6 : S64x1024x256.Idx → EReal := m ((c : Thread nD τ).loc main_arg6)
abbrev arr7 : S64x1024x256.Idx → EReal := m ((c : Thread nD τ).loc main_arg7)
abbrev arr8 : S64x256x1024.Idx → EReal := m ((c : Thread nD τ).loc main_arg8)

/-- The reference's whole array. -/
abbrev refArr : S416x64x1024.Idx → EReal :=
  val_main_v43 (F := Ideal) (arr0 m c) (arr1 m c) (arr2 m c) (arr3 m c) (arr5 m c) (arr6 m c) (arr7 m c) (arr8 m c)

theorem tbl_group : tbl m 0 = arr2 m c := by obtain rfl : c = 0 := Subsingleton.elim _ _; rfl
theorem tbl_used : tbl m 1 = arr3 m c := by obtain rfl : c = 0 := Subsingleton.elim _ _; rfl
theorem tbl_src : tbl m 3 = arr5 m c := by obtain rfl : c = 0 := Subsingleton.elim _ _; rfl

variable (W : Tables m) (hO : Ok m) (t : Fin (cfgM m hO).N)

/-- The rows and the row weights of a step's chunks, block by block. -/
theorem rows_blk (r : Fin 8) (p : Fin 64) (k : Fin 1024) :
    (![iblk m hO c 0 t, iblk m hO c 1 t, iblk m hO c 2 t, iblk m hO c 3 t, iblk m hO c 4 t, iblk m hO c 5 t, iblk m hO c 6 t, iblk m hO c 7 t] : Fin 8 → Vec Ideal S1x64x1024 .bf16) r (ix3 0 p k)
      = arr0 m c (ix3 (src W (chunkOf (pt hO t) r)) p k) := by
  match r with
  | ⟨0, _⟩ => exact blk_0 W hO c t p k
  | ⟨1, _⟩ => exact blk_1 W hO c t p k
  | ⟨2, _⟩ => exact blk_2 W hO c t p k
  | ⟨3, _⟩ => exact blk_3 W hO c t p k
  | ⟨4, _⟩ => exact blk_4 W hO c t p k
  | ⟨5, _⟩ => exact blk_5 W hO c t p k
  | ⟨6, _⟩ => exact blk_6 W hO c t p k
  | ⟨7, _⟩ => exact blk_7 W hO c t p k

theorem weights_blk (r : Fin 8) (p : Fin 64) (q : Fin 128) :
    (![iblk m hO c 8 t, iblk m hO c 9 t, iblk m hO c 10 t, iblk m hO c 11 t, iblk m hO c 12 t, iblk m hO c 13 t, iblk m hO c 14 t, iblk m hO c 15 t] : Fin 8 → Vec Ideal S1x64x128 .f32) r (ix3 0 p q)
      = arr1 m c (ix3 (src W (chunkOf (pt hO t) r)) p q) := by
  match r with
  | ⟨0, _⟩ => exact blk_8 W hO c t p q
  | ⟨1, _⟩ => exact blk_9 W hO c t p q
  | ⟨2, _⟩ => exact blk_10 W hO c t p q
  | ⟨3, _⟩ => exact blk_11 W hO c t p q
  | ⟨4, _⟩ => exact blk_12 W hO c t p q
  | ⟨5, _⟩ => exact blk_13 W hO c t p q
  | ⟨6, _⟩ => exact blk_14 W hO c t p q
  | ⟨7, _⟩ => exact blk_15 W hO c t p q

/-- One expert's answer at a used step. -/
theorem expert_blk (r : Fin 8) (p : Fin 64) (l : Fin 1024) (e : Fin 4) :
    expertOut (fun k => (![iblk m hO c 0 t, iblk m hO c 1 t, iblk m hO c 2 t, iblk m hO c 3 t, iblk m hO c 4 t, iblk m hO c 5 t, iblk m hO c 6 t, iblk m hO c 7 t] : Fin 8 → Vec Ideal S1x64x1024 .bf16) r (ix3 0 p k))
        ((![iblk m hO c 8 t, iblk m hO c 9 t, iblk m hO c 10 t, iblk m hO c 11 t, iblk m hO c 12 t, iblk m hO c 13 t, iblk m hO c 14 t, iblk m hO c 15 t] : Fin 8 → Vec Ideal S1x64x128 .f32) r (ix3 0 p (laneOf (grp W (pt hO t)) e)))
        (fun k f => cast1 m hO c t (ix3 e k f)) (fun k f => cast3 m hO c t (ix3 e k f)) (fun f => cast2 m hO c t (ix3 e f l))
      = refOut (arr0 m c) (arr1 m c) (arr6 m c) (arr7 m c) (arr8 m c) l (src W (chunkOf (pt hO t) r)) p (member (grp W (pt hO t)) e) := by
  unfold refOut cast1 cast3 cast2
  have h1 : (fun (k : Fin 1024) (f : Fin 256) => k0_pay1 (F := Ideal) (iblk m hO c 16 t) (ix3 e k f)) = fun k f => arr6 m c (ix3 (expert (grp W (pt hO t)) e) k f) :=
    funext fun k => funext fun f => (pay1_apply _ e k f).trans (blk_16 W hO c t e k f)
  have h3 : (fun (k : Fin 1024) (f : Fin 256) => k0_pay2 (F := Ideal) (iblk m hO c 17 t) (ix3 e k f)) = fun k f => arr7 m c (ix3 (expert (grp W (pt hO t)) e) k f) :=
    funext fun k => funext fun f => (pay2_apply _ e k f).trans (blk_17 W hO c t e k f)
  have h2 : (fun (f : Fin 256) => k0_pay3 (F := Ideal) (iblk m hO c 18 t) (ix3 e f l)) = fun f => arr8 m c (ix3 (expert (grp W (pt hO t)) e) f l) :=
    funext fun f => (pay3_apply _ e f l).trans (blk_18 W hO c t e f l)
  rw [h1, h3, h2, weights_blk m c W hO t r p, funext (rows_blk m c W hO t r p)]
  rfl

include W in
/-- What a point leaves, at a row of one of its chunks, is the reference's array there. -/
theorem point_apply (r : Fin 8) (p : Fin 64) (l : Fin 1024) :
    outAt m hO c t (ix3 (n0 := 8) (n1 := 64) (n2 := 1024) r p l) = refArr m c (ix3 (n0 := 416) (n1 := 64) (n2 := 1024) (chunkOf (pt hO t) r) p l) := by
  have hg : arr2 m c (ix1 (pt hO t)) = BitVec.ofNat 32 (grp W (pt hO t)).val := by
    rw [← tbl_group m c]
    exact ofNat_word _
  have hs : arr5 m c (ix1 (chunkOf (pt hO t) r)) = BitVec.ofNat 32 (src W (chunkOf (pt hO t) r)).val := by
    rw [← tbl_src m c]
    exact ofNat_word _
  have ha : 512 * (pt hO t).val + (rowAt r p).val = 64 * (chunkOf (pt hO t) r).val + p.val := by
    show 512 * (pt hO t).val + (64 * r.val + p.val) = 64 * (8 * (pt hO t).val + r.val) + p.val
    omega
  refine Eq.trans ?_ (v43_apply (arr0 m c) (arr1 m c) (arr2 m c) (arr3 m c) (arr5 m c) (arr6 m c) (arr7 m c) (arr8 m c) (pt hO t) (rowAt r p) (chunkOf (pt hO t) r) p ha l).symm
  rw [v37_apply (arr0 m c) (arr1 m c) (arr2 m c) (arr5 m c) (arr6 m c) (arr7 m c) (arr8 m c) (pt hO t) (rowAt r p) (chunkOf (pt hO t) r) p ha _ hs _ hg l]
  by_cases hu : usedAt (c := c) (grid0.coords t) (tbl m 1)
  · have hc : IntOp.cmpi .sgt (arr3 m c (ix1 (pt hO t))) 0#32 = 1#1 := by
      rw [← tbl_used m c]; exact (used_iff m c (grid0.coords t)).mp hu
    rw [hc, outAt_used m hO c t hu, word_group]
    have hw : tbl m 0 (ix1 (stepOf (grid0.coords t))) = BitVec.ofNat 32 (grp W (pt hO t)).val := (tbl_group m c ▸ hg :)
    rw [hw]
    refine (usedBlock_apply (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (grp W (pt hO t)) (cast1 m hO c t) (cast3 m hO c t) (cast2 m hO c t) r p l).trans ?_
    dsimp only
    rw [expert_blk m c W hO t r p l 0, expert_blk m c W hO t r p l 1, expert_blk m c W hO t r p l 2, expert_blk m c W hO t r p l 3]
    exact (if_pos rfl).symm
  · have hc : IntOp.cmpi .sgt (arr3 m c (ix1 (pt hO t))) 0#32 = 0#1 := by
      have h01 : ∀ b : BitVec 1, b ≠ 1#1 → b = 0#1 := by decide
      refine h01 _ fun h => hu ((used_iff m c (grid0.coords t)).mpr ?_)
      rw [tbl_used m c]; exact h
    rw [hc, outAt_unused m hO c t hu, pay5_apply]
    exact (if_neg (by decide)).symm

theorem ext_chunks {X Y : S416x64x1024.Idx → EReal} (h : ∀ k r p l, X (ix3 (chunkOf k r) p l) = Y (ix3 (chunkOf k r) p l)) : X = Y := by
  funext j
  have hj : (j 0).val < 416 := (j 0).isLt
  have hk : j 0 = chunkOf ⟨(j 0).val / 8, by omega⟩ ⟨(j 0).val % 8, by omega⟩ :=
    Fin.ext (show (j 0).val = 8 * ((j 0).val / 8) + (j 0).val % 8 by omega)
  rw [eq_ix3 j, hk]
  exact h _ _ (j 1) (j 2)

/-- The two arrays are one. -/
theorem equal (W : Tables m) (hO : Ok m) : (dats m hO 0 c).arrAt 19 (cfgM m hO).N = refArr m c := by
  refine ext_chunks fun k r p l => ?_
  have hk : pt hO (⟨k.val, k.isLt⟩ : Fin grid0.N) = k := Fin.ext (coord ⟨k.val, k.isLt⟩)
  have h := (result_apply m hO c (⟨k.val, k.isLt⟩ : Fin grid0.N) r p l).trans (point_apply m c W hO (⟨k.val, k.isLt⟩ : Fin grid0.N) r p l)
  rwa [hk] at h

end Cert.Experts

end
-- ==== Proof.lean ====
/- The certificate's claims about the neighbourhood attention and about the experts over the sorted tokens: every program
   runs and keeps its arguments, and over the extended reals each kernel and its reference compute the same array. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_routed
public import proofs.«01_k».proof.Proof.Equal
public import proofs.«01_k».proof.Proof.Experts.Frames
public import proofs.«01_k».proof.Proof.Experts.Equal
public import Idealize.ShloMosaic.Adequacy
public import Idealize.ShloMosaic.Init

@[expose] public section

noncomputable section

namespace Cert.Proof

open Idealize.ShloMosaic Idealize.SL.Sem

/-- The reference runs and keeps its arguments; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's array is the value that both programs end with. -/
theorem same : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => (Cert.KernelIdeal.Gen.dats m 0 c).arrAt 6 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  obtain ⟨e0, e1, e2, e3, e4, e5⟩ := hagree c
  rw [Cert.ReferenceIdeal.Read.val_main_v73_eq, e0, e1, e2, e3, e4, e5]
  exact (Cert.Attn.equal m c (hpre c)).symm

/-- The experts' reference runs and keeps its arguments; it declares no semaphore. -/
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The experts' array is the value that both programs end with. -/
theorem same2 : Cert.algebraic_Kernel2Ideal_Reference2Ideal (hKernel2Ideal := Cert.Kernel2Ideal.Gen.facts)
    (hReference2Ideal := Cert.Reference2Ideal.Gen.facts) (hPre_routed := Cert.Pre_routed.Gen.facts) := by
  intro m g m' g' hpre hagree
  have W : Cert.Experts.Tables m := Cert.Experts.tables_of Ideal m (hpre 0)
  refine ⟨fun c => Cert.Experts.refArr m c, ?_, ?_⟩
  · exact (θ_run Cert.Kernel2Ideal.defs _ _).mono (fun r h c => ⟨(h c).1.trans (Cert.Experts.equal m c W _), (h c).2⟩) (Cert.Experts.value_run m g W)
  refine (θ_run Cert.Reference2Ideal.defs _ _).mono (fun r h c => ⟨(h c).1.trans ?_, (h c).2⟩) (Cert.Reference2Ideal.Value.run (F := Ideal) m' g')
  obtain ⟨e0, e1, e2, e3, e4, e5, e6, e7, e8⟩ := hagree c
  rw [Cert.Reference2Ideal.Read.val_main_v43_eq, e0, e1, e2, e3, e5, e6, e7, e8]

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Pre_finite.Gen.facts, Cert.Pre_routed.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    Cert.Experts.frame_kernel Bits, Cert.Experts.frame_ideal Ideal, frame_reference2, fun m ρ _ => frame_reference2 m ρ trivial,
    trivial, same, trivial, same2⟩

end Cert.Proof

end
